-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 4096]⟩ ⟨2, ![8192, 4096]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x256 : Shape := ⟨2, ![8192, 256]⟩
abbrev S256x4096 : Shape := ⟨2, ![256, 4096]⟩
abbrev S8192x4096 : Shape := ⟨2, ![8192, 4096]⟩
abbrev S2x256x1024 : Shape := ⟨3, ![2, 256, 1024]⟩
abbrev S256x1024 : Shape := ⟨2, ![256, 1024]⟩
abbrev S4x2 : Shape := ⟨2, ![4, 2]⟩
abbrev S4 : Shape := ⟨1, ![4]⟩
abbrev S_ : Shape := ⟨0, ![]⟩
abbrev S256x256 : Shape := ⟨2, ![256, 256]⟩
abbrev S1x256x1024 : Shape := ⟨3, ![1, 256, 1024]⟩
abbrev S1x1 : Shape := ⟨2, ![1, 1]⟩
abbrev S1 : Shape := ⟨1, ![1]⟩

abbrev nBuf : Space → Nat
  | .hbm => 3
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S256x4096, .f32⟩
  | .hbm, ⟨2, _⟩ => ⟨S8192x4096, .f32⟩
  | .local _ .vmem, ⟨0, _⟩ => ⟨S8192x256, .f32⟩
  | .local _ .vmem, ⟨1, _⟩ => ⟨S256x4096, .f32⟩
  | .local _ .vmem, ⟨2, _⟩ => ⟨S2x256x1024, .f32⟩
  | .local _ .vmem, ⟨3, _⟩ => ⟨S2x256x1024, .f32⟩
  | .local _ .vmem, ⟨4, _⟩ => ⟨S2x256x1024, .f32⟩
  | .local _ .vmem, ⟨5, _⟩ => ⟨S2x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 5 19 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 4

abbrev nD : Nat := 32
abbrev τ : Topo := Topo.v7x

variable {F : FTy → Type} [FloatOps F]

abbrev grid0 : Pipeline.Grid := .none

def k0_dev1 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c32_i32_18 : BitVec 32 := 32#32
  let v51 : BitVec 32 := Scalar.addi v50 c32_i32_18
  let c1_i32_19 : BitVec 32 := 1#32
  let v52 : BitVec 32 := Scalar.subi v51 c1_i32_19
  let c64_i32 : BitVec 32 := 64#32
  let v53 : BitVec 32 := Scalar.addi v52 c64_i32
  let c32_i32_20 : BitVec 32 := 32#32
  let v54 : BitVec 32 := Scalar.remsi v53 c32_i32_20
  let c16_i32_23 : BitVec 32 := 16#32
  let v57 : BitVec 1 := Scalar.cmpi .slt v54 c16_i32_23
  let c31_i32_24 : BitVec 32 := 31#32
  let v58 : BitVec 32 := Scalar.subi c31_i32_24 v54
  let v59 : BitVec 32 := Scalar.select v57 v54 v58
  let c0_i32_26 : BitVec 32 := 0#32
  let v61 : BitVec 1 := Scalar.cmpi .sgt v59 c0_i32_26
  let v62 : BitVec 32 := Scalar.extui v61
  let c0_i32_27 : BitVec 32 := 0#32
  let v63 : BitVec 1 := Scalar.cmpi .slt v59 c0_i32_27
  let v64 : BitVec 32 := Scalar.extui v63
  let v65 : BitVec 32 := Scalar.subi v62 v64
  let c4_i32_25 : BitVec 32 := 4#32
  let c0_i32_28 : BitVec 32 := 0#32
  let v66 : BitVec 1 := Scalar.cmpi .sgt c4_i32_25 c0_i32_28
  let v67 : BitVec 32 := Scalar.extui v66
  let c0_i32_29 : BitVec 32 := 0#32
  let v68 : BitVec 1 := Scalar.cmpi .slt c4_i32_25 c0_i32_29
  let v69 : BitVec 32 := Scalar.extui v68
  let v70 : BitVec 32 := Scalar.subi v67 v69
  let v71 : BitVec 1 := Scalar.cmpi .ne v65 v70
  let v72 : BitVec 32 := Scalar.remsi v59 c4_i32_25
  let c0_i32_30 : BitVec 32 := 0#32
  let v73 : BitVec 1 := Scalar.cmpi .ne v72 c0_i32_30
  let v74 : BitVec 1 := Scalar.andi v71 v73
  let v60 : BitVec 32 := Scalar.divsi v59 c4_i32_25
  let c1_i32_31 : BitVec 32 := 1#32
  let v75 : BitVec 32 := Scalar.subi v60 c1_i32_31
  let v76 : BitVec 32 := Scalar.select v74 v75 v60
  let c2_i32_33 : BitVec 32 := 2#32
  let v78 : BitVec 32 := Scalar.remsi v76 c2_i32_33
  let c0_i32_34 : BitVec 32 := 0#32
  let v79 : BitVec 1 := Scalar.cmpi .eq v78 c0_i32_34
  let c4_i32_32 : BitVec 32 := 4#32
  let v77 : BitVec 32 := Scalar.remsi v59 c4_i32_32
  let c3_i32_35 : BitVec 32 := 3#32
  let v80 : BitVec 32 := Scalar.subi c3_i32_35 v77
  let v81 : BitVec 32 := Scalar.select v79 v77 v80
  let c8_i32_38 : BitVec 32 := 8#32
  let v85 : BitVec 32 := Scalar.muli v81 c8_i32_38
  let c2_i32_39 : BitVec 32 := 2#32
  let v86 : BitVec 32 := Scalar.muli v76 c2_i32_39
  let v87 : BitVec 32 := Scalar.addi v85 v86
  let c0_i32_36 : BitVec 32 := 0#32
  let v82 : BitVec 1 := Scalar.cmpi .eq v78 c0_i32_36
  let c16_i32 : BitVec 32 := 16#32
  let v55 : BitVec 1 := Scalar.cmpi .slt v54 c16_i32
  let c0_i32_21 : BitVec 32 := 0#32
  let c1_i32_22 : BitVec 32 := 1#32
  let v56 : BitVec 32 := Scalar.select v55 c0_i32_21 c1_i32_22
  let c1_i32_37 : BitVec 32 := 1#32
  let v83 : BitVec 32 := Scalar.subi c1_i32_37 v56
  let v84 : BitVec 32 := Scalar.select v82 v56 v83
  let v88 : BitVec 32 := Scalar.addi v87 v84
  let c1_i32_64 : BitVec 32 := 1#32
  let v127 : BitVec 32 := Scalar.muli v88 c1_i32_64
  let v128 : BitVec 32 := Scalar.addi c0_i32_65 v127
  v128.toNat
def k0_dev2 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c1_i32_40 : BitVec 32 := 1#32
  let v89 : BitVec 32 := Scalar.addi v50 c1_i32_40
  let c64_i32_41 : BitVec 32 := 64#32
  let v90 : BitVec 32 := Scalar.addi v89 c64_i32_41
  let c32_i32_42 : BitVec 32 := 32#32
  let v91 : BitVec 32 := Scalar.remsi v90 c32_i32_42
  let c16_i32_46 : BitVec 32 := 16#32
  let v94 : BitVec 1 := Scalar.cmpi .slt v91 c16_i32_46
  let c31_i32_47 : BitVec 32 := 31#32
  let v95 : BitVec 32 := Scalar.subi c31_i32_47 v91
  let v96 : BitVec 32 := Scalar.select v94 v91 v95
  let c0_i32_49 : BitVec 32 := 0#32
  let v98 : BitVec 1 := Scalar.cmpi .sgt v96 c0_i32_49
  let v99 : BitVec 32 := Scalar.extui v98
  let c0_i32_50 : BitVec 32 := 0#32
  let v100 : BitVec 1 := Scalar.cmpi .slt v96 c0_i32_50
  let v101 : BitVec 32 := Scalar.extui v100
  let v102 : BitVec 32 := Scalar.subi v99 v101
  let c4_i32_48 : BitVec 32 := 4#32
  let c0_i32_51 : BitVec 32 := 0#32
  let v103 : BitVec 1 := Scalar.cmpi .sgt c4_i32_48 c0_i32_51
  let v104 : BitVec 32 := Scalar.extui v103
  let c0_i32_52 : BitVec 32 := 0#32
  let v105 : BitVec 1 := Scalar.cmpi .slt c4_i32_48 c0_i32_52
  let v106 : BitVec 32 := Scalar.extui v105
  let v107 : BitVec 32 := Scalar.subi v104 v106
  let v108 : BitVec 1 := Scalar.cmpi .ne v102 v107
  let v109 : BitVec 32 := Scalar.remsi v96 c4_i32_48
  let c0_i32_53 : BitVec 32 := 0#32
  let v110 : BitVec 1 := Scalar.cmpi .ne v109 c0_i32_53
  let v111 : BitVec 1 := Scalar.andi v108 v110
  let v97 : BitVec 32 := Scalar.divsi v96 c4_i32_48
  let c1_i32_54 : BitVec 32 := 1#32
  let v112 : BitVec 32 := Scalar.subi v97 c1_i32_54
  let v113 : BitVec 32 := Scalar.select v111 v112 v97
  let c2_i32_56 : BitVec 32 := 2#32
  let v115 : BitVec 32 := Scalar.remsi v113 c2_i32_56
  let c0_i32_57 : BitVec 32 := 0#32
  let v116 : BitVec 1 := Scalar.cmpi .eq v115 c0_i32_57
  let c4_i32_55 : BitVec 32 := 4#32
  let v114 : BitVec 32 := Scalar.remsi v96 c4_i32_55
  let c3_i32_58 : BitVec 32 := 3#32
  let v117 : BitVec 32 := Scalar.subi c3_i32_58 v114
  let v118 : BitVec 32 := Scalar.select v116 v114 v117
  let c8_i32_61 : BitVec 32 := 8#32
  let v122 : BitVec 32 := Scalar.muli v118 c8_i32_61
  let c2_i32_62 : BitVec 32 := 2#32
  let v123 : BitVec 32 := Scalar.muli v113 c2_i32_62
  let v124 : BitVec 32 := Scalar.addi v122 v123
  let c0_i32_59 : BitVec 32 := 0#32
  let v119 : BitVec 1 := Scalar.cmpi .eq v115 c0_i32_59
  let c16_i32_43 : BitVec 32 := 16#32
  let v92 : BitVec 1 := Scalar.cmpi .slt v91 c16_i32_43
  let c0_i32_44 : BitVec 32 := 0#32
  let c1_i32_45 : BitVec 32 := 1#32
  let v93 : BitVec 32 := Scalar.select v92 c0_i32_44 c1_i32_45
  let c1_i32_60 : BitVec 32 := 1#32
  let v120 : BitVec 32 := Scalar.subi c1_i32_60 v93
  let v121 : BitVec 32 := Scalar.select v119 v93 v120
  let v125 : BitVec 32 := Scalar.addi v124 v121
  let c1_i32_67 : BitVec 32 := 1#32
  let v129 : BitVec 32 := Scalar.muli v125 c1_i32_67
  let v130 : BitVec 32 := Scalar.addi c0_i32_68 v129
  v130.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c64_i32_70 : BitVec 32 := 64#32
  let v131 : BitVec 32 := Scalar.addi v50 c64_i32_70
  let c32_i32_71 : BitVec 32 := 32#32
  let v132 : BitVec 32 := Scalar.remsi v131 c32_i32_71
  let c16_i32_75 : BitVec 32 := 16#32
  let v135 : BitVec 1 := Scalar.cmpi .slt v132 c16_i32_75
  let c31_i32_76 : BitVec 32 := 31#32
  let v136 : BitVec 32 := Scalar.subi c31_i32_76 v132
  let v137 : BitVec 32 := Scalar.select v135 v132 v136
  let c0_i32_78 : BitVec 32 := 0#32
  let v139 : BitVec 1 := Scalar.cmpi .sgt v137 c0_i32_78
  let v140 : BitVec 32 := Scalar.extui v139
  let c0_i32_79 : BitVec 32 := 0#32
  let v141 : BitVec 1 := Scalar.cmpi .slt v137 c0_i32_79
  let v142 : BitVec 32 := Scalar.extui v141
  let v143 : BitVec 32 := Scalar.subi v140 v142
  let c4_i32_77 : BitVec 32 := 4#32
  let c0_i32_80 : BitVec 32 := 0#32
  let v144 : BitVec 1 := Scalar.cmpi .sgt c4_i32_77 c0_i32_80
  let v145 : BitVec 32 := Scalar.extui v144
  let c0_i32_81 : BitVec 32 := 0#32
  let v146 : BitVec 1 := Scalar.cmpi .slt c4_i32_77 c0_i32_81
  let v147 : BitVec 32 := Scalar.extui v146
  let v148 : BitVec 32 := Scalar.subi v145 v147
  let v149 : BitVec 1 := Scalar.cmpi .ne v143 v148
  let v150 : BitVec 32 := Scalar.remsi v137 c4_i32_77
  let c0_i32_82 : BitVec 32 := 0#32
  let v151 : BitVec 1 := Scalar.cmpi .ne v150 c0_i32_82
  let v152 : BitVec 1 := Scalar.andi v149 v151
  let v138 : BitVec 32 := Scalar.divsi v137 c4_i32_77
  let c1_i32_83 : BitVec 32 := 1#32
  let v153 : BitVec 32 := Scalar.subi v138 c1_i32_83
  let v154 : BitVec 32 := Scalar.select v152 v153 v138
  let c2_i32_85 : BitVec 32 := 2#32
  let v156 : BitVec 32 := Scalar.remsi v154 c2_i32_85
  let c0_i32_86 : BitVec 32 := 0#32
  let v157 : BitVec 1 := Scalar.cmpi .eq v156 c0_i32_86
  let c4_i32_84 : BitVec 32 := 4#32
  let v155 : BitVec 32 := Scalar.remsi v137 c4_i32_84
  let c3_i32_87 : BitVec 32 := 3#32
  let v158 : BitVec 32 := Scalar.subi c3_i32_87 v155
  let v159 : BitVec 32 := Scalar.select v157 v155 v158
  let c8_i32_90 : BitVec 32 := 8#32
  let v163 : BitVec 32 := Scalar.muli v159 c8_i32_90
  let c2_i32_91 : BitVec 32 := 2#32
  let v164 : BitVec 32 := Scalar.muli v154 c2_i32_91
  let v165 : BitVec 32 := Scalar.addi v163 v164
  let c0_i32_88 : BitVec 32 := 0#32
  let v160 : BitVec 1 := Scalar.cmpi .eq v156 c0_i32_88
  let c16_i32_72 : BitVec 32 := 16#32
  let v133 : BitVec 1 := Scalar.cmpi .slt v132 c16_i32_72
  let c0_i32_73 : BitVec 32 := 0#32
  let c1_i32_74 : BitVec 32 := 1#32
  let v134 : BitVec 32 := Scalar.select v133 c0_i32_73 c1_i32_74
  let c1_i32_89 : BitVec 32 := 1#32
  let v161 : BitVec 32 := Scalar.subi c1_i32_89 v134
  let v162 : BitVec 32 := Scalar.select v160 v134 v161
  let v166 : BitVec 32 := Scalar.addi v165 v162
  let c256_i32 : BitVec 32 := 256#32
  let v167 : BitVec 32 := Scalar.muli v166 c256_i32
  let v168 : Index := Scalar.indexCast v167
  let c0 : Index := 0#32
  ![v168.toNat, 0]
def k0_dev3 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c1_i32_40 : BitVec 32 := 1#32
  let v89 : BitVec 32 := Scalar.addi v50 c1_i32_40
  let c64_i32_41 : BitVec 32 := 64#32
  let v90 : BitVec 32 := Scalar.addi v89 c64_i32_41
  let c32_i32_42 : BitVec 32 := 32#32
  let v91 : BitVec 32 := Scalar.remsi v90 c32_i32_42
  let c16_i32_46 : BitVec 32 := 16#32
  let v94 : BitVec 1 := Scalar.cmpi .slt v91 c16_i32_46
  let c31_i32_47 : BitVec 32 := 31#32
  let v95 : BitVec 32 := Scalar.subi c31_i32_47 v91
  let v96 : BitVec 32 := Scalar.select v94 v91 v95
  let c0_i32_49 : BitVec 32 := 0#32
  let v98 : BitVec 1 := Scalar.cmpi .sgt v96 c0_i32_49
  let v99 : BitVec 32 := Scalar.extui v98
  let c0_i32_50 : BitVec 32 := 0#32
  let v100 : BitVec 1 := Scalar.cmpi .slt v96 c0_i32_50
  let v101 : BitVec 32 := Scalar.extui v100
  let v102 : BitVec 32 := Scalar.subi v99 v101
  let c4_i32_48 : BitVec 32 := 4#32
  let c0_i32_51 : BitVec 32 := 0#32
  let v103 : BitVec 1 := Scalar.cmpi .sgt c4_i32_48 c0_i32_51
  let v104 : BitVec 32 := Scalar.extui v103
  let c0_i32_52 : BitVec 32 := 0#32
  let v105 : BitVec 1 := Scalar.cmpi .slt c4_i32_48 c0_i32_52
  let v106 : BitVec 32 := Scalar.extui v105
  let v107 : BitVec 32 := Scalar.subi v104 v106
  let v108 : BitVec 1 := Scalar.cmpi .ne v102 v107
  let v109 : BitVec 32 := Scalar.remsi v96 c4_i32_48
  let c0_i32_53 : BitVec 32 := 0#32
  let v110 : BitVec 1 := Scalar.cmpi .ne v109 c0_i32_53
  let v111 : BitVec 1 := Scalar.andi v108 v110
  let v97 : BitVec 32 := Scalar.divsi v96 c4_i32_48
  let c1_i32_54 : BitVec 32 := 1#32
  let v112 : BitVec 32 := Scalar.subi v97 c1_i32_54
  let v113 : BitVec 32 := Scalar.select v111 v112 v97
  let c2_i32_56 : BitVec 32 := 2#32
  let v115 : BitVec 32 := Scalar.remsi v113 c2_i32_56
  let c0_i32_57 : BitVec 32 := 0#32
  let v116 : BitVec 1 := Scalar.cmpi .eq v115 c0_i32_57
  let c4_i32_55 : BitVec 32 := 4#32
  let v114 : BitVec 32 := Scalar.remsi v96 c4_i32_55
  let c3_i32_58 : BitVec 32 := 3#32
  let v117 : BitVec 32 := Scalar.subi c3_i32_58 v114
  let v118 : BitVec 32 := Scalar.select v116 v114 v117
  let c8_i32_61 : BitVec 32 := 8#32
  let v122 : BitVec 32 := Scalar.muli v118 c8_i32_61
  let c2_i32_62 : BitVec 32 := 2#32
  let v123 : BitVec 32 := Scalar.muli v113 c2_i32_62
  let v124 : BitVec 32 := Scalar.addi v122 v123
  let c0_i32_59 : BitVec 32 := 0#32
  let v119 : BitVec 1 := Scalar.cmpi .eq v115 c0_i32_59
  let c16_i32_43 : BitVec 32 := 16#32
  let v92 : BitVec 1 := Scalar.cmpi .slt v91 c16_i32_43
  let c0_i32_44 : BitVec 32 := 0#32
  let c1_i32_45 : BitVec 32 := 1#32
  let v93 : BitVec 32 := Scalar.select v92 c0_i32_44 c1_i32_45
  let c1_i32_60 : BitVec 32 := 1#32
  let v120 : BitVec 32 := Scalar.subi c1_i32_60 v93
  let v121 : BitVec 32 := Scalar.select v119 v93 v120
  let v125 : BitVec 32 := Scalar.addi v124 v121
  let c1_i32_103 : BitVec 32 := 1#32
  let v177 : BitVec 32 := Scalar.muli v125 c1_i32_103
  let v178 : BitVec 32 := Scalar.addi c0_i32_104 v177
  v178.toNat
def k0_dev4 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c32_i32_18 : BitVec 32 := 32#32
  let v51 : BitVec 32 := Scalar.addi v50 c32_i32_18
  let c1_i32_19 : BitVec 32 := 1#32
  let v52 : BitVec 32 := Scalar.subi v51 c1_i32_19
  let c64_i32 : BitVec 32 := 64#32
  let v53 : BitVec 32 := Scalar.addi v52 c64_i32
  let c32_i32_20 : BitVec 32 := 32#32
  let v54 : BitVec 32 := Scalar.remsi v53 c32_i32_20
  let c16_i32_23 : BitVec 32 := 16#32
  let v57 : BitVec 1 := Scalar.cmpi .slt v54 c16_i32_23
  let c31_i32_24 : BitVec 32 := 31#32
  let v58 : BitVec 32 := Scalar.subi c31_i32_24 v54
  let v59 : BitVec 32 := Scalar.select v57 v54 v58
  let c0_i32_26 : BitVec 32 := 0#32
  let v61 : BitVec 1 := Scalar.cmpi .sgt v59 c0_i32_26
  let v62 : BitVec 32 := Scalar.extui v61
  let c0_i32_27 : BitVec 32 := 0#32
  let v63 : BitVec 1 := Scalar.cmpi .slt v59 c0_i32_27
  let v64 : BitVec 32 := Scalar.extui v63
  let v65 : BitVec 32 := Scalar.subi v62 v64
  let c4_i32_25 : BitVec 32 := 4#32
  let c0_i32_28 : BitVec 32 := 0#32
  let v66 : BitVec 1 := Scalar.cmpi .sgt c4_i32_25 c0_i32_28
  let v67 : BitVec 32 := Scalar.extui v66
  let c0_i32_29 : BitVec 32 := 0#32
  let v68 : BitVec 1 := Scalar.cmpi .slt c4_i32_25 c0_i32_29
  let v69 : BitVec 32 := Scalar.extui v68
  let v70 : BitVec 32 := Scalar.subi v67 v69
  let v71 : BitVec 1 := Scalar.cmpi .ne v65 v70
  let v72 : BitVec 32 := Scalar.remsi v59 c4_i32_25
  let c0_i32_30 : BitVec 32 := 0#32
  let v73 : BitVec 1 := Scalar.cmpi .ne v72 c0_i32_30
  let v74 : BitVec 1 := Scalar.andi v71 v73
  let v60 : BitVec 32 := Scalar.divsi v59 c4_i32_25
  let c1_i32_31 : BitVec 32 := 1#32
  let v75 : BitVec 32 := Scalar.subi v60 c1_i32_31
  let v76 : BitVec 32 := Scalar.select v74 v75 v60
  let c2_i32_33 : BitVec 32 := 2#32
  let v78 : BitVec 32 := Scalar.remsi v76 c2_i32_33
  let c0_i32_34 : BitVec 32 := 0#32
  let v79 : BitVec 1 := Scalar.cmpi .eq v78 c0_i32_34
  let c4_i32_32 : BitVec 32 := 4#32
  let v77 : BitVec 32 := Scalar.remsi v59 c4_i32_32
  let c3_i32_35 : BitVec 32 := 3#32
  let v80 : BitVec 32 := Scalar.subi c3_i32_35 v77
  let v81 : BitVec 32 := Scalar.select v79 v77 v80
  let c8_i32_38 : BitVec 32 := 8#32
  let v85 : BitVec 32 := Scalar.muli v81 c8_i32_38
  let c2_i32_39 : BitVec 32 := 2#32
  let v86 : BitVec 32 := Scalar.muli v76 c2_i32_39
  let v87 : BitVec 32 := Scalar.addi v85 v86
  let c0_i32_36 : BitVec 32 := 0#32
  let v82 : BitVec 1 := Scalar.cmpi .eq v78 c0_i32_36
  let c16_i32 : BitVec 32 := 16#32
  let v55 : BitVec 1 := Scalar.cmpi .slt v54 c16_i32
  let c0_i32_21 : BitVec 32 := 0#32
  let c1_i32_22 : BitVec 32 := 1#32
  let v56 : BitVec 32 := Scalar.select v55 c0_i32_21 c1_i32_22
  let c1_i32_37 : BitVec 32 := 1#32
  let v83 : BitVec 32 := Scalar.subi c1_i32_37 v56
  let v84 : BitVec 32 := Scalar.select v82 v56 v83
  let v88 : BitVec 32 := Scalar.addi v87 v84
  let c1_i32_144 : BitVec 32 := 1#32
  let v233 : BitVec 32 := Scalar.muli v88 c1_i32_144
  let v234 : BitVec 32 := Scalar.addi c0_i32_145 v233
  v234.toNat
def k0_dev5 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c1_i32_40 : BitVec 32 := 1#32
  let v89 : BitVec 32 := Scalar.addi v50 c1_i32_40
  let c64_i32_41 : BitVec 32 := 64#32
  let v90 : BitVec 32 := Scalar.addi v89 c64_i32_41
  let c32_i32_42 : BitVec 32 := 32#32
  let v91 : BitVec 32 := Scalar.remsi v90 c32_i32_42
  let c16_i32_46 : BitVec 32 := 16#32
  let v94 : BitVec 1 := Scalar.cmpi .slt v91 c16_i32_46
  let c31_i32_47 : BitVec 32 := 31#32
  let v95 : BitVec 32 := Scalar.subi c31_i32_47 v91
  let v96 : BitVec 32 := Scalar.select v94 v91 v95
  let c0_i32_49 : BitVec 32 := 0#32
  let v98 : BitVec 1 := Scalar.cmpi .sgt v96 c0_i32_49
  let v99 : BitVec 32 := Scalar.extui v98
  let c0_i32_50 : BitVec 32 := 0#32
  let v100 : BitVec 1 := Scalar.cmpi .slt v96 c0_i32_50
  let v101 : BitVec 32 := Scalar.extui v100
  let v102 : BitVec 32 := Scalar.subi v99 v101
  let c4_i32_48 : BitVec 32 := 4#32
  let c0_i32_51 : BitVec 32 := 0#32
  let v103 : BitVec 1 := Scalar.cmpi .sgt c4_i32_48 c0_i32_51
  let v104 : BitVec 32 := Scalar.extui v103
  let c0_i32_52 : BitVec 32 := 0#32
  let v105 : BitVec 1 := Scalar.cmpi .slt c4_i32_48 c0_i32_52
  let v106 : BitVec 32 := Scalar.extui v105
  let v107 : BitVec 32 := Scalar.subi v104 v106
  let v108 : BitVec 1 := Scalar.cmpi .ne v102 v107
  let v109 : BitVec 32 := Scalar.remsi v96 c4_i32_48
  let c0_i32_53 : BitVec 32 := 0#32
  let v110 : BitVec 1 := Scalar.cmpi .ne v109 c0_i32_53
  let v111 : BitVec 1 := Scalar.andi v108 v110
  let v97 : BitVec 32 := Scalar.divsi v96 c4_i32_48
  let c1_i32_54 : BitVec 32 := 1#32
  let v112 : BitVec 32 := Scalar.subi v97 c1_i32_54
  let v113 : BitVec 32 := Scalar.select v111 v112 v97
  let c2_i32_56 : BitVec 32 := 2#32
  let v115 : BitVec 32 := Scalar.remsi v113 c2_i32_56
  let c0_i32_57 : BitVec 32 := 0#32
  let v116 : BitVec 1 := Scalar.cmpi .eq v115 c0_i32_57
  let c4_i32_55 : BitVec 32 := 4#32
  let v114 : BitVec 32 := Scalar.remsi v96 c4_i32_55
  let c3_i32_58 : BitVec 32 := 3#32
  let v117 : BitVec 32 := Scalar.subi c3_i32_58 v114
  let v118 : BitVec 32 := Scalar.select v116 v114 v117
  let c8_i32_61 : BitVec 32 := 8#32
  let v122 : BitVec 32 := Scalar.muli v118 c8_i32_61
  let c2_i32_62 : BitVec 32 := 2#32
  let v123 : BitVec 32 := Scalar.muli v113 c2_i32_62
  let v124 : BitVec 32 := Scalar.addi v122 v123
  let c0_i32_59 : BitVec 32 := 0#32
  let v119 : BitVec 1 := Scalar.cmpi .eq v115 c0_i32_59
  let c16_i32_43 : BitVec 32 := 16#32
  let v92 : BitVec 1 := Scalar.cmpi .slt v91 c16_i32_43
  let c0_i32_44 : BitVec 32 := 0#32
  let c1_i32_45 : BitVec 32 := 1#32
  let v93 : BitVec 32 := Scalar.select v92 c0_i32_44 c1_i32_45
  let c1_i32_60 : BitVec 32 := 1#32
  let v120 : BitVec 32 := Scalar.subi c1_i32_60 v93
  let v121 : BitVec 32 := Scalar.select v119 v93 v120
  let v125 : BitVec 32 := Scalar.addi v124 v121
  let c1_i32_185 : BitVec 32 := 1#32
  let v289 : BitVec 32 := Scalar.muli v125 c1_i32_185
  let v290 : BitVec 32 := Scalar.addi c0_i32_186 v289
  v290.toNat
def k0_dev6 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c32_i32_18 : BitVec 32 := 32#32
  let v51 : BitVec 32 := Scalar.addi v50 c32_i32_18
  let c1_i32_19 : BitVec 32 := 1#32
  let v52 : BitVec 32 := Scalar.subi v51 c1_i32_19
  let c64_i32 : BitVec 32 := 64#32
  let v53 : BitVec 32 := Scalar.addi v52 c64_i32
  let c32_i32_20 : BitVec 32 := 32#32
  let v54 : BitVec 32 := Scalar.remsi v53 c32_i32_20
  let c16_i32_23 : BitVec 32 := 16#32
  let v57 : BitVec 1 := Scalar.cmpi .slt v54 c16_i32_23
  let c31_i32_24 : BitVec 32 := 31#32
  let v58 : BitVec 32 := Scalar.subi c31_i32_24 v54
  let v59 : BitVec 32 := Scalar.select v57 v54 v58
  let c0_i32_26 : BitVec 32 := 0#32
  let v61 : BitVec 1 := Scalar.cmpi .sgt v59 c0_i32_26
  let v62 : BitVec 32 := Scalar.extui v61
  let c0_i32_27 : BitVec 32 := 0#32
  let v63 : BitVec 1 := Scalar.cmpi .slt v59 c0_i32_27
  let v64 : BitVec 32 := Scalar.extui v63
  let v65 : BitVec 32 := Scalar.subi v62 v64
  let c4_i32_25 : BitVec 32 := 4#32
  let c0_i32_28 : BitVec 32 := 0#32
  let v66 : BitVec 1 := Scalar.cmpi .sgt c4_i32_25 c0_i32_28
  let v67 : BitVec 32 := Scalar.extui v66
  let c0_i32_29 : BitVec 32 := 0#32
  let v68 : BitVec 1 := Scalar.cmpi .slt c4_i32_25 c0_i32_29
  let v69 : BitVec 32 := Scalar.extui v68
  let v70 : BitVec 32 := Scalar.subi v67 v69
  let v71 : BitVec 1 := Scalar.cmpi .ne v65 v70
  let v72 : BitVec 32 := Scalar.remsi v59 c4_i32_25
  let c0_i32_30 : BitVec 32 := 0#32
  let v73 : BitVec 1 := Scalar.cmpi .ne v72 c0_i32_30
  let v74 : BitVec 1 := Scalar.andi v71 v73
  let v60 : BitVec 32 := Scalar.divsi v59 c4_i32_25
  let c1_i32_31 : BitVec 32 := 1#32
  let v75 : BitVec 32 := Scalar.subi v60 c1_i32_31
  let v76 : BitVec 32 := Scalar.select v74 v75 v60
  let c2_i32_33 : BitVec 32 := 2#32
  let v78 : BitVec 32 := Scalar.remsi v76 c2_i32_33
  let c0_i32_34 : BitVec 32 := 0#32
  let v79 : BitVec 1 := Scalar.cmpi .eq v78 c0_i32_34
  let c4_i32_32 : BitVec 32 := 4#32
  let v77 : BitVec 32 := Scalar.remsi v59 c4_i32_32
  let c3_i32_35 : BitVec 32 := 3#32
  let v80 : BitVec 32 := Scalar.subi c3_i32_35 v77
  let v81 : BitVec 32 := Scalar.select v79 v77 v80
  let c8_i32_38 : BitVec 32 := 8#32
  let v85 : BitVec 32 := Scalar.muli v81 c8_i32_38
  let c2_i32_39 : BitVec 32 := 2#32
  let v86 : BitVec 32 := Scalar.muli v76 c2_i32_39
  let v87 : BitVec 32 := Scalar.addi v85 v86
  let c0_i32_36 : BitVec 32 := 0#32
  let v82 : BitVec 1 := Scalar.cmpi .eq v78 c0_i32_36
  let c16_i32 : BitVec 32 := 16#32
  let v55 : BitVec 1 := Scalar.cmpi .slt v54 c16_i32
  let c0_i32_21 : BitVec 32 := 0#32
  let c1_i32_22 : BitVec 32 := 1#32
  let v56 : BitVec 32 := Scalar.select v55 c0_i32_21 c1_i32_22
  let c1_i32_37 : BitVec 32 := 1#32
  let v83 : BitVec 32 := Scalar.subi c1_i32_37 v56
  let v84 : BitVec 32 := Scalar.select v82 v56 v83
  let v88 : BitVec 32 := Scalar.addi v87 v84
  let c1_i32_226 : BitVec 32 := 1#32
  let v345 : BitVec 32 := Scalar.muli v88 c1_i32_226
  let v346 : BitVec 32 := Scalar.addi c0_i32_227 v345
  v346.toNat
def k0_off2 (d0 : Dev nD) : Fin 2 → Nat :=
  let c0_i32_239 : BitVec 32 := 0#32
  let c31_i32_240 : BitVec 32 := 31#32
  let v363 : BitVec 1 := Scalar.cmpi .slt c0_i32_239 c31_i32_240
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c0_i32_232 : BitVec 32 := 0#32
  let v355 : BitVec 32 := Scalar.subi v50 c0_i32_232
  let c1_i32_233 : BitVec 32 := 1#32
  let v356 : BitVec 32 := Scalar.subi v355 c1_i32_233
  let c96_i32 : BitVec 32 := 96#32
  let v357 : BitVec 32 := Scalar.addi v356 c96_i32
  let c32_i32_234 : BitVec 32 := 32#32
  let v358 : BitVec 32 := Scalar.remsi v357 c32_i32_234
  let c0_i32_235 : BitVec 32 := 0#32
  let c31_i32_236 : BitVec 32 := 31#32
  let v359 : BitVec 32 := Scalar.subi c0_i32_235 c31_i32_236
  let v360 : BitVec 32 := Scalar.subi v50 v359
  let c96_i32_237 : BitVec 32 := 96#32
  let v361 : BitVec 32 := Scalar.addi v360 c96_i32_237
  let c32_i32_238 : BitVec 32 := 32#32
  let v362 : BitVec 32 := Scalar.remsi v361 c32_i32_238
  let v364 : BitVec 32 := Scalar.select v363 v358 v362
  let c64_i32_241 : BitVec 32 := 64#32
  let v365 : BitVec 32 := Scalar.addi v364 c64_i32_241
  let c32_i32_242 : BitVec 32 := 32#32
  let v366 : BitVec 32 := Scalar.remsi v365 c32_i32_242
  let c16_i32_246 : BitVec 32 := 16#32
  let v369 : BitVec 1 := Scalar.cmpi .slt v366 c16_i32_246
  let c31_i32_247 : BitVec 32 := 31#32
  let v370 : BitVec 32 := Scalar.subi c31_i32_247 v366
  let v371 : BitVec 32 := Scalar.select v369 v366 v370
  let c0_i32_249 : BitVec 32 := 0#32
  let v373 : BitVec 1 := Scalar.cmpi .sgt v371 c0_i32_249
  let v374 : BitVec 32 := Scalar.extui v373
  let c0_i32_250 : BitVec 32 := 0#32
  let v375 : BitVec 1 := Scalar.cmpi .slt v371 c0_i32_250
  let v376 : BitVec 32 := Scalar.extui v375
  let v377 : BitVec 32 := Scalar.subi v374 v376
  let c4_i32_248 : BitVec 32 := 4#32
  let c0_i32_251 : BitVec 32 := 0#32
  let v378 : BitVec 1 := Scalar.cmpi .sgt c4_i32_248 c0_i32_251
  let v379 : BitVec 32 := Scalar.extui v378
  let c0_i32_252 : BitVec 32 := 0#32
  let v380 : BitVec 1 := Scalar.cmpi .slt c4_i32_248 c0_i32_252
  let v381 : BitVec 32 := Scalar.extui v380
  let v382 : BitVec 32 := Scalar.subi v379 v381
  let v383 : BitVec 1 := Scalar.cmpi .ne v377 v382
  let v384 : BitVec 32 := Scalar.remsi v371 c4_i32_248
  let c0_i32_253 : BitVec 32 := 0#32
  let v385 : BitVec 1 := Scalar.cmpi .ne v384 c0_i32_253
  let v386 : BitVec 1 := Scalar.andi v383 v385
  let v372 : BitVec 32 := Scalar.divsi v371 c4_i32_248
  let c1_i32_254 : BitVec 32 := 1#32
  let v387 : BitVec 32 := Scalar.subi v372 c1_i32_254
  let v388 : BitVec 32 := Scalar.select v386 v387 v372
  let c2_i32_256 : BitVec 32 := 2#32
  let v390 : BitVec 32 := Scalar.remsi v388 c2_i32_256
  let c0_i32_257 : BitVec 32 := 0#32
  let v391 : BitVec 1 := Scalar.cmpi .eq v390 c0_i32_257
  let c4_i32_255 : BitVec 32 := 4#32
  let v389 : BitVec 32 := Scalar.remsi v371 c4_i32_255
  let c3_i32_258 : BitVec 32 := 3#32
  let v392 : BitVec 32 := Scalar.subi c3_i32_258 v389
  let v393 : BitVec 32 := Scalar.select v391 v389 v392
  let c8_i32_261 : BitVec 32 := 8#32
  let v397 : BitVec 32 := Scalar.muli v393 c8_i32_261
  let c2_i32_262 : BitVec 32 := 2#32
  let v398 : BitVec 32 := Scalar.muli v388 c2_i32_262
  let v399 : BitVec 32 := Scalar.addi v397 v398
  let c0_i32_259 : BitVec 32 := 0#32
  let v394 : BitVec 1 := Scalar.cmpi .eq v390 c0_i32_259
  let c16_i32_243 : BitVec 32 := 16#32
  let v367 : BitVec 1 := Scalar.cmpi .slt v366 c16_i32_243
  let c0_i32_244 : BitVec 32 := 0#32
  let c1_i32_245 : BitVec 32 := 1#32
  let v368 : BitVec 32 := Scalar.select v367 c0_i32_244 c1_i32_245
  let c1_i32_260 : BitVec 32 := 1#32
  let v395 : BitVec 32 := Scalar.subi c1_i32_260 v368
  let v396 : BitVec 32 := Scalar.select v394 v368 v395
  let v400 : BitVec 32 := Scalar.addi v399 v396
  let c256_i32_263 : BitVec 32 := 256#32
  let v401 : BitVec 32 := Scalar.muli v400 c256_i32_263
  let v402 : Index := Scalar.indexCast v401
  let c0_264 : Index := 0#32
  ![v402.toNat, 0]
def k0_off3 (d0 : Dev nD) : Fin 2 → Nat :=
  let c0_i32_277 : BitVec 32 := 0#32
  let c31_i32_278 : BitVec 32 := 31#32
  let v418 : BitVec 1 := Scalar.cmpi .slt c0_i32_277 c31_i32_278
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c0_i32_270 : BitVec 32 := 0#32
  let v411 : BitVec 32 := Scalar.addi v50 c0_i32_270
  let c1_i32_271 : BitVec 32 := 1#32
  let v412 : BitVec 32 := Scalar.addi v411 c1_i32_271
  let c32_i32_272 : BitVec 32 := 32#32
  let v413 : BitVec 32 := Scalar.remsi v412 c32_i32_272
  let c0_i32_273 : BitVec 32 := 0#32
  let v414 : BitVec 32 := Scalar.addi v50 c0_i32_273
  let c31_i32_274 : BitVec 32 := 31#32
  let v415 : BitVec 32 := Scalar.subi v414 c31_i32_274
  let c96_i32_275 : BitVec 32 := 96#32
  let v416 : BitVec 32 := Scalar.addi v415 c96_i32_275
  let c32_i32_276 : BitVec 32 := 32#32
  let v417 : BitVec 32 := Scalar.remsi v416 c32_i32_276
  let v419 : BitVec 32 := Scalar.select v418 v413 v417
  let c64_i32_279 : BitVec 32 := 64#32
  let v420 : BitVec 32 := Scalar.addi v419 c64_i32_279
  let c32_i32_280 : BitVec 32 := 32#32
  let v421 : BitVec 32 := Scalar.remsi v420 c32_i32_280
  let c16_i32_284 : BitVec 32 := 16#32
  let v424 : BitVec 1 := Scalar.cmpi .slt v421 c16_i32_284
  let c31_i32_285 : BitVec 32 := 31#32
  let v425 : BitVec 32 := Scalar.subi c31_i32_285 v421
  let v426 : BitVec 32 := Scalar.select v424 v421 v425
  let c0_i32_287 : BitVec 32 := 0#32
  let v428 : BitVec 1 := Scalar.cmpi .sgt v426 c0_i32_287
  let v429 : BitVec 32 := Scalar.extui v428
  let c0_i32_288 : BitVec 32 := 0#32
  let v430 : BitVec 1 := Scalar.cmpi .slt v426 c0_i32_288
  let v431 : BitVec 32 := Scalar.extui v430
  let v432 : BitVec 32 := Scalar.subi v429 v431
  let c4_i32_286 : BitVec 32 := 4#32
  let c0_i32_289 : BitVec 32 := 0#32
  let v433 : BitVec 1 := Scalar.cmpi .sgt c4_i32_286 c0_i32_289
  let v434 : BitVec 32 := Scalar.extui v433
  let c0_i32_290 : BitVec 32 := 0#32
  let v435 : BitVec 1 := Scalar.cmpi .slt c4_i32_286 c0_i32_290
  let v436 : BitVec 32 := Scalar.extui v435
  let v437 : BitVec 32 := Scalar.subi v434 v436
  let v438 : BitVec 1 := Scalar.cmpi .ne v432 v437
  let v439 : BitVec 32 := Scalar.remsi v426 c4_i32_286
  let c0_i32_291 : BitVec 32 := 0#32
  let v440 : BitVec 1 := Scalar.cmpi .ne v439 c0_i32_291
  let v441 : BitVec 1 := Scalar.andi v438 v440
  let v427 : BitVec 32 := Scalar.divsi v426 c4_i32_286
  let c1_i32_292 : BitVec 32 := 1#32
  let v442 : BitVec 32 := Scalar.subi v427 c1_i32_292
  let v443 : BitVec 32 := Scalar.select v441 v442 v427
  let c2_i32_294 : BitVec 32 := 2#32
  let v445 : BitVec 32 := Scalar.remsi v443 c2_i32_294
  let c0_i32_295 : BitVec 32 := 0#32
  let v446 : BitVec 1 := Scalar.cmpi .eq v445 c0_i32_295
  let c4_i32_293 : BitVec 32 := 4#32
  let v444 : BitVec 32 := Scalar.remsi v426 c4_i32_293
  let c3_i32_296 : BitVec 32 := 3#32
  let v447 : BitVec 32 := Scalar.subi c3_i32_296 v444
  let v448 : BitVec 32 := Scalar.select v446 v444 v447
  let c8_i32_299 : BitVec 32 := 8#32
  let v452 : BitVec 32 := Scalar.muli v448 c8_i32_299
  let c2_i32_300 : BitVec 32 := 2#32
  let v453 : BitVec 32 := Scalar.muli v443 c2_i32_300
  let v454 : BitVec 32 := Scalar.addi v452 v453
  let c0_i32_297 : BitVec 32 := 0#32
  let v449 : BitVec 1 := Scalar.cmpi .eq v445 c0_i32_297
  let c16_i32_281 : BitVec 32 := 16#32
  let v422 : BitVec 1 := Scalar.cmpi .slt v421 c16_i32_281
  let c0_i32_282 : BitVec 32 := 0#32
  let c1_i32_283 : BitVec 32 := 1#32
  let v423 : BitVec 32 := Scalar.select v422 c0_i32_282 c1_i32_283
  let c1_i32_298 : BitVec 32 := 1#32
  let v450 : BitVec 32 := Scalar.subi c1_i32_298 v423
  let v451 : BitVec 32 := Scalar.select v449 v423 v450
  let v455 : BitVec 32 := Scalar.addi v454 v451
  let c256_i32_301 : BitVec 32 := 256#32
  let v456 : BitVec 32 := Scalar.muli v455 c256_i32_301
  let v457 : Index := Scalar.indexCast v456
  let c0_302 : Index := 0#32
  ![v457.toNat, 0]
@[reducible] def k0_t1_loop : Scf.Loop 32 :=
  let c0_i32_385 : BitVec 32 := 0#32
  let c30_i32 : BitVec 32 := 30#32
  let v577 : BitVec 32 := Scalar.addi c0_i32_385 c30_i32
  let c1_i32_386 : BitVec 32 := 1#32
  ⟨c0_i32_385, v577, c1_i32_386⟩
def k0_off4 (k0_t1 : Fin k0_t1_loop.trips) : Fin 2 → Nat :=
  let c0_i32_1021 : BitVec 32 := 0#32
  let c1_i32_1020 : BitVec 32 := 1#32
  let c0_i32_385 : BitVec 32 := 0#32
  let c1_i32_386 : BitVec 32 := 1#32
  let arg15 : BitVec 32 := Scf.iv c0_i32_385 c1_i32_386 k0_t1
  let c2_i32_1019 : BitVec 32 := 2#32
  let v1255 : BitVec 32 := Scalar.remsi arg15 c2_i32_1019
  let v1256 : BitVec 32 := Scalar.subi c1_i32_1020 v1255
  ![0, v1256.toNat]
def k0_off5 (k0_t1 : Fin k0_t1_loop.trips) : Fin 3 → Nat :=
  let c1_i32_1020 : BitVec 32 := 1#32
  let c0_i32_385 : BitVec 32 := 0#32
  let c1_i32_386 : BitVec 32 := 1#32
  let arg15 : BitVec 32 := Scf.iv c0_i32_385 c1_i32_386 k0_t1
  let c2_i32_1019 : BitVec 32 := 2#32
  let v1255 : BitVec 32 := Scalar.remsi arg15 c2_i32_1019
  let v1256 : BitVec 32 := Scalar.subi c1_i32_1020 v1255
  let c0_i32_1025 : BitVec 32 := 0#32
  let c0_i32_1026 : BitVec 32 := 0#32
  ![v1256.toNat, 0, 0]
def k0_off6 (k0_t1 : Fin k0_t1_loop.trips) : Fin 3 → Nat :=
  let c0_i32_385 : BitVec 32 := 0#32
  let c1_i32_386 : BitVec 32 := 1#32
  let arg15 : BitVec 32 := Scf.iv c0_i32_385 c1_i32_386 k0_t1
  let c2_i32_1019 : BitVec 32 := 2#32
  let v1255 : BitVec 32 := Scalar.remsi arg15 c2_i32_1019
  let c0_i32_1027 : BitVec 32 := 0#32
  let c0_i32_1028 : BitVec 32 := 0#32
  ![v1255.toNat, 0, 0]
def k0_off7 (k0_t1 : Fin k0_t1_loop.trips) : Fin 2 → Nat :=
  let c0_i32_1029 : BitVec 32 := 0#32
  let c0_i32_385 : BitVec 32 := 0#32
  let c1_i32_386 : BitVec 32 := 1#32
  let arg15 : BitVec 32 := Scf.iv c0_i32_385 c1_i32_386 k0_t1
  let c2_i32_1019 : BitVec 32 := 2#32
  let v1255 : BitVec 32 := Scalar.remsi arg15 c2_i32_1019
  ![0, v1255.toNat]
def k0_dev7 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c32_i32_18 : BitVec 32 := 32#32
  let v51 : BitVec 32 := Scalar.addi v50 c32_i32_18
  let c1_i32_19 : BitVec 32 := 1#32
  let v52 : BitVec 32 := Scalar.subi v51 c1_i32_19
  let c64_i32 : BitVec 32 := 64#32
  let v53 : BitVec 32 := Scalar.addi v52 c64_i32
  let c32_i32_20 : BitVec 32 := 32#32
  let v54 : BitVec 32 := Scalar.remsi v53 c32_i32_20
  let c16_i32_23 : BitVec 32 := 16#32
  let v57 : BitVec 1 := Scalar.cmpi .slt v54 c16_i32_23
  let c31_i32_24 : BitVec 32 := 31#32
  let v58 : BitVec 32 := Scalar.subi c31_i32_24 v54
  let v59 : BitVec 32 := Scalar.select v57 v54 v58
  let c0_i32_26 : BitVec 32 := 0#32
  let v61 : BitVec 1 := Scalar.cmpi .sgt v59 c0_i32_26
  let v62 : BitVec 32 := Scalar.extui v61
  let c0_i32_27 : BitVec 32 := 0#32
  let v63 : BitVec 1 := Scalar.cmpi .slt v59 c0_i32_27
  let v64 : BitVec 32 := Scalar.extui v63
  let v65 : BitVec 32 := Scalar.subi v62 v64
  let c4_i32_25 : BitVec 32 := 4#32
  let c0_i32_28 : BitVec 32 := 0#32
  let v66 : BitVec 1 := Scalar.cmpi .sgt c4_i32_25 c0_i32_28
  let v67 : BitVec 32 := Scalar.extui v66
  let c0_i32_29 : BitVec 32 := 0#32
  let v68 : BitVec 1 := Scalar.cmpi .slt c4_i32_25 c0_i32_29
  let v69 : BitVec 32 := Scalar.extui v68
  let v70 : BitVec 32 := Scalar.subi v67 v69
  let v71 : BitVec 1 := Scalar.cmpi .ne v65 v70
  let v72 : BitVec 32 := Scalar.remsi v59 c4_i32_25
  let c0_i32_30 : BitVec 32 := 0#32
  let v73 : BitVec 1 := Scalar.cmpi .ne v72 c0_i32_30
  let v74 : BitVec 1 := Scalar.andi v71 v73
  let v60 : BitVec 32 := Scalar.divsi v59 c4_i32_25
  let c1_i32_31 : BitVec 32 := 1#32
  let v75 : BitVec 32 := Scalar.subi v60 c1_i32_31
  let v76 : BitVec 32 := Scalar.select v74 v75 v60
  let c2_i32_33 : BitVec 32 := 2#32
  let v78 : BitVec 32 := Scalar.remsi v76 c2_i32_33
  let c0_i32_34 : BitVec 32 := 0#32
  let v79 : BitVec 1 := Scalar.cmpi .eq v78 c0_i32_34
  let c4_i32_32 : BitVec 32 := 4#32
  let v77 : BitVec 32 := Scalar.remsi v59 c4_i32_32
  let c3_i32_35 : BitVec 32 := 3#32
  let v80 : BitVec 32 := Scalar.subi c3_i32_35 v77
  let v81 : BitVec 32 := Scalar.select v79 v77 v80
  let c8_i32_38 : BitVec 32 := 8#32
  let v85 : BitVec 32 := Scalar.muli v81 c8_i32_38
  let c2_i32_39 : BitVec 32 := 2#32
  let v86 : BitVec 32 := Scalar.muli v76 c2_i32_39
  let v87 : BitVec 32 := Scalar.addi v85 v86
  let c0_i32_36 : BitVec 32 := 0#32
  let v82 : BitVec 1 := Scalar.cmpi .eq v78 c0_i32_36
  let c16_i32 : BitVec 32 := 16#32
  let v55 : BitVec 1 := Scalar.cmpi .slt v54 c16_i32
  let c0_i32_21 : BitVec 32 := 0#32
  let c1_i32_22 : BitVec 32 := 1#32
  let v56 : BitVec 32 := Scalar.select v55 c0_i32_21 c1_i32_22
  let c1_i32_37 : BitVec 32 := 1#32
  let v83 : BitVec 32 := Scalar.subi c1_i32_37 v56
  let v84 : BitVec 32 := Scalar.select v82 v56 v83
  let v88 : BitVec 32 := Scalar.addi v87 v84
  let c1_i32_1038 : BitVec 32 := 1#32
  let v1273 : BitVec 32 := Scalar.muli v88 c1_i32_1038
  let v1274 : BitVec 32 := Scalar.addi c0_i32_1039 v1273
  v1274.toNat
def k0_off8 (k0_t1 : Fin k0_t1_loop.trips) : Fin 3 → Nat :=
  let c1_i32_1020 : BitVec 32 := 1#32
  let c0_i32_385 : BitVec 32 := 0#32
  let c1_i32_386 : BitVec 32 := 1#32
  let arg15 : BitVec 32 := Scf.iv c0_i32_385 c1_i32_386 k0_t1
  let c2_i32_1019 : BitVec 32 := 2#32
  let v1255 : BitVec 32 := Scalar.remsi arg15 c2_i32_1019
  let v1256 : BitVec 32 := Scalar.subi c1_i32_1020 v1255
  let v1275 : Index := Scalar.indexCast v1256
  let c0_1040 : Index := 0#32
  let c0_1041 : Index := 0#32
  ![v1275.toNat, 0, 0]
def k0_dev8 (d0 : Dev nD) : Nat :=
  let c0_i32_1052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c1_i32_40 : BitVec 32 := 1#32
  let v89 : BitVec 32 := Scalar.addi v50 c1_i32_40
  let c64_i32_41 : BitVec 32 := 64#32
  let v90 : BitVec 32 := Scalar.addi v89 c64_i32_41
  let c32_i32_42 : BitVec 32 := 32#32
  let v91 : BitVec 32 := Scalar.remsi v90 c32_i32_42
  let c16_i32_46 : BitVec 32 := 16#32
  let v94 : BitVec 1 := Scalar.cmpi .slt v91 c16_i32_46
  let c31_i32_47 : BitVec 32 := 31#32
  let v95 : BitVec 32 := Scalar.subi c31_i32_47 v91
  let v96 : BitVec 32 := Scalar.select v94 v91 v95
  let c0_i32_49 : BitVec 32 := 0#32
  let v98 : BitVec 1 := Scalar.cmpi .sgt v96 c0_i32_49
  let v99 : BitVec 32 := Scalar.extui v98
  let c0_i32_50 : BitVec 32 := 0#32
  let v100 : BitVec 1 := Scalar.cmpi .slt v96 c0_i32_50
  let v101 : BitVec 32 := Scalar.extui v100
  let v102 : BitVec 32 := Scalar.subi v99 v101
  let c4_i32_48 : BitVec 32 := 4#32
  let c0_i32_51 : BitVec 32 := 0#32
  let v103 : BitVec 1 := Scalar.cmpi .sgt c4_i32_48 c0_i32_51
  let v104 : BitVec 32 := Scalar.extui v103
  let c0_i32_52 : BitVec 32 := 0#32
  let v105 : BitVec 1 := Scalar.cmpi .slt c4_i32_48 c0_i32_52
  let v106 : BitVec 32 := Scalar.extui v105
  let v107 : BitVec 32 := Scalar.subi v104 v106
  let v108 : BitVec 1 := Scalar.cmpi .ne v102 v107
  let v109 : BitVec 32 := Scalar.remsi v96 c4_i32_48
  let c0_i32_53 : BitVec 32 := 0#32
  let v110 : BitVec 1 := Scalar.cmpi .ne v109 c0_i32_53
  let v111 : BitVec 1 := Scalar.andi v108 v110
  let v97 : BitVec 32 := Scalar.divsi v96 c4_i32_48
  let c1_i32_54 : BitVec 32 := 1#32
  let v112 : BitVec 32 := Scalar.subi v97 c1_i32_54
  let v113 : BitVec 32 := Scalar.select v111 v112 v97
  let c2_i32_56 : BitVec 32 := 2#32
  let v115 : BitVec 32 := Scalar.remsi v113 c2_i32_56
  let c0_i32_57 : BitVec 32 := 0#32
  let v116 : BitVec 1 := Scalar.cmpi .eq v115 c0_i32_57
  let c4_i32_55 : BitVec 32 := 4#32
  let v114 : BitVec 32 := Scalar.remsi v96 c4_i32_55
  let c3_i32_58 : BitVec 32 := 3#32
  let v117 : BitVec 32 := Scalar.subi c3_i32_58 v114
  let v118 : BitVec 32 := Scalar.select v116 v114 v117
  let c8_i32_61 : BitVec 32 := 8#32
  let v122 : BitVec 32 := Scalar.muli v118 c8_i32_61
  let c2_i32_62 : BitVec 32 := 2#32
  let v123 : BitVec 32 := Scalar.muli v113 c2_i32_62
  let v124 : BitVec 32 := Scalar.addi v122 v123
  let c0_i32_59 : BitVec 32 := 0#32
  let v119 : BitVec 1 := Scalar.cmpi .eq v115 c0_i32_59
  let c16_i32_43 : BitVec 32 := 16#32
  let v92 : BitVec 1 := Scalar.cmpi .slt v91 c16_i32_43
  let c0_i32_44 : BitVec 32 := 0#32
  let c1_i32_45 : BitVec 32 := 1#32
  let v93 : BitVec 32 := Scalar.select v92 c0_i32_44 c1_i32_45
  let c1_i32_60 : BitVec 32 := 1#32
  let v120 : BitVec 32 := Scalar.subi c1_i32_60 v93
  let v121 : BitVec 32 := Scalar.select v119 v93 v120
  let v125 : BitVec 32 := Scalar.addi v124 v121
  let c1_i32_1051 : BitVec 32 := 1#32
  let v1286 : BitVec 32 := Scalar.muli v125 c1_i32_1051
  let v1287 : BitVec 32 := Scalar.addi c0_i32_1052 v1286
  v1287.toNat
def k0_off9 (d0 : Dev nD) (k0_t1 : Fin k0_t1_loop.trips) : Fin 2 → Nat :=
  let c0_i32_385 : BitVec 32 := 0#32
  let c1_i32_386 : BitVec 32 := 1#32
  let arg15 : BitVec 32 := Scf.iv c0_i32_385 c1_i32_386 k0_t1
  let c1_i32_1057 : BitVec 32 := 1#32
  let v1296 : BitVec 32 := Scalar.addi arg15 c1_i32_1057
  let c31_i32_1064 : BitVec 32 := 31#32
  let v1305 : BitVec 1 := Scalar.cmpi .slt v1296 c31_i32_1064
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let v1297 : BitVec 32 := Scalar.subi v50 v1296
  let c1_i32_1058 : BitVec 32 := 1#32
  let v1298 : BitVec 32 := Scalar.subi v1297 c1_i32_1058
  let c96_i32_1059 : BitVec 32 := 96#32
  let v1299 : BitVec 32 := Scalar.addi v1298 c96_i32_1059
  let c32_i32_1060 : BitVec 32 := 32#32
  let v1300 : BitVec 32 := Scalar.remsi v1299 c32_i32_1060
  let c31_i32_1061 : BitVec 32 := 31#32
  let v1301 : BitVec 32 := Scalar.subi v1296 c31_i32_1061
  let v1302 : BitVec 32 := Scalar.subi v50 v1301
  let c96_i32_1062 : BitVec 32 := 96#32
  let v1303 : BitVec 32 := Scalar.addi v1302 c96_i32_1062
  let c32_i32_1063 : BitVec 32 := 32#32
  let v1304 : BitVec 32 := Scalar.remsi v1303 c32_i32_1063
  let v1306 : BitVec 32 := Scalar.select v1305 v1300 v1304
  let c64_i32_1065 : BitVec 32 := 64#32
  let v1307 : BitVec 32 := Scalar.addi v1306 c64_i32_1065
  let c32_i32_1066 : BitVec 32 := 32#32
  let v1308 : BitVec 32 := Scalar.remsi v1307 c32_i32_1066
  let c16_i32_1070 : BitVec 32 := 16#32
  let v1311 : BitVec 1 := Scalar.cmpi .slt v1308 c16_i32_1070
  let c31_i32_1071 : BitVec 32 := 31#32
  let v1312 : BitVec 32 := Scalar.subi c31_i32_1071 v1308
  let v1313 : BitVec 32 := Scalar.select v1311 v1308 v1312
  let c0_i32_1073 : BitVec 32 := 0#32
  let v1315 : BitVec 1 := Scalar.cmpi .sgt v1313 c0_i32_1073
  let v1316 : BitVec 32 := Scalar.extui v1315
  let c0_i32_1074 : BitVec 32 := 0#32
  let v1317 : BitVec 1 := Scalar.cmpi .slt v1313 c0_i32_1074
  let v1318 : BitVec 32 := Scalar.extui v1317
  let v1319 : BitVec 32 := Scalar.subi v1316 v1318
  let c4_i32_1072 : BitVec 32 := 4#32
  let c0_i32_1075 : BitVec 32 := 0#32
  let v1320 : BitVec 1 := Scalar.cmpi .sgt c4_i32_1072 c0_i32_1075
  let v1321 : BitVec 32 := Scalar.extui v1320
  let c0_i32_1076 : BitVec 32 := 0#32
  let v1322 : BitVec 1 := Scalar.cmpi .slt c4_i32_1072 c0_i32_1076
  let v1323 : BitVec 32 := Scalar.extui v1322
  let v1324 : BitVec 32 := Scalar.subi v1321 v1323
  let v1325 : BitVec 1 := Scalar.cmpi .ne v1319 v1324
  let v1326 : BitVec 32 := Scalar.remsi v1313 c4_i32_1072
  let c0_i32_1077 : BitVec 32 := 0#32
  let v1327 : BitVec 1 := Scalar.cmpi .ne v1326 c0_i32_1077
  let v1328 : BitVec 1 := Scalar.andi v1325 v1327
  let v1314 : BitVec 32 := Scalar.divsi v1313 c4_i32_1072
  let c1_i32_1078 : BitVec 32 := 1#32
  let v1329 : BitVec 32 := Scalar.subi v1314 c1_i32_1078
  let v1330 : BitVec 32 := Scalar.select v1328 v1329 v1314
  let c2_i32_1080 : BitVec 32 := 2#32
  let v1332 : BitVec 32 := Scalar.remsi v1330 c2_i32_1080
  let c0_i32_1081 : BitVec 32 := 0#32
  let v1333 : BitVec 1 := Scalar.cmpi .eq v1332 c0_i32_1081
  let c4_i32_1079 : BitVec 32 := 4#32
  let v1331 : BitVec 32 := Scalar.remsi v1313 c4_i32_1079
  let c3_i32_1082 : BitVec 32 := 3#32
  let v1334 : BitVec 32 := Scalar.subi c3_i32_1082 v1331
  let v1335 : BitVec 32 := Scalar.select v1333 v1331 v1334
  let c8_i32_1085 : BitVec 32 := 8#32
  let v1339 : BitVec 32 := Scalar.muli v1335 c8_i32_1085
  let c2_i32_1086 : BitVec 32 := 2#32
  let v1340 : BitVec 32 := Scalar.muli v1330 c2_i32_1086
  let v1341 : BitVec 32 := Scalar.addi v1339 v1340
  let c0_i32_1083 : BitVec 32 := 0#32
  let v1336 : BitVec 1 := Scalar.cmpi .eq v1332 c0_i32_1083
  let c16_i32_1067 : BitVec 32 := 16#32
  let v1309 : BitVec 1 := Scalar.cmpi .slt v1308 c16_i32_1067
  let c0_i32_1068 : BitVec 32 := 0#32
  let c1_i32_1069 : BitVec 32 := 1#32
  let v1310 : BitVec 32 := Scalar.select v1309 c0_i32_1068 c1_i32_1069
  let c1_i32_1084 : BitVec 32 := 1#32
  let v1337 : BitVec 32 := Scalar.subi c1_i32_1084 v1310
  let v1338 : BitVec 32 := Scalar.select v1336 v1310 v1337
  let v1342 : BitVec 32 := Scalar.addi v1341 v1338
  let c256_i32_1087 : BitVec 32 := 256#32
  let v1343 : BitVec 32 := Scalar.muli v1342 c256_i32_1087
  let v1344 : Index := Scalar.indexCast v1343
  let c0_1088 : Index := 0#32
  ![v1344.toNat, 0]
def k0_off10 (k0_t1 : Fin k0_t1_loop.trips) : Fin 2 → Nat :=
  let c2_i32_1094 : BitVec 32 := 2#32
  let c1_i32_1020 : BitVec 32 := 1#32
  let c0_i32_385 : BitVec 32 := 0#32
  let c1_i32_386 : BitVec 32 := 1#32
  let arg15 : BitVec 32 := Scf.iv c0_i32_385 c1_i32_386 k0_t1
  let c2_i32_1019 : BitVec 32 := 2#32
  let v1255 : BitVec 32 := Scalar.remsi arg15 c2_i32_1019
  let v1256 : BitVec 32 := Scalar.subi c1_i32_1020 v1255
  ![2, v1256.toNat]
def k0_off11 (k0_t1 : Fin k0_t1_loop.trips) : Fin 2 → Nat :=
  let c2_i32_1102 : BitVec 32 := 2#32
  let c0_i32_385 : BitVec 32 := 0#32
  let c1_i32_386 : BitVec 32 := 1#32
  let arg15 : BitVec 32 := Scf.iv c0_i32_385 c1_i32_386 k0_t1
  let c2_i32_1019 : BitVec 32 := 2#32
  let v1255 : BitVec 32 := Scalar.remsi arg15 c2_i32_1019
  ![2, v1255.toNat]
def k0_dev9 (d0 : Dev nD) : Nat :=
  let c0_i32_1112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c1_i32_40 : BitVec 32 := 1#32
  let v89 : BitVec 32 := Scalar.addi v50 c1_i32_40
  let c64_i32_41 : BitVec 32 := 64#32
  let v90 : BitVec 32 := Scalar.addi v89 c64_i32_41
  let c32_i32_42 : BitVec 32 := 32#32
  let v91 : BitVec 32 := Scalar.remsi v90 c32_i32_42
  let c16_i32_46 : BitVec 32 := 16#32
  let v94 : BitVec 1 := Scalar.cmpi .slt v91 c16_i32_46
  let c31_i32_47 : BitVec 32 := 31#32
  let v95 : BitVec 32 := Scalar.subi c31_i32_47 v91
  let v96 : BitVec 32 := Scalar.select v94 v91 v95
  let c0_i32_49 : BitVec 32 := 0#32
  let v98 : BitVec 1 := Scalar.cmpi .sgt v96 c0_i32_49
  let v99 : BitVec 32 := Scalar.extui v98
  let c0_i32_50 : BitVec 32 := 0#32
  let v100 : BitVec 1 := Scalar.cmpi .slt v96 c0_i32_50
  let v101 : BitVec 32 := Scalar.extui v100
  let v102 : BitVec 32 := Scalar.subi v99 v101
  let c4_i32_48 : BitVec 32 := 4#32
  let c0_i32_51 : BitVec 32 := 0#32
  let v103 : BitVec 1 := Scalar.cmpi .sgt c4_i32_48 c0_i32_51
  let v104 : BitVec 32 := Scalar.extui v103
  let c0_i32_52 : BitVec 32 := 0#32
  let v105 : BitVec 1 := Scalar.cmpi .slt c4_i32_48 c0_i32_52
  let v106 : BitVec 32 := Scalar.extui v105
  let v107 : BitVec 32 := Scalar.subi v104 v106
  let v108 : BitVec 1 := Scalar.cmpi .ne v102 v107
  let v109 : BitVec 32 := Scalar.remsi v96 c4_i32_48
  let c0_i32_53 : BitVec 32 := 0#32
  let v110 : BitVec 1 := Scalar.cmpi .ne v109 c0_i32_53
  let v111 : BitVec 1 := Scalar.andi v108 v110
  let v97 : BitVec 32 := Scalar.divsi v96 c4_i32_48
  let c1_i32_54 : BitVec 32 := 1#32
  let v112 : BitVec 32 := Scalar.subi v97 c1_i32_54
  let v113 : BitVec 32 := Scalar.select v111 v112 v97
  let c2_i32_56 : BitVec 32 := 2#32
  let v115 : BitVec 32 := Scalar.remsi v113 c2_i32_56
  let c0_i32_57 : BitVec 32 := 0#32
  let v116 : BitVec 1 := Scalar.cmpi .eq v115 c0_i32_57
  let c4_i32_55 : BitVec 32 := 4#32
  let v114 : BitVec 32 := Scalar.remsi v96 c4_i32_55
  let c3_i32_58 : BitVec 32 := 3#32
  let v117 : BitVec 32 := Scalar.subi c3_i32_58 v114
  let v118 : BitVec 32 := Scalar.select v116 v114 v117
  let c8_i32_61 : BitVec 32 := 8#32
  let v122 : BitVec 32 := Scalar.muli v118 c8_i32_61
  let c2_i32_62 : BitVec 32 := 2#32
  let v123 : BitVec 32 := Scalar.muli v113 c2_i32_62
  let v124 : BitVec 32 := Scalar.addi v122 v123
  let c0_i32_59 : BitVec 32 := 0#32
  let v119 : BitVec 1 := Scalar.cmpi .eq v115 c0_i32_59
  let c16_i32_43 : BitVec 32 := 16#32
  let v92 : BitVec 1 := Scalar.cmpi .slt v91 c16_i32_43
  let c0_i32_44 : BitVec 32 := 0#32
  let c1_i32_45 : BitVec 32 := 1#32
  let v93 : BitVec 32 := Scalar.select v92 c0_i32_44 c1_i32_45
  let c1_i32_60 : BitVec 32 := 1#32
  let v120 : BitVec 32 := Scalar.subi c1_i32_60 v93
  let v121 : BitVec 32 := Scalar.select v119 v93 v120
  let v125 : BitVec 32 := Scalar.addi v124 v121
  let c1_i32_1111 : BitVec 32 := 1#32
  let v1369 : BitVec 32 := Scalar.muli v125 c1_i32_1111
  let v1370 : BitVec 32 := Scalar.addi c0_i32_1112 v1369
  v1370.toNat
def k0_dev10 (d0 : Dev nD) : Nat :=
  let c0_i32_1125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c32_i32_18 : BitVec 32 := 32#32
  let v51 : BitVec 32 := Scalar.addi v50 c32_i32_18
  let c1_i32_19 : BitVec 32 := 1#32
  let v52 : BitVec 32 := Scalar.subi v51 c1_i32_19
  let c64_i32 : BitVec 32 := 64#32
  let v53 : BitVec 32 := Scalar.addi v52 c64_i32
  let c32_i32_20 : BitVec 32 := 32#32
  let v54 : BitVec 32 := Scalar.remsi v53 c32_i32_20
  let c16_i32_23 : BitVec 32 := 16#32
  let v57 : BitVec 1 := Scalar.cmpi .slt v54 c16_i32_23
  let c31_i32_24 : BitVec 32 := 31#32
  let v58 : BitVec 32 := Scalar.subi c31_i32_24 v54
  let v59 : BitVec 32 := Scalar.select v57 v54 v58
  let c0_i32_26 : BitVec 32 := 0#32
  let v61 : BitVec 1 := Scalar.cmpi .sgt v59 c0_i32_26
  let v62 : BitVec 32 := Scalar.extui v61
  let c0_i32_27 : BitVec 32 := 0#32
  let v63 : BitVec 1 := Scalar.cmpi .slt v59 c0_i32_27
  let v64 : BitVec 32 := Scalar.extui v63
  let v65 : BitVec 32 := Scalar.subi v62 v64
  let c4_i32_25 : BitVec 32 := 4#32
  let c0_i32_28 : BitVec 32 := 0#32
  let v66 : BitVec 1 := Scalar.cmpi .sgt c4_i32_25 c0_i32_28
  let v67 : BitVec 32 := Scalar.extui v66
  let c0_i32_29 : BitVec 32 := 0#32
  let v68 : BitVec 1 := Scalar.cmpi .slt c4_i32_25 c0_i32_29
  let v69 : BitVec 32 := Scalar.extui v68
  let v70 : BitVec 32 := Scalar.subi v67 v69
  let v71 : BitVec 1 := Scalar.cmpi .ne v65 v70
  let v72 : BitVec 32 := Scalar.remsi v59 c4_i32_25
  let c0_i32_30 : BitVec 32 := 0#32
  let v73 : BitVec 1 := Scalar.cmpi .ne v72 c0_i32_30
  let v74 : BitVec 1 := Scalar.andi v71 v73
  let v60 : BitVec 32 := Scalar.divsi v59 c4_i32_25
  let c1_i32_31 : BitVec 32 := 1#32
  let v75 : BitVec 32 := Scalar.subi v60 c1_i32_31
  let v76 : BitVec 32 := Scalar.select v74 v75 v60
  let c2_i32_33 : BitVec 32 := 2#32
  let v78 : BitVec 32 := Scalar.remsi v76 c2_i32_33
  let c0_i32_34 : BitVec 32 := 0#32
  let v79 : BitVec 1 := Scalar.cmpi .eq v78 c0_i32_34
  let c4_i32_32 : BitVec 32 := 4#32
  let v77 : BitVec 32 := Scalar.remsi v59 c4_i32_32
  let c3_i32_35 : BitVec 32 := 3#32
  let v80 : BitVec 32 := Scalar.subi c3_i32_35 v77
  let v81 : BitVec 32 := Scalar.select v79 v77 v80
  let c8_i32_38 : BitVec 32 := 8#32
  let v85 : BitVec 32 := Scalar.muli v81 c8_i32_38
  let c2_i32_39 : BitVec 32 := 2#32
  let v86 : BitVec 32 := Scalar.muli v76 c2_i32_39
  let v87 : BitVec 32 := Scalar.addi v85 v86
  let c0_i32_36 : BitVec 32 := 0#32
  let v82 : BitVec 1 := Scalar.cmpi .eq v78 c0_i32_36
  let c16_i32 : BitVec 32 := 16#32
  let v55 : BitVec 1 := Scalar.cmpi .slt v54 c16_i32
  let c0_i32_21 : BitVec 32 := 0#32
  let c1_i32_22 : BitVec 32 := 1#32
  let v56 : BitVec 32 := Scalar.select v55 c0_i32_21 c1_i32_22
  let c1_i32_37 : BitVec 32 := 1#32
  let v83 : BitVec 32 := Scalar.subi c1_i32_37 v56
  let v84 : BitVec 32 := Scalar.select v82 v56 v83
  let v88 : BitVec 32 := Scalar.addi v87 v84
  let c1_i32_1124 : BitVec 32 := 1#32
  let v1382 : BitVec 32 := Scalar.muli v88 c1_i32_1124
  let v1383 : BitVec 32 := Scalar.addi c0_i32_1125 v1382
  v1383.toNat
def k0_off12 (d0 : Dev nD) (k0_t1 : Fin k0_t1_loop.trips) : Fin 2 → Nat :=
  let c0_i32_385 : BitVec 32 := 0#32
  let c1_i32_386 : BitVec 32 := 1#32
  let arg15 : BitVec 32 := Scf.iv c0_i32_385 c1_i32_386 k0_t1
  let c1_i32_1130 : BitVec 32 := 1#32
  let v1392 : BitVec 32 := Scalar.addi arg15 c1_i32_1130
  let c31_i32_1136 : BitVec 32 := 31#32
  let v1400 : BitVec 1 := Scalar.cmpi .slt v1392 c31_i32_1136
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let v1393 : BitVec 32 := Scalar.addi v50 v1392
  let c1_i32_1131 : BitVec 32 := 1#32
  let v1394 : BitVec 32 := Scalar.addi v1393 c1_i32_1131
  let c32_i32_1132 : BitVec 32 := 32#32
  let v1395 : BitVec 32 := Scalar.remsi v1394 c32_i32_1132
  let v1396 : BitVec 32 := Scalar.addi v50 v1392
  let c31_i32_1133 : BitVec 32 := 31#32
  let v1397 : BitVec 32 := Scalar.subi v1396 c31_i32_1133
  let c96_i32_1134 : BitVec 32 := 96#32
  let v1398 : BitVec 32 := Scalar.addi v1397 c96_i32_1134
  let c32_i32_1135 : BitVec 32 := 32#32
  let v1399 : BitVec 32 := Scalar.remsi v1398 c32_i32_1135
  let v1401 : BitVec 32 := Scalar.select v1400 v1395 v1399
  let c64_i32_1137 : BitVec 32 := 64#32
  let v1402 : BitVec 32 := Scalar.addi v1401 c64_i32_1137
  let c32_i32_1138 : BitVec 32 := 32#32
  let v1403 : BitVec 32 := Scalar.remsi v1402 c32_i32_1138
  let c16_i32_1142 : BitVec 32 := 16#32
  let v1406 : BitVec 1 := Scalar.cmpi .slt v1403 c16_i32_1142
  let c31_i32_1143 : BitVec 32 := 31#32
  let v1407 : BitVec 32 := Scalar.subi c31_i32_1143 v1403
  let v1408 : BitVec 32 := Scalar.select v1406 v1403 v1407
  let c0_i32_1145 : BitVec 32 := 0#32
  let v1410 : BitVec 1 := Scalar.cmpi .sgt v1408 c0_i32_1145
  let v1411 : BitVec 32 := Scalar.extui v1410
  let c0_i32_1146 : BitVec 32 := 0#32
  let v1412 : BitVec 1 := Scalar.cmpi .slt v1408 c0_i32_1146
  let v1413 : BitVec 32 := Scalar.extui v1412
  let v1414 : BitVec 32 := Scalar.subi v1411 v1413
  let c4_i32_1144 : BitVec 32 := 4#32
  let c0_i32_1147 : BitVec 32 := 0#32
  let v1415 : BitVec 1 := Scalar.cmpi .sgt c4_i32_1144 c0_i32_1147
  let v1416 : BitVec 32 := Scalar.extui v1415
  let c0_i32_1148 : BitVec 32 := 0#32
  let v1417 : BitVec 1 := Scalar.cmpi .slt c4_i32_1144 c0_i32_1148
  let v1418 : BitVec 32 := Scalar.extui v1417
  let v1419 : BitVec 32 := Scalar.subi v1416 v1418
  let v1420 : BitVec 1 := Scalar.cmpi .ne v1414 v1419
  let v1421 : BitVec 32 := Scalar.remsi v1408 c4_i32_1144
  let c0_i32_1149 : BitVec 32 := 0#32
  let v1422 : BitVec 1 := Scalar.cmpi .ne v1421 c0_i32_1149
  let v1423 : BitVec 1 := Scalar.andi v1420 v1422
  let v1409 : BitVec 32 := Scalar.divsi v1408 c4_i32_1144
  let c1_i32_1150 : BitVec 32 := 1#32
  let v1424 : BitVec 32 := Scalar.subi v1409 c1_i32_1150
  let v1425 : BitVec 32 := Scalar.select v1423 v1424 v1409
  let c2_i32_1152 : BitVec 32 := 2#32
  let v1427 : BitVec 32 := Scalar.remsi v1425 c2_i32_1152
  let c0_i32_1153 : BitVec 32 := 0#32
  let v1428 : BitVec 1 := Scalar.cmpi .eq v1427 c0_i32_1153
  let c4_i32_1151 : BitVec 32 := 4#32
  let v1426 : BitVec 32 := Scalar.remsi v1408 c4_i32_1151
  let c3_i32_1154 : BitVec 32 := 3#32
  let v1429 : BitVec 32 := Scalar.subi c3_i32_1154 v1426
  let v1430 : BitVec 32 := Scalar.select v1428 v1426 v1429
  let c8_i32_1157 : BitVec 32 := 8#32
  let v1434 : BitVec 32 := Scalar.muli v1430 c8_i32_1157
  let c2_i32_1158 : BitVec 32 := 2#32
  let v1435 : BitVec 32 := Scalar.muli v1425 c2_i32_1158
  let v1436 : BitVec 32 := Scalar.addi v1434 v1435
  let c0_i32_1155 : BitVec 32 := 0#32
  let v1431 : BitVec 1 := Scalar.cmpi .eq v1427 c0_i32_1155
  let c16_i32_1139 : BitVec 32 := 16#32
  let v1404 : BitVec 1 := Scalar.cmpi .slt v1403 c16_i32_1139
  let c0_i32_1140 : BitVec 32 := 0#32
  let c1_i32_1141 : BitVec 32 := 1#32
  let v1405 : BitVec 32 := Scalar.select v1404 c0_i32_1140 c1_i32_1141
  let c1_i32_1156 : BitVec 32 := 1#32
  let v1432 : BitVec 32 := Scalar.subi c1_i32_1156 v1405
  let v1433 : BitVec 32 := Scalar.select v1431 v1405 v1432
  let v1437 : BitVec 32 := Scalar.addi v1436 v1433
  let c256_i32_1159 : BitVec 32 := 256#32
  let v1438 : BitVec 32 := Scalar.muli v1437 c256_i32_1159
  let v1439 : Index := Scalar.indexCast v1438
  let c0_1160 : Index := 0#32
  ![v1439.toNat, 0]
def k0_off13 (k0_t1 : Fin k0_t1_loop.trips) : Fin 2 → Nat :=
  let c1_i32_1166 : BitVec 32 := 1#32
  let c1_i32_1020 : BitVec 32 := 1#32
  let c0_i32_385 : BitVec 32 := 0#32
  let c1_i32_386 : BitVec 32 := 1#32
  let arg15 : BitVec 32 := Scf.iv c0_i32_385 c1_i32_386 k0_t1
  let c2_i32_1019 : BitVec 32 := 2#32
  let v1255 : BitVec 32 := Scalar.remsi arg15 c2_i32_1019
  let v1256 : BitVec 32 := Scalar.subi c1_i32_1020 v1255
  ![1, v1256.toNat]
def k0_off14 (k0_t1 : Fin k0_t1_loop.trips) : Fin 2 → Nat :=
  let c1_i32_1174 : BitVec 32 := 1#32
  let c0_i32_385 : BitVec 32 := 0#32
  let c1_i32_386 : BitVec 32 := 1#32
  let arg15 : BitVec 32 := Scf.iv c0_i32_385 c1_i32_386 k0_t1
  let c2_i32_1019 : BitVec 32 := 2#32
  let v1255 : BitVec 32 := Scalar.remsi arg15 c2_i32_1019
  ![1, v1255.toNat]
def k0_dev11 (d0 : Dev nD) : Nat :=
  let c0_i32_1184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c32_i32_18 : BitVec 32 := 32#32
  let v51 : BitVec 32 := Scalar.addi v50 c32_i32_18
  let c1_i32_19 : BitVec 32 := 1#32
  let v52 : BitVec 32 := Scalar.subi v51 c1_i32_19
  let c64_i32 : BitVec 32 := 64#32
  let v53 : BitVec 32 := Scalar.addi v52 c64_i32
  let c32_i32_20 : BitVec 32 := 32#32
  let v54 : BitVec 32 := Scalar.remsi v53 c32_i32_20
  let c16_i32_23 : BitVec 32 := 16#32
  let v57 : BitVec 1 := Scalar.cmpi .slt v54 c16_i32_23
  let c31_i32_24 : BitVec 32 := 31#32
  let v58 : BitVec 32 := Scalar.subi c31_i32_24 v54
  let v59 : BitVec 32 := Scalar.select v57 v54 v58
  let c0_i32_26 : BitVec 32 := 0#32
  let v61 : BitVec 1 := Scalar.cmpi .sgt v59 c0_i32_26
  let v62 : BitVec 32 := Scalar.extui v61
  let c0_i32_27 : BitVec 32 := 0#32
  let v63 : BitVec 1 := Scalar.cmpi .slt v59 c0_i32_27
  let v64 : BitVec 32 := Scalar.extui v63
  let v65 : BitVec 32 := Scalar.subi v62 v64
  let c4_i32_25 : BitVec 32 := 4#32
  let c0_i32_28 : BitVec 32 := 0#32
  let v66 : BitVec 1 := Scalar.cmpi .sgt c4_i32_25 c0_i32_28
  let v67 : BitVec 32 := Scalar.extui v66
  let c0_i32_29 : BitVec 32 := 0#32
  let v68 : BitVec 1 := Scalar.cmpi .slt c4_i32_25 c0_i32_29
  let v69 : BitVec 32 := Scalar.extui v68
  let v70 : BitVec 32 := Scalar.subi v67 v69
  let v71 : BitVec 1 := Scalar.cmpi .ne v65 v70
  let v72 : BitVec 32 := Scalar.remsi v59 c4_i32_25
  let c0_i32_30 : BitVec 32 := 0#32
  let v73 : BitVec 1 := Scalar.cmpi .ne v72 c0_i32_30
  let v74 : BitVec 1 := Scalar.andi v71 v73
  let v60 : BitVec 32 := Scalar.divsi v59 c4_i32_25
  let c1_i32_31 : BitVec 32 := 1#32
  let v75 : BitVec 32 := Scalar.subi v60 c1_i32_31
  let v76 : BitVec 32 := Scalar.select v74 v75 v60
  let c2_i32_33 : BitVec 32 := 2#32
  let v78 : BitVec 32 := Scalar.remsi v76 c2_i32_33
  let c0_i32_34 : BitVec 32 := 0#32
  let v79 : BitVec 1 := Scalar.cmpi .eq v78 c0_i32_34
  let c4_i32_32 : BitVec 32 := 4#32
  let v77 : BitVec 32 := Scalar.remsi v59 c4_i32_32
  let c3_i32_35 : BitVec 32 := 3#32
  let v80 : BitVec 32 := Scalar.subi c3_i32_35 v77
  let v81 : BitVec 32 := Scalar.select v79 v77 v80
  let c8_i32_38 : BitVec 32 := 8#32
  let v85 : BitVec 32 := Scalar.muli v81 c8_i32_38
  let c2_i32_39 : BitVec 32 := 2#32
  let v86 : BitVec 32 := Scalar.muli v76 c2_i32_39
  let v87 : BitVec 32 := Scalar.addi v85 v86
  let c0_i32_36 : BitVec 32 := 0#32
  let v82 : BitVec 1 := Scalar.cmpi .eq v78 c0_i32_36
  let c16_i32 : BitVec 32 := 16#32
  let v55 : BitVec 1 := Scalar.cmpi .slt v54 c16_i32
  let c0_i32_21 : BitVec 32 := 0#32
  let c1_i32_22 : BitVec 32 := 1#32
  let v56 : BitVec 32 := Scalar.select v55 c0_i32_21 c1_i32_22
  let c1_i32_37 : BitVec 32 := 1#32
  let v83 : BitVec 32 := Scalar.subi c1_i32_37 v56
  let v84 : BitVec 32 := Scalar.select v82 v56 v83
  let v88 : BitVec 32 := Scalar.addi v87 v84
  let c1_i32_1183 : BitVec 32 := 1#32
  let v1464 : BitVec 32 := Scalar.muli v88 c1_i32_1183
  let v1465 : BitVec 32 := Scalar.addi c0_i32_1184 v1464
  v1465.toNat
def k0_dev12 (d0 : Dev nD) : Nat :=
  let c0_i32_1197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c1_i32_40 : BitVec 32 := 1#32
  let v89 : BitVec 32 := Scalar.addi v50 c1_i32_40
  let c64_i32_41 : BitVec 32 := 64#32
  let v90 : BitVec 32 := Scalar.addi v89 c64_i32_41
  let c32_i32_42 : BitVec 32 := 32#32
  let v91 : BitVec 32 := Scalar.remsi v90 c32_i32_42
  let c16_i32_46 : BitVec 32 := 16#32
  let v94 : BitVec 1 := Scalar.cmpi .slt v91 c16_i32_46
  let c31_i32_47 : BitVec 32 := 31#32
  let v95 : BitVec 32 := Scalar.subi c31_i32_47 v91
  let v96 : BitVec 32 := Scalar.select v94 v91 v95
  let c0_i32_49 : BitVec 32 := 0#32
  let v98 : BitVec 1 := Scalar.cmpi .sgt v96 c0_i32_49
  let v99 : BitVec 32 := Scalar.extui v98
  let c0_i32_50 : BitVec 32 := 0#32
  let v100 : BitVec 1 := Scalar.cmpi .slt v96 c0_i32_50
  let v101 : BitVec 32 := Scalar.extui v100
  let v102 : BitVec 32 := Scalar.subi v99 v101
  let c4_i32_48 : BitVec 32 := 4#32
  let c0_i32_51 : BitVec 32 := 0#32
  let v103 : BitVec 1 := Scalar.cmpi .sgt c4_i32_48 c0_i32_51
  let v104 : BitVec 32 := Scalar.extui v103
  let c0_i32_52 : BitVec 32 := 0#32
  let v105 : BitVec 1 := Scalar.cmpi .slt c4_i32_48 c0_i32_52
  let v106 : BitVec 32 := Scalar.extui v105
  let v107 : BitVec 32 := Scalar.subi v104 v106
  let v108 : BitVec 1 := Scalar.cmpi .ne v102 v107
  let v109 : BitVec 32 := Scalar.remsi v96 c4_i32_48
  let c0_i32_53 : BitVec 32 := 0#32
  let v110 : BitVec 1 := Scalar.cmpi .ne v109 c0_i32_53
  let v111 : BitVec 1 := Scalar.andi v108 v110
  let v97 : BitVec 32 := Scalar.divsi v96 c4_i32_48
  let c1_i32_54 : BitVec 32 := 1#32
  let v112 : BitVec 32 := Scalar.subi v97 c1_i32_54
  let v113 : BitVec 32 := Scalar.select v111 v112 v97
  let c2_i32_56 : BitVec 32 := 2#32
  let v115 : BitVec 32 := Scalar.remsi v113 c2_i32_56
  let c0_i32_57 : BitVec 32 := 0#32
  let v116 : BitVec 1 := Scalar.cmpi .eq v115 c0_i32_57
  let c4_i32_55 : BitVec 32 := 4#32
  let v114 : BitVec 32 := Scalar.remsi v96 c4_i32_55
  let c3_i32_58 : BitVec 32 := 3#32
  let v117 : BitVec 32 := Scalar.subi c3_i32_58 v114
  let v118 : BitVec 32 := Scalar.select v116 v114 v117
  let c8_i32_61 : BitVec 32 := 8#32
  let v122 : BitVec 32 := Scalar.muli v118 c8_i32_61
  let c2_i32_62 : BitVec 32 := 2#32
  let v123 : BitVec 32 := Scalar.muli v113 c2_i32_62
  let v124 : BitVec 32 := Scalar.addi v122 v123
  let c0_i32_59 : BitVec 32 := 0#32
  let v119 : BitVec 1 := Scalar.cmpi .eq v115 c0_i32_59
  let c16_i32_43 : BitVec 32 := 16#32
  let v92 : BitVec 1 := Scalar.cmpi .slt v91 c16_i32_43
  let c0_i32_44 : BitVec 32 := 0#32
  let c1_i32_45 : BitVec 32 := 1#32
  let v93 : BitVec 32 := Scalar.select v92 c0_i32_44 c1_i32_45
  let c1_i32_60 : BitVec 32 := 1#32
  let v120 : BitVec 32 := Scalar.subi c1_i32_60 v93
  let v121 : BitVec 32 := Scalar.select v119 v93 v120
  let v125 : BitVec 32 := Scalar.addi v124 v121
  let c1_i32_1196 : BitVec 32 := 1#32
  let v1477 : BitVec 32 := Scalar.muli v125 c1_i32_1196
  let v1478 : BitVec 32 := Scalar.addi c0_i32_1197 v1477
  v1478.toNat
def k0_off15 (k0_t1 : Fin k0_t1_loop.trips) : Fin 2 → Nat :=
  let c3_i32_1239 : BitVec 32 := 3#32
  let c1_i32_1020 : BitVec 32 := 1#32
  let c0_i32_385 : BitVec 32 := 0#32
  let c1_i32_386 : BitVec 32 := 1#32
  let arg15 : BitVec 32 := Scf.iv c0_i32_385 c1_i32_386 k0_t1
  let c2_i32_1019 : BitVec 32 := 2#32
  let v1255 : BitVec 32 := Scalar.remsi arg15 c2_i32_1019
  let v1256 : BitVec 32 := Scalar.subi c1_i32_1020 v1255
  ![3, v1256.toNat]
def k0_off16 (k0_t1 : Fin k0_t1_loop.trips) : Fin 2 → Nat :=
  let c3_i32_1247 : BitVec 32 := 3#32
  let c0_i32_385 : BitVec 32 := 0#32
  let c1_i32_386 : BitVec 32 := 1#32
  let arg15 : BitVec 32 := Scf.iv c0_i32_385 c1_i32_386 k0_t1
  let c2_i32_1019 : BitVec 32 := 2#32
  let v1255 : BitVec 32 := Scalar.remsi arg15 c2_i32_1019
  ![3, v1255.toNat]
def k0_dev13 (d0 : Dev nD) : Nat :=
  let c0_i32_1257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c1_i32_40 : BitVec 32 := 1#32
  let v89 : BitVec 32 := Scalar.addi v50 c1_i32_40
  let c64_i32_41 : BitVec 32 := 64#32
  let v90 : BitVec 32 := Scalar.addi v89 c64_i32_41
  let c32_i32_42 : BitVec 32 := 32#32
  let v91 : BitVec 32 := Scalar.remsi v90 c32_i32_42
  let c16_i32_46 : BitVec 32 := 16#32
  let v94 : BitVec 1 := Scalar.cmpi .slt v91 c16_i32_46
  let c31_i32_47 : BitVec 32 := 31#32
  let v95 : BitVec 32 := Scalar.subi c31_i32_47 v91
  let v96 : BitVec 32 := Scalar.select v94 v91 v95
  let c0_i32_49 : BitVec 32 := 0#32
  let v98 : BitVec 1 := Scalar.cmpi .sgt v96 c0_i32_49
  let v99 : BitVec 32 := Scalar.extui v98
  let c0_i32_50 : BitVec 32 := 0#32
  let v100 : BitVec 1 := Scalar.cmpi .slt v96 c0_i32_50
  let v101 : BitVec 32 := Scalar.extui v100
  let v102 : BitVec 32 := Scalar.subi v99 v101
  let c4_i32_48 : BitVec 32 := 4#32
  let c0_i32_51 : BitVec 32 := 0#32
  let v103 : BitVec 1 := Scalar.cmpi .sgt c4_i32_48 c0_i32_51
  let v104 : BitVec 32 := Scalar.extui v103
  let c0_i32_52 : BitVec 32 := 0#32
  let v105 : BitVec 1 := Scalar.cmpi .slt c4_i32_48 c0_i32_52
  let v106 : BitVec 32 := Scalar.extui v105
  let v107 : BitVec 32 := Scalar.subi v104 v106
  let v108 : BitVec 1 := Scalar.cmpi .ne v102 v107
  let v109 : BitVec 32 := Scalar.remsi v96 c4_i32_48
  let c0_i32_53 : BitVec 32 := 0#32
  let v110 : BitVec 1 := Scalar.cmpi .ne v109 c0_i32_53
  let v111 : BitVec 1 := Scalar.andi v108 v110
  let v97 : BitVec 32 := Scalar.divsi v96 c4_i32_48
  let c1_i32_54 : BitVec 32 := 1#32
  let v112 : BitVec 32 := Scalar.subi v97 c1_i32_54
  let v113 : BitVec 32 := Scalar.select v111 v112 v97
  let c2_i32_56 : BitVec 32 := 2#32
  let v115 : BitVec 32 := Scalar.remsi v113 c2_i32_56
  let c0_i32_57 : BitVec 32 := 0#32
  let v116 : BitVec 1 := Scalar.cmpi .eq v115 c0_i32_57
  let c4_i32_55 : BitVec 32 := 4#32
  let v114 : BitVec 32 := Scalar.remsi v96 c4_i32_55
  let c3_i32_58 : BitVec 32 := 3#32
  let v117 : BitVec 32 := Scalar.subi c3_i32_58 v114
  let v118 : BitVec 32 := Scalar.select v116 v114 v117
  let c8_i32_61 : BitVec 32 := 8#32
  let v122 : BitVec 32 := Scalar.muli v118 c8_i32_61
  let c2_i32_62 : BitVec 32 := 2#32
  let v123 : BitVec 32 := Scalar.muli v113 c2_i32_62
  let v124 : BitVec 32 := Scalar.addi v122 v123
  let c0_i32_59 : BitVec 32 := 0#32
  let v119 : BitVec 1 := Scalar.cmpi .eq v115 c0_i32_59
  let c16_i32_43 : BitVec 32 := 16#32
  let v92 : BitVec 1 := Scalar.cmpi .slt v91 c16_i32_43
  let c0_i32_44 : BitVec 32 := 0#32
  let c1_i32_45 : BitVec 32 := 1#32
  let v93 : BitVec 32 := Scalar.select v92 c0_i32_44 c1_i32_45
  let c1_i32_60 : BitVec 32 := 1#32
  let v120 : BitVec 32 := Scalar.subi c1_i32_60 v93
  let v121 : BitVec 32 := Scalar.select v119 v93 v120
  let v125 : BitVec 32 := Scalar.addi v124 v121
  let c1_i32_1256 : BitVec 32 := 1#32
  let v1560 : BitVec 32 := Scalar.muli v125 c1_i32_1256
  let v1561 : BitVec 32 := Scalar.addi c0_i32_1257 v1560
  v1561.toNat
def k0_dev14 (d0 : Dev nD) : Nat :=
  let c0_i32_1270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c32_i32_18 : BitVec 32 := 32#32
  let v51 : BitVec 32 := Scalar.addi v50 c32_i32_18
  let c1_i32_19 : BitVec 32 := 1#32
  let v52 : BitVec 32 := Scalar.subi v51 c1_i32_19
  let c64_i32 : BitVec 32 := 64#32
  let v53 : BitVec 32 := Scalar.addi v52 c64_i32
  let c32_i32_20 : BitVec 32 := 32#32
  let v54 : BitVec 32 := Scalar.remsi v53 c32_i32_20
  let c16_i32_23 : BitVec 32 := 16#32
  let v57 : BitVec 1 := Scalar.cmpi .slt v54 c16_i32_23
  let c31_i32_24 : BitVec 32 := 31#32
  let v58 : BitVec 32 := Scalar.subi c31_i32_24 v54
  let v59 : BitVec 32 := Scalar.select v57 v54 v58
  let c0_i32_26 : BitVec 32 := 0#32
  let v61 : BitVec 1 := Scalar.cmpi .sgt v59 c0_i32_26
  let v62 : BitVec 32 := Scalar.extui v61
  let c0_i32_27 : BitVec 32 := 0#32
  let v63 : BitVec 1 := Scalar.cmpi .slt v59 c0_i32_27
  let v64 : BitVec 32 := Scalar.extui v63
  let v65 : BitVec 32 := Scalar.subi v62 v64
  let c4_i32_25 : BitVec 32 := 4#32
  let c0_i32_28 : BitVec 32 := 0#32
  let v66 : BitVec 1 := Scalar.cmpi .sgt c4_i32_25 c0_i32_28
  let v67 : BitVec 32 := Scalar.extui v66
  let c0_i32_29 : BitVec 32 := 0#32
  let v68 : BitVec 1 := Scalar.cmpi .slt c4_i32_25 c0_i32_29
  let v69 : BitVec 32 := Scalar.extui v68
  let v70 : BitVec 32 := Scalar.subi v67 v69
  let v71 : BitVec 1 := Scalar.cmpi .ne v65 v70
  let v72 : BitVec 32 := Scalar.remsi v59 c4_i32_25
  let c0_i32_30 : BitVec 32 := 0#32
  let v73 : BitVec 1 := Scalar.cmpi .ne v72 c0_i32_30
  let v74 : BitVec 1 := Scalar.andi v71 v73
  let v60 : BitVec 32 := Scalar.divsi v59 c4_i32_25
  let c1_i32_31 : BitVec 32 := 1#32
  let v75 : BitVec 32 := Scalar.subi v60 c1_i32_31
  let v76 : BitVec 32 := Scalar.select v74 v75 v60
  let c2_i32_33 : BitVec 32 := 2#32
  let v78 : BitVec 32 := Scalar.remsi v76 c2_i32_33
  let c0_i32_34 : BitVec 32 := 0#32
  let v79 : BitVec 1 := Scalar.cmpi .eq v78 c0_i32_34
  let c4_i32_32 : BitVec 32 := 4#32
  let v77 : BitVec 32 := Scalar.remsi v59 c4_i32_32
  let c3_i32_35 : BitVec 32 := 3#32
  let v80 : BitVec 32 := Scalar.subi c3_i32_35 v77
  let v81 : BitVec 32 := Scalar.select v79 v77 v80
  let c8_i32_38 : BitVec 32 := 8#32
  let v85 : BitVec 32 := Scalar.muli v81 c8_i32_38
  let c2_i32_39 : BitVec 32 := 2#32
  let v86 : BitVec 32 := Scalar.muli v76 c2_i32_39
  let v87 : BitVec 32 := Scalar.addi v85 v86
  let c0_i32_36 : BitVec 32 := 0#32
  let v82 : BitVec 1 := Scalar.cmpi .eq v78 c0_i32_36
  let c16_i32 : BitVec 32 := 16#32
  let v55 : BitVec 1 := Scalar.cmpi .slt v54 c16_i32
  let c0_i32_21 : BitVec 32 := 0#32
  let c1_i32_22 : BitVec 32 := 1#32
  let v56 : BitVec 32 := Scalar.select v55 c0_i32_21 c1_i32_22
  let c1_i32_37 : BitVec 32 := 1#32
  let v83 : BitVec 32 := Scalar.subi c1_i32_37 v56
  let v84 : BitVec 32 := Scalar.select v82 v56 v83
  let v88 : BitVec 32 := Scalar.addi v87 v84
  let c1_i32_1269 : BitVec 32 := 1#32
  let v1573 : BitVec 32 := Scalar.muli v88 c1_i32_1269
  let v1574 : BitVec 32 := Scalar.addi c0_i32_1270 v1573
  v1574.toNat
def k0_dev15 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c32_i32_18 : BitVec 32 := 32#32
  let v51 : BitVec 32 := Scalar.addi v50 c32_i32_18
  let c1_i32_19 : BitVec 32 := 1#32
  let v52 : BitVec 32 := Scalar.subi v51 c1_i32_19
  let c64_i32 : BitVec 32 := 64#32
  let v53 : BitVec 32 := Scalar.addi v52 c64_i32
  let c32_i32_20 : BitVec 32 := 32#32
  let v54 : BitVec 32 := Scalar.remsi v53 c32_i32_20
  let c16_i32_23 : BitVec 32 := 16#32
  let v57 : BitVec 1 := Scalar.cmpi .slt v54 c16_i32_23
  let c31_i32_24 : BitVec 32 := 31#32
  let v58 : BitVec 32 := Scalar.subi c31_i32_24 v54
  let v59 : BitVec 32 := Scalar.select v57 v54 v58
  let c0_i32_26 : BitVec 32 := 0#32
  let v61 : BitVec 1 := Scalar.cmpi .sgt v59 c0_i32_26
  let v62 : BitVec 32 := Scalar.extui v61
  let c0_i32_27 : BitVec 32 := 0#32
  let v63 : BitVec 1 := Scalar.cmpi .slt v59 c0_i32_27
  let v64 : BitVec 32 := Scalar.extui v63
  let v65 : BitVec 32 := Scalar.subi v62 v64
  let c4_i32_25 : BitVec 32 := 4#32
  let c0_i32_28 : BitVec 32 := 0#32
  let v66 : BitVec 1 := Scalar.cmpi .sgt c4_i32_25 c0_i32_28
  let v67 : BitVec 32 := Scalar.extui v66
  let c0_i32_29 : BitVec 32 := 0#32
  let v68 : BitVec 1 := Scalar.cmpi .slt c4_i32_25 c0_i32_29
  let v69 : BitVec 32 := Scalar.extui v68
  let v70 : BitVec 32 := Scalar.subi v67 v69
  let v71 : BitVec 1 := Scalar.cmpi .ne v65 v70
  let v72 : BitVec 32 := Scalar.remsi v59 c4_i32_25
  let c0_i32_30 : BitVec 32 := 0#32
  let v73 : BitVec 1 := Scalar.cmpi .ne v72 c0_i32_30
  let v74 : BitVec 1 := Scalar.andi v71 v73
  let v60 : BitVec 32 := Scalar.divsi v59 c4_i32_25
  let c1_i32_31 : BitVec 32 := 1#32
  let v75 : BitVec 32 := Scalar.subi v60 c1_i32_31
  let v76 : BitVec 32 := Scalar.select v74 v75 v60
  let c2_i32_33 : BitVec 32 := 2#32
  let v78 : BitVec 32 := Scalar.remsi v76 c2_i32_33
  let c0_i32_34 : BitVec 32 := 0#32
  let v79 : BitVec 1 := Scalar.cmpi .eq v78 c0_i32_34
  let c4_i32_32 : BitVec 32 := 4#32
  let v77 : BitVec 32 := Scalar.remsi v59 c4_i32_32
  let c3_i32_35 : BitVec 32 := 3#32
  let v80 : BitVec 32 := Scalar.subi c3_i32_35 v77
  let v81 : BitVec 32 := Scalar.select v79 v77 v80
  let c8_i32_38 : BitVec 32 := 8#32
  let v85 : BitVec 32 := Scalar.muli v81 c8_i32_38
  let c2_i32_39 : BitVec 32 := 2#32
  let v86 : BitVec 32 := Scalar.muli v76 c2_i32_39
  let v87 : BitVec 32 := Scalar.addi v85 v86
  let c0_i32_36 : BitVec 32 := 0#32
  let v82 : BitVec 1 := Scalar.cmpi .eq v78 c0_i32_36
  let c16_i32 : BitVec 32 := 16#32
  let v55 : BitVec 1 := Scalar.cmpi .slt v54 c16_i32
  let c0_i32_21 : BitVec 32 := 0#32
  let c1_i32_22 : BitVec 32 := 1#32
  let v56 : BitVec 32 := Scalar.select v55 c0_i32_21 c1_i32_22
  let c1_i32_37 : BitVec 32 := 1#32
  let v83 : BitVec 32 := Scalar.subi c1_i32_37 v56
  let v84 : BitVec 32 := Scalar.select v82 v56 v83
  let v88 : BitVec 32 := Scalar.addi v87 v84
  let c1_i32_413 : BitVec 32 := 1#32
  let v594 : BitVec 32 := Scalar.muli v88 c1_i32_413
  let v595 : BitVec 32 := Scalar.addi c0_i32_414 v594
  v595.toNat
def k0_off17 (d0 : Dev nD) (c30_i32_434 : BitVec 32) (c30_i32_426 : BitVec 32) (c30_i32_430 : BitVec 32) : Fin 2 → Nat :=
  let c31_i32_435 : BitVec 32 := 31#32
  let v624 : BitVec 1 := Scalar.cmpi .slt c30_i32_434 c31_i32_435
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let v616 : BitVec 32 := Scalar.subi v50 c30_i32_426
  let c1_i32_427 : BitVec 32 := 1#32
  let v617 : BitVec 32 := Scalar.subi v616 c1_i32_427
  let c96_i32_428 : BitVec 32 := 96#32
  let v618 : BitVec 32 := Scalar.addi v617 c96_i32_428
  let c32_i32_429 : BitVec 32 := 32#32
  let v619 : BitVec 32 := Scalar.remsi v618 c32_i32_429
  let c31_i32_431 : BitVec 32 := 31#32
  let v620 : BitVec 32 := Scalar.subi c30_i32_430 c31_i32_431
  let v621 : BitVec 32 := Scalar.subi v50 v620
  let c96_i32_432 : BitVec 32 := 96#32
  let v622 : BitVec 32 := Scalar.addi v621 c96_i32_432
  let c32_i32_433 : BitVec 32 := 32#32
  let v623 : BitVec 32 := Scalar.remsi v622 c32_i32_433
  let v625 : BitVec 32 := Scalar.select v624 v619 v623
  let c64_i32_436 : BitVec 32 := 64#32
  let v626 : BitVec 32 := Scalar.addi v625 c64_i32_436
  let c32_i32_437 : BitVec 32 := 32#32
  let v627 : BitVec 32 := Scalar.remsi v626 c32_i32_437
  let c16_i32_441 : BitVec 32 := 16#32
  let v630 : BitVec 1 := Scalar.cmpi .slt v627 c16_i32_441
  let c31_i32_442 : BitVec 32 := 31#32
  let v631 : BitVec 32 := Scalar.subi c31_i32_442 v627
  let v632 : BitVec 32 := Scalar.select v630 v627 v631
  let c0_i32_444 : BitVec 32 := 0#32
  let v634 : BitVec 1 := Scalar.cmpi .sgt v632 c0_i32_444
  let v635 : BitVec 32 := Scalar.extui v634
  let c0_i32_445 : BitVec 32 := 0#32
  let v636 : BitVec 1 := Scalar.cmpi .slt v632 c0_i32_445
  let v637 : BitVec 32 := Scalar.extui v636
  let v638 : BitVec 32 := Scalar.subi v635 v637
  let c4_i32_443 : BitVec 32 := 4#32
  let c0_i32_446 : BitVec 32 := 0#32
  let v639 : BitVec 1 := Scalar.cmpi .sgt c4_i32_443 c0_i32_446
  let v640 : BitVec 32 := Scalar.extui v639
  let c0_i32_447 : BitVec 32 := 0#32
  let v641 : BitVec 1 := Scalar.cmpi .slt c4_i32_443 c0_i32_447
  let v642 : BitVec 32 := Scalar.extui v641
  let v643 : BitVec 32 := Scalar.subi v640 v642
  let v644 : BitVec 1 := Scalar.cmpi .ne v638 v643
  let v645 : BitVec 32 := Scalar.remsi v632 c4_i32_443
  let c0_i32_448 : BitVec 32 := 0#32
  let v646 : BitVec 1 := Scalar.cmpi .ne v645 c0_i32_448
  let v647 : BitVec 1 := Scalar.andi v644 v646
  let v633 : BitVec 32 := Scalar.divsi v632 c4_i32_443
  let c1_i32_449 : BitVec 32 := 1#32
  let v648 : BitVec 32 := Scalar.subi v633 c1_i32_449
  let v649 : BitVec 32 := Scalar.select v647 v648 v633
  let c2_i32_451 : BitVec 32 := 2#32
  let v651 : BitVec 32 := Scalar.remsi v649 c2_i32_451
  let c0_i32_452 : BitVec 32 := 0#32
  let v652 : BitVec 1 := Scalar.cmpi .eq v651 c0_i32_452
  let c4_i32_450 : BitVec 32 := 4#32
  let v650 : BitVec 32 := Scalar.remsi v632 c4_i32_450
  let c3_i32_453 : BitVec 32 := 3#32
  let v653 : BitVec 32 := Scalar.subi c3_i32_453 v650
  let v654 : BitVec 32 := Scalar.select v652 v650 v653
  let c8_i32_456 : BitVec 32 := 8#32
  let v658 : BitVec 32 := Scalar.muli v654 c8_i32_456
  let c2_i32_457 : BitVec 32 := 2#32
  let v659 : BitVec 32 := Scalar.muli v649 c2_i32_457
  let v660 : BitVec 32 := Scalar.addi v658 v659
  let c0_i32_454 : BitVec 32 := 0#32
  let v655 : BitVec 1 := Scalar.cmpi .eq v651 c0_i32_454
  let c16_i32_438 : BitVec 32 := 16#32
  let v628 : BitVec 1 := Scalar.cmpi .slt v627 c16_i32_438
  let c0_i32_439 : BitVec 32 := 0#32
  let c1_i32_440 : BitVec 32 := 1#32
  let v629 : BitVec 32 := Scalar.select v628 c0_i32_439 c1_i32_440
  let c1_i32_455 : BitVec 32 := 1#32
  let v656 : BitVec 32 := Scalar.subi c1_i32_455 v629
  let v657 : BitVec 32 := Scalar.select v655 v629 v656
  let v661 : BitVec 32 := Scalar.addi v660 v657
  let c256_i32_458 : BitVec 32 := 256#32
  let v662 : BitVec 32 := Scalar.muli v661 c256_i32_458
  let c0_i32_460 : BitVec 32 := 0#32
  ![v662.toNat, 0]
def k0_off17_at (r : Fin 2) : BitVec 32 × BitVec 32 × BitVec 32 :=
  if r.val < 1 then
    (30#32, 30#32, 30#32)
  else
    (61#32, 61#32, 61#32)
def k0_dev16 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c1_i32_40 : BitVec 32 := 1#32
  let v89 : BitVec 32 := Scalar.addi v50 c1_i32_40
  let c64_i32_41 : BitVec 32 := 64#32
  let v90 : BitVec 32 := Scalar.addi v89 c64_i32_41
  let c32_i32_42 : BitVec 32 := 32#32
  let v91 : BitVec 32 := Scalar.remsi v90 c32_i32_42
  let c16_i32_46 : BitVec 32 := 16#32
  let v94 : BitVec 1 := Scalar.cmpi .slt v91 c16_i32_46
  let c31_i32_47 : BitVec 32 := 31#32
  let v95 : BitVec 32 := Scalar.subi c31_i32_47 v91
  let v96 : BitVec 32 := Scalar.select v94 v91 v95
  let c0_i32_49 : BitVec 32 := 0#32
  let v98 : BitVec 1 := Scalar.cmpi .sgt v96 c0_i32_49
  let v99 : BitVec 32 := Scalar.extui v98
  let c0_i32_50 : BitVec 32 := 0#32
  let v100 : BitVec 1 := Scalar.cmpi .slt v96 c0_i32_50
  let v101 : BitVec 32 := Scalar.extui v100
  let v102 : BitVec 32 := Scalar.subi v99 v101
  let c4_i32_48 : BitVec 32 := 4#32
  let c0_i32_51 : BitVec 32 := 0#32
  let v103 : BitVec 1 := Scalar.cmpi .sgt c4_i32_48 c0_i32_51
  let v104 : BitVec 32 := Scalar.extui v103
  let c0_i32_52 : BitVec 32 := 0#32
  let v105 : BitVec 1 := Scalar.cmpi .slt c4_i32_48 c0_i32_52
  let v106 : BitVec 32 := Scalar.extui v105
  let v107 : BitVec 32 := Scalar.subi v104 v106
  let v108 : BitVec 1 := Scalar.cmpi .ne v102 v107
  let v109 : BitVec 32 := Scalar.remsi v96 c4_i32_48
  let c0_i32_53 : BitVec 32 := 0#32
  let v110 : BitVec 1 := Scalar.cmpi .ne v109 c0_i32_53
  let v111 : BitVec 1 := Scalar.andi v108 v110
  let v97 : BitVec 32 := Scalar.divsi v96 c4_i32_48
  let c1_i32_54 : BitVec 32 := 1#32
  let v112 : BitVec 32 := Scalar.subi v97 c1_i32_54
  let v113 : BitVec 32 := Scalar.select v111 v112 v97
  let c2_i32_56 : BitVec 32 := 2#32
  let v115 : BitVec 32 := Scalar.remsi v113 c2_i32_56
  let c0_i32_57 : BitVec 32 := 0#32
  let v116 : BitVec 1 := Scalar.cmpi .eq v115 c0_i32_57
  let c4_i32_55 : BitVec 32 := 4#32
  let v114 : BitVec 32 := Scalar.remsi v96 c4_i32_55
  let c3_i32_58 : BitVec 32 := 3#32
  let v117 : BitVec 32 := Scalar.subi c3_i32_58 v114
  let v118 : BitVec 32 := Scalar.select v116 v114 v117
  let c8_i32_61 : BitVec 32 := 8#32
  let v122 : BitVec 32 := Scalar.muli v118 c8_i32_61
  let c2_i32_62 : BitVec 32 := 2#32
  let v123 : BitVec 32 := Scalar.muli v113 c2_i32_62
  let v124 : BitVec 32 := Scalar.addi v122 v123
  let c0_i32_59 : BitVec 32 := 0#32
  let v119 : BitVec 1 := Scalar.cmpi .eq v115 c0_i32_59
  let c16_i32_43 : BitVec 32 := 16#32
  let v92 : BitVec 1 := Scalar.cmpi .slt v91 c16_i32_43
  let c0_i32_44 : BitVec 32 := 0#32
  let c1_i32_45 : BitVec 32 := 1#32
  let v93 : BitVec 32 := Scalar.select v92 c0_i32_44 c1_i32_45
  let c1_i32_60 : BitVec 32 := 1#32
  let v120 : BitVec 32 := Scalar.subi c1_i32_60 v93
  let v121 : BitVec 32 := Scalar.select v119 v93 v120
  let v125 : BitVec 32 := Scalar.addi v124 v121
  let c1_i32_476 : BitVec 32 := 1#32
  let v671 : BitVec 32 := Scalar.muli v125 c1_i32_476
  let v672 : BitVec 32 := Scalar.addi c0_i32_477 v671
  v672.toNat
def k0_dev17 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c1_i32_40 : BitVec 32 := 1#32
  let v89 : BitVec 32 := Scalar.addi v50 c1_i32_40
  let c64_i32_41 : BitVec 32 := 64#32
  let v90 : BitVec 32 := Scalar.addi v89 c64_i32_41
  let c32_i32_42 : BitVec 32 := 32#32
  let v91 : BitVec 32 := Scalar.remsi v90 c32_i32_42
  let c16_i32_46 : BitVec 32 := 16#32
  let v94 : BitVec 1 := Scalar.cmpi .slt v91 c16_i32_46
  let c31_i32_47 : BitVec 32 := 31#32
  let v95 : BitVec 32 := Scalar.subi c31_i32_47 v91
  let v96 : BitVec 32 := Scalar.select v94 v91 v95
  let c0_i32_49 : BitVec 32 := 0#32
  let v98 : BitVec 1 := Scalar.cmpi .sgt v96 c0_i32_49
  let v99 : BitVec 32 := Scalar.extui v98
  let c0_i32_50 : BitVec 32 := 0#32
  let v100 : BitVec 1 := Scalar.cmpi .slt v96 c0_i32_50
  let v101 : BitVec 32 := Scalar.extui v100
  let v102 : BitVec 32 := Scalar.subi v99 v101
  let c4_i32_48 : BitVec 32 := 4#32
  let c0_i32_51 : BitVec 32 := 0#32
  let v103 : BitVec 1 := Scalar.cmpi .sgt c4_i32_48 c0_i32_51
  let v104 : BitVec 32 := Scalar.extui v103
  let c0_i32_52 : BitVec 32 := 0#32
  let v105 : BitVec 1 := Scalar.cmpi .slt c4_i32_48 c0_i32_52
  let v106 : BitVec 32 := Scalar.extui v105
  let v107 : BitVec 32 := Scalar.subi v104 v106
  let v108 : BitVec 1 := Scalar.cmpi .ne v102 v107
  let v109 : BitVec 32 := Scalar.remsi v96 c4_i32_48
  let c0_i32_53 : BitVec 32 := 0#32
  let v110 : BitVec 1 := Scalar.cmpi .ne v109 c0_i32_53
  let v111 : BitVec 1 := Scalar.andi v108 v110
  let v97 : BitVec 32 := Scalar.divsi v96 c4_i32_48
  let c1_i32_54 : BitVec 32 := 1#32
  let v112 : BitVec 32 := Scalar.subi v97 c1_i32_54
  let v113 : BitVec 32 := Scalar.select v111 v112 v97
  let c2_i32_56 : BitVec 32 := 2#32
  let v115 : BitVec 32 := Scalar.remsi v113 c2_i32_56
  let c0_i32_57 : BitVec 32 := 0#32
  let v116 : BitVec 1 := Scalar.cmpi .eq v115 c0_i32_57
  let c4_i32_55 : BitVec 32 := 4#32
  let v114 : BitVec 32 := Scalar.remsi v96 c4_i32_55
  let c3_i32_58 : BitVec 32 := 3#32
  let v117 : BitVec 32 := Scalar.subi c3_i32_58 v114
  let v118 : BitVec 32 := Scalar.select v116 v114 v117
  let c8_i32_61 : BitVec 32 := 8#32
  let v122 : BitVec 32 := Scalar.muli v118 c8_i32_61
  let c2_i32_62 : BitVec 32 := 2#32
  let v123 : BitVec 32 := Scalar.muli v113 c2_i32_62
  let v124 : BitVec 32 := Scalar.addi v122 v123
  let c0_i32_59 : BitVec 32 := 0#32
  let v119 : BitVec 1 := Scalar.cmpi .eq v115 c0_i32_59
  let c16_i32_43 : BitVec 32 := 16#32
  let v92 : BitVec 1 := Scalar.cmpi .slt v91 c16_i32_43
  let c0_i32_44 : BitVec 32 := 0#32
  let c1_i32_45 : BitVec 32 := 1#32
  let v93 : BitVec 32 := Scalar.select v92 c0_i32_44 c1_i32_45
  let c1_i32_60 : BitVec 32 := 1#32
  let v120 : BitVec 32 := Scalar.subi c1_i32_60 v93
  let v121 : BitVec 32 := Scalar.select v119 v93 v120
  let v125 : BitVec 32 := Scalar.addi v124 v121
  let c1_i32_507 : BitVec 32 := 1#32
  let v697 : BitVec 32 := Scalar.muli v125 c1_i32_507
  let v698 : BitVec 32 := Scalar.addi c0_i32_508 v697
  v698.toNat
def k0_off18 (d0 : Dev nD) (c30_i32_528 : BitVec 32) (c30_i32_521 : BitVec 32) (c30_i32_524 : BitVec 32) : Fin 2 → Nat :=
  let c31_i32_529 : BitVec 32 := 31#32
  let v726 : BitVec 1 := Scalar.cmpi .slt c30_i32_528 c31_i32_529
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let v719 : BitVec 32 := Scalar.addi v50 c30_i32_521
  let c1_i32_522 : BitVec 32 := 1#32
  let v720 : BitVec 32 := Scalar.addi v719 c1_i32_522
  let c32_i32_523 : BitVec 32 := 32#32
  let v721 : BitVec 32 := Scalar.remsi v720 c32_i32_523
  let v722 : BitVec 32 := Scalar.addi v50 c30_i32_524
  let c31_i32_525 : BitVec 32 := 31#32
  let v723 : BitVec 32 := Scalar.subi v722 c31_i32_525
  let c96_i32_526 : BitVec 32 := 96#32
  let v724 : BitVec 32 := Scalar.addi v723 c96_i32_526
  let c32_i32_527 : BitVec 32 := 32#32
  let v725 : BitVec 32 := Scalar.remsi v724 c32_i32_527
  let v727 : BitVec 32 := Scalar.select v726 v721 v725
  let c64_i32_530 : BitVec 32 := 64#32
  let v728 : BitVec 32 := Scalar.addi v727 c64_i32_530
  let c32_i32_531 : BitVec 32 := 32#32
  let v729 : BitVec 32 := Scalar.remsi v728 c32_i32_531
  let c16_i32_535 : BitVec 32 := 16#32
  let v732 : BitVec 1 := Scalar.cmpi .slt v729 c16_i32_535
  let c31_i32_536 : BitVec 32 := 31#32
  let v733 : BitVec 32 := Scalar.subi c31_i32_536 v729
  let v734 : BitVec 32 := Scalar.select v732 v729 v733
  let c0_i32_538 : BitVec 32 := 0#32
  let v736 : BitVec 1 := Scalar.cmpi .sgt v734 c0_i32_538
  let v737 : BitVec 32 := Scalar.extui v736
  let c0_i32_539 : BitVec 32 := 0#32
  let v738 : BitVec 1 := Scalar.cmpi .slt v734 c0_i32_539
  let v739 : BitVec 32 := Scalar.extui v738
  let v740 : BitVec 32 := Scalar.subi v737 v739
  let c4_i32_537 : BitVec 32 := 4#32
  let c0_i32_540 : BitVec 32 := 0#32
  let v741 : BitVec 1 := Scalar.cmpi .sgt c4_i32_537 c0_i32_540
  let v742 : BitVec 32 := Scalar.extui v741
  let c0_i32_541 : BitVec 32 := 0#32
  let v743 : BitVec 1 := Scalar.cmpi .slt c4_i32_537 c0_i32_541
  let v744 : BitVec 32 := Scalar.extui v743
  let v745 : BitVec 32 := Scalar.subi v742 v744
  let v746 : BitVec 1 := Scalar.cmpi .ne v740 v745
  let v747 : BitVec 32 := Scalar.remsi v734 c4_i32_537
  let c0_i32_542 : BitVec 32 := 0#32
  let v748 : BitVec 1 := Scalar.cmpi .ne v747 c0_i32_542
  let v749 : BitVec 1 := Scalar.andi v746 v748
  let v735 : BitVec 32 := Scalar.divsi v734 c4_i32_537
  let c1_i32_543 : BitVec 32 := 1#32
  let v750 : BitVec 32 := Scalar.subi v735 c1_i32_543
  let v751 : BitVec 32 := Scalar.select v749 v750 v735
  let c2_i32_545 : BitVec 32 := 2#32
  let v753 : BitVec 32 := Scalar.remsi v751 c2_i32_545
  let c0_i32_546 : BitVec 32 := 0#32
  let v754 : BitVec 1 := Scalar.cmpi .eq v753 c0_i32_546
  let c4_i32_544 : BitVec 32 := 4#32
  let v752 : BitVec 32 := Scalar.remsi v734 c4_i32_544
  let c3_i32_547 : BitVec 32 := 3#32
  let v755 : BitVec 32 := Scalar.subi c3_i32_547 v752
  let v756 : BitVec 32 := Scalar.select v754 v752 v755
  let c8_i32_550 : BitVec 32 := 8#32
  let v760 : BitVec 32 := Scalar.muli v756 c8_i32_550
  let c2_i32_551 : BitVec 32 := 2#32
  let v761 : BitVec 32 := Scalar.muli v751 c2_i32_551
  let v762 : BitVec 32 := Scalar.addi v760 v761
  let c0_i32_548 : BitVec 32 := 0#32
  let v757 : BitVec 1 := Scalar.cmpi .eq v753 c0_i32_548
  let c16_i32_532 : BitVec 32 := 16#32
  let v730 : BitVec 1 := Scalar.cmpi .slt v729 c16_i32_532
  let c0_i32_533 : BitVec 32 := 0#32
  let c1_i32_534 : BitVec 32 := 1#32
  let v731 : BitVec 32 := Scalar.select v730 c0_i32_533 c1_i32_534
  let c1_i32_549 : BitVec 32 := 1#32
  let v758 : BitVec 32 := Scalar.subi c1_i32_549 v731
  let v759 : BitVec 32 := Scalar.select v757 v731 v758
  let v763 : BitVec 32 := Scalar.addi v762 v759
  let c256_i32_552 : BitVec 32 := 256#32
  let v764 : BitVec 32 := Scalar.muli v763 c256_i32_552
  let c2048_i32 : BitVec 32 := 2048#32
  ![v764.toNat, 2048]
def k0_off18_at (r : Fin 2) : BitVec 32 × BitVec 32 × BitVec 32 :=
  if r.val < 1 then
    (30#32, 30#32, 30#32)
  else
    (61#32, 61#32, 61#32)
def k0_dev18 (d0 : Dev nD) : Nat :=
  let c0_i32_570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c32_i32_18 : BitVec 32 := 32#32
  let v51 : BitVec 32 := Scalar.addi v50 c32_i32_18
  let c1_i32_19 : BitVec 32 := 1#32
  let v52 : BitVec 32 := Scalar.subi v51 c1_i32_19
  let c64_i32 : BitVec 32 := 64#32
  let v53 : BitVec 32 := Scalar.addi v52 c64_i32
  let c32_i32_20 : BitVec 32 := 32#32
  let v54 : BitVec 32 := Scalar.remsi v53 c32_i32_20
  let c16_i32_23 : BitVec 32 := 16#32
  let v57 : BitVec 1 := Scalar.cmpi .slt v54 c16_i32_23
  let c31_i32_24 : BitVec 32 := 31#32
  let v58 : BitVec 32 := Scalar.subi c31_i32_24 v54
  let v59 : BitVec 32 := Scalar.select v57 v54 v58
  let c0_i32_26 : BitVec 32 := 0#32
  let v61 : BitVec 1 := Scalar.cmpi .sgt v59 c0_i32_26
  let v62 : BitVec 32 := Scalar.extui v61
  let c0_i32_27 : BitVec 32 := 0#32
  let v63 : BitVec 1 := Scalar.cmpi .slt v59 c0_i32_27
  let v64 : BitVec 32 := Scalar.extui v63
  let v65 : BitVec 32 := Scalar.subi v62 v64
  let c4_i32_25 : BitVec 32 := 4#32
  let c0_i32_28 : BitVec 32 := 0#32
  let v66 : BitVec 1 := Scalar.cmpi .sgt c4_i32_25 c0_i32_28
  let v67 : BitVec 32 := Scalar.extui v66
  let c0_i32_29 : BitVec 32 := 0#32
  let v68 : BitVec 1 := Scalar.cmpi .slt c4_i32_25 c0_i32_29
  let v69 : BitVec 32 := Scalar.extui v68
  let v70 : BitVec 32 := Scalar.subi v67 v69
  let v71 : BitVec 1 := Scalar.cmpi .ne v65 v70
  let v72 : BitVec 32 := Scalar.remsi v59 c4_i32_25
  let c0_i32_30 : BitVec 32 := 0#32
  let v73 : BitVec 1 := Scalar.cmpi .ne v72 c0_i32_30
  let v74 : BitVec 1 := Scalar.andi v71 v73
  let v60 : BitVec 32 := Scalar.divsi v59 c4_i32_25
  let c1_i32_31 : BitVec 32 := 1#32
  let v75 : BitVec 32 := Scalar.subi v60 c1_i32_31
  let v76 : BitVec 32 := Scalar.select v74 v75 v60
  let c2_i32_33 : BitVec 32 := 2#32
  let v78 : BitVec 32 := Scalar.remsi v76 c2_i32_33
  let c0_i32_34 : BitVec 32 := 0#32
  let v79 : BitVec 1 := Scalar.cmpi .eq v78 c0_i32_34
  let c4_i32_32 : BitVec 32 := 4#32
  let v77 : BitVec 32 := Scalar.remsi v59 c4_i32_32
  let c3_i32_35 : BitVec 32 := 3#32
  let v80 : BitVec 32 := Scalar.subi c3_i32_35 v77
  let v81 : BitVec 32 := Scalar.select v79 v77 v80
  let c8_i32_38 : BitVec 32 := 8#32
  let v85 : BitVec 32 := Scalar.muli v81 c8_i32_38
  let c2_i32_39 : BitVec 32 := 2#32
  let v86 : BitVec 32 := Scalar.muli v76 c2_i32_39
  let v87 : BitVec 32 := Scalar.addi v85 v86
  let c0_i32_36 : BitVec 32 := 0#32
  let v82 : BitVec 1 := Scalar.cmpi .eq v78 c0_i32_36
  let c16_i32 : BitVec 32 := 16#32
  let v55 : BitVec 1 := Scalar.cmpi .slt v54 c16_i32
  let c0_i32_21 : BitVec 32 := 0#32
  let c1_i32_22 : BitVec 32 := 1#32
  let v56 : BitVec 32 := Scalar.select v55 c0_i32_21 c1_i32_22
  let c1_i32_37 : BitVec 32 := 1#32
  let v83 : BitVec 32 := Scalar.subi c1_i32_37 v56
  let v84 : BitVec 32 := Scalar.select v82 v56 v83
  let v88 : BitVec 32 := Scalar.addi v87 v84
  let c1_i32_569 : BitVec 32 := 1#32
  let v773 : BitVec 32 := Scalar.muli v88 c1_i32_569
  let v774 : BitVec 32 := Scalar.addi c0_i32_570 v773
  v774.toNat
def k0_dev19 (d0 : Dev nD) : Nat :=
  let c0_i32_601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c32_i32_18 : BitVec 32 := 32#32
  let v51 : BitVec 32 := Scalar.addi v50 c32_i32_18
  let c1_i32_19 : BitVec 32 := 1#32
  let v52 : BitVec 32 := Scalar.subi v51 c1_i32_19
  let c64_i32 : BitVec 32 := 64#32
  let v53 : BitVec 32 := Scalar.addi v52 c64_i32
  let c32_i32_20 : BitVec 32 := 32#32
  let v54 : BitVec 32 := Scalar.remsi v53 c32_i32_20
  let c16_i32_23 : BitVec 32 := 16#32
  let v57 : BitVec 1 := Scalar.cmpi .slt v54 c16_i32_23
  let c31_i32_24 : BitVec 32 := 31#32
  let v58 : BitVec 32 := Scalar.subi c31_i32_24 v54
  let v59 : BitVec 32 := Scalar.select v57 v54 v58
  let c0_i32_26 : BitVec 32 := 0#32
  let v61 : BitVec 1 := Scalar.cmpi .sgt v59 c0_i32_26
  let v62 : BitVec 32 := Scalar.extui v61
  let c0_i32_27 : BitVec 32 := 0#32
  let v63 : BitVec 1 := Scalar.cmpi .slt v59 c0_i32_27
  let v64 : BitVec 32 := Scalar.extui v63
  let v65 : BitVec 32 := Scalar.subi v62 v64
  let c4_i32_25 : BitVec 32 := 4#32
  let c0_i32_28 : BitVec 32 := 0#32
  let v66 : BitVec 1 := Scalar.cmpi .sgt c4_i32_25 c0_i32_28
  let v67 : BitVec 32 := Scalar.extui v66
  let c0_i32_29 : BitVec 32 := 0#32
  let v68 : BitVec 1 := Scalar.cmpi .slt c4_i32_25 c0_i32_29
  let v69 : BitVec 32 := Scalar.extui v68
  let v70 : BitVec 32 := Scalar.subi v67 v69
  let v71 : BitVec 1 := Scalar.cmpi .ne v65 v70
  let v72 : BitVec 32 := Scalar.remsi v59 c4_i32_25
  let c0_i32_30 : BitVec 32 := 0#32
  let v73 : BitVec 1 := Scalar.cmpi .ne v72 c0_i32_30
  let v74 : BitVec 1 := Scalar.andi v71 v73
  let v60 : BitVec 32 := Scalar.divsi v59 c4_i32_25
  let c1_i32_31 : BitVec 32 := 1#32
  let v75 : BitVec 32 := Scalar.subi v60 c1_i32_31
  let v76 : BitVec 32 := Scalar.select v74 v75 v60
  let c2_i32_33 : BitVec 32 := 2#32
  let v78 : BitVec 32 := Scalar.remsi v76 c2_i32_33
  let c0_i32_34 : BitVec 32 := 0#32
  let v79 : BitVec 1 := Scalar.cmpi .eq v78 c0_i32_34
  let c4_i32_32 : BitVec 32 := 4#32
  let v77 : BitVec 32 := Scalar.remsi v59 c4_i32_32
  let c3_i32_35 : BitVec 32 := 3#32
  let v80 : BitVec 32 := Scalar.subi c3_i32_35 v77
  let v81 : BitVec 32 := Scalar.select v79 v77 v80
  let c8_i32_38 : BitVec 32 := 8#32
  let v85 : BitVec 32 := Scalar.muli v81 c8_i32_38
  let c2_i32_39 : BitVec 32 := 2#32
  let v86 : BitVec 32 := Scalar.muli v76 c2_i32_39
  let v87 : BitVec 32 := Scalar.addi v85 v86
  let c0_i32_36 : BitVec 32 := 0#32
  let v82 : BitVec 1 := Scalar.cmpi .eq v78 c0_i32_36
  let c16_i32 : BitVec 32 := 16#32
  let v55 : BitVec 1 := Scalar.cmpi .slt v54 c16_i32
  let c0_i32_21 : BitVec 32 := 0#32
  let c1_i32_22 : BitVec 32 := 1#32
  let v56 : BitVec 32 := Scalar.select v55 c0_i32_21 c1_i32_22
  let c1_i32_37 : BitVec 32 := 1#32
  let v83 : BitVec 32 := Scalar.subi c1_i32_37 v56
  let v84 : BitVec 32 := Scalar.select v82 v56 v83
  let v88 : BitVec 32 := Scalar.addi v87 v84
  let c1_i32_600 : BitVec 32 := 1#32
  let v799 : BitVec 32 := Scalar.muli v88 c1_i32_600
  let v800 : BitVec 32 := Scalar.addi c0_i32_601 v799
  v800.toNat
def k0_off19 (d0 : Dev nD) (c30_i32_622 : BitVec 32) (c30_i32_614 : BitVec 32) (c30_i32_618 : BitVec 32) : Fin 2 → Nat :=
  let c31_i32_623 : BitVec 32 := 31#32
  let v829 : BitVec 1 := Scalar.cmpi .slt c30_i32_622 c31_i32_623
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let v821 : BitVec 32 := Scalar.subi v50 c30_i32_614
  let c1_i32_615 : BitVec 32 := 1#32
  let v822 : BitVec 32 := Scalar.subi v821 c1_i32_615
  let c96_i32_616 : BitVec 32 := 96#32
  let v823 : BitVec 32 := Scalar.addi v822 c96_i32_616
  let c32_i32_617 : BitVec 32 := 32#32
  let v824 : BitVec 32 := Scalar.remsi v823 c32_i32_617
  let c31_i32_619 : BitVec 32 := 31#32
  let v825 : BitVec 32 := Scalar.subi c30_i32_618 c31_i32_619
  let v826 : BitVec 32 := Scalar.subi v50 v825
  let c96_i32_620 : BitVec 32 := 96#32
  let v827 : BitVec 32 := Scalar.addi v826 c96_i32_620
  let c32_i32_621 : BitVec 32 := 32#32
  let v828 : BitVec 32 := Scalar.remsi v827 c32_i32_621
  let v830 : BitVec 32 := Scalar.select v829 v824 v828
  let c64_i32_624 : BitVec 32 := 64#32
  let v831 : BitVec 32 := Scalar.addi v830 c64_i32_624
  let c32_i32_625 : BitVec 32 := 32#32
  let v832 : BitVec 32 := Scalar.remsi v831 c32_i32_625
  let c16_i32_629 : BitVec 32 := 16#32
  let v835 : BitVec 1 := Scalar.cmpi .slt v832 c16_i32_629
  let c31_i32_630 : BitVec 32 := 31#32
  let v836 : BitVec 32 := Scalar.subi c31_i32_630 v832
  let v837 : BitVec 32 := Scalar.select v835 v832 v836
  let c0_i32_632 : BitVec 32 := 0#32
  let v839 : BitVec 1 := Scalar.cmpi .sgt v837 c0_i32_632
  let v840 : BitVec 32 := Scalar.extui v839
  let c0_i32_633 : BitVec 32 := 0#32
  let v841 : BitVec 1 := Scalar.cmpi .slt v837 c0_i32_633
  let v842 : BitVec 32 := Scalar.extui v841
  let v843 : BitVec 32 := Scalar.subi v840 v842
  let c4_i32_631 : BitVec 32 := 4#32
  let c0_i32_634 : BitVec 32 := 0#32
  let v844 : BitVec 1 := Scalar.cmpi .sgt c4_i32_631 c0_i32_634
  let v845 : BitVec 32 := Scalar.extui v844
  let c0_i32_635 : BitVec 32 := 0#32
  let v846 : BitVec 1 := Scalar.cmpi .slt c4_i32_631 c0_i32_635
  let v847 : BitVec 32 := Scalar.extui v846
  let v848 : BitVec 32 := Scalar.subi v845 v847
  let v849 : BitVec 1 := Scalar.cmpi .ne v843 v848
  let v850 : BitVec 32 := Scalar.remsi v837 c4_i32_631
  let c0_i32_636 : BitVec 32 := 0#32
  let v851 : BitVec 1 := Scalar.cmpi .ne v850 c0_i32_636
  let v852 : BitVec 1 := Scalar.andi v849 v851
  let v838 : BitVec 32 := Scalar.divsi v837 c4_i32_631
  let c1_i32_637 : BitVec 32 := 1#32
  let v853 : BitVec 32 := Scalar.subi v838 c1_i32_637
  let v854 : BitVec 32 := Scalar.select v852 v853 v838
  let c2_i32_639 : BitVec 32 := 2#32
  let v856 : BitVec 32 := Scalar.remsi v854 c2_i32_639
  let c0_i32_640 : BitVec 32 := 0#32
  let v857 : BitVec 1 := Scalar.cmpi .eq v856 c0_i32_640
  let c4_i32_638 : BitVec 32 := 4#32
  let v855 : BitVec 32 := Scalar.remsi v837 c4_i32_638
  let c3_i32_641 : BitVec 32 := 3#32
  let v858 : BitVec 32 := Scalar.subi c3_i32_641 v855
  let v859 : BitVec 32 := Scalar.select v857 v855 v858
  let c8_i32_644 : BitVec 32 := 8#32
  let v863 : BitVec 32 := Scalar.muli v859 c8_i32_644
  let c2_i32_645 : BitVec 32 := 2#32
  let v864 : BitVec 32 := Scalar.muli v854 c2_i32_645
  let v865 : BitVec 32 := Scalar.addi v863 v864
  let c0_i32_642 : BitVec 32 := 0#32
  let v860 : BitVec 1 := Scalar.cmpi .eq v856 c0_i32_642
  let c16_i32_626 : BitVec 32 := 16#32
  let v833 : BitVec 1 := Scalar.cmpi .slt v832 c16_i32_626
  let c0_i32_627 : BitVec 32 := 0#32
  let c1_i32_628 : BitVec 32 := 1#32
  let v834 : BitVec 32 := Scalar.select v833 c0_i32_627 c1_i32_628
  let c1_i32_643 : BitVec 32 := 1#32
  let v861 : BitVec 32 := Scalar.subi c1_i32_643 v834
  let v862 : BitVec 32 := Scalar.select v860 v834 v861
  let v866 : BitVec 32 := Scalar.addi v865 v862
  let c256_i32_646 : BitVec 32 := 256#32
  let v867 : BitVec 32 := Scalar.muli v866 c256_i32_646
  let c1024_i32 : BitVec 32 := 1024#32
  ![v867.toNat, 1024]
def k0_off19_at (r : Fin 2) : BitVec 32 × BitVec 32 × BitVec 32 :=
  if r.val < 1 then
    (30#32, 30#32, 30#32)
  else
    (61#32, 61#32, 61#32)
def k0_dev20 (d0 : Dev nD) : Nat :=
  let c0_i32_664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c1_i32_40 : BitVec 32 := 1#32
  let v89 : BitVec 32 := Scalar.addi v50 c1_i32_40
  let c64_i32_41 : BitVec 32 := 64#32
  let v90 : BitVec 32 := Scalar.addi v89 c64_i32_41
  let c32_i32_42 : BitVec 32 := 32#32
  let v91 : BitVec 32 := Scalar.remsi v90 c32_i32_42
  let c16_i32_46 : BitVec 32 := 16#32
  let v94 : BitVec 1 := Scalar.cmpi .slt v91 c16_i32_46
  let c31_i32_47 : BitVec 32 := 31#32
  let v95 : BitVec 32 := Scalar.subi c31_i32_47 v91
  let v96 : BitVec 32 := Scalar.select v94 v91 v95
  let c0_i32_49 : BitVec 32 := 0#32
  let v98 : BitVec 1 := Scalar.cmpi .sgt v96 c0_i32_49
  let v99 : BitVec 32 := Scalar.extui v98
  let c0_i32_50 : BitVec 32 := 0#32
  let v100 : BitVec 1 := Scalar.cmpi .slt v96 c0_i32_50
  let v101 : BitVec 32 := Scalar.extui v100
  let v102 : BitVec 32 := Scalar.subi v99 v101
  let c4_i32_48 : BitVec 32 := 4#32
  let c0_i32_51 : BitVec 32 := 0#32
  let v103 : BitVec 1 := Scalar.cmpi .sgt c4_i32_48 c0_i32_51
  let v104 : BitVec 32 := Scalar.extui v103
  let c0_i32_52 : BitVec 32 := 0#32
  let v105 : BitVec 1 := Scalar.cmpi .slt c4_i32_48 c0_i32_52
  let v106 : BitVec 32 := Scalar.extui v105
  let v107 : BitVec 32 := Scalar.subi v104 v106
  let v108 : BitVec 1 := Scalar.cmpi .ne v102 v107
  let v109 : BitVec 32 := Scalar.remsi v96 c4_i32_48
  let c0_i32_53 : BitVec 32 := 0#32
  let v110 : BitVec 1 := Scalar.cmpi .ne v109 c0_i32_53
  let v111 : BitVec 1 := Scalar.andi v108 v110
  let v97 : BitVec 32 := Scalar.divsi v96 c4_i32_48
  let c1_i32_54 : BitVec 32 := 1#32
  let v112 : BitVec 32 := Scalar.subi v97 c1_i32_54
  let v113 : BitVec 32 := Scalar.select v111 v112 v97
  let c2_i32_56 : BitVec 32 := 2#32
  let v115 : BitVec 32 := Scalar.remsi v113 c2_i32_56
  let c0_i32_57 : BitVec 32 := 0#32
  let v116 : BitVec 1 := Scalar.cmpi .eq v115 c0_i32_57
  let c4_i32_55 : BitVec 32 := 4#32
  let v114 : BitVec 32 := Scalar.remsi v96 c4_i32_55
  let c3_i32_58 : BitVec 32 := 3#32
  let v117 : BitVec 32 := Scalar.subi c3_i32_58 v114
  let v118 : BitVec 32 := Scalar.select v116 v114 v117
  let c8_i32_61 : BitVec 32 := 8#32
  let v122 : BitVec 32 := Scalar.muli v118 c8_i32_61
  let c2_i32_62 : BitVec 32 := 2#32
  let v123 : BitVec 32 := Scalar.muli v113 c2_i32_62
  let v124 : BitVec 32 := Scalar.addi v122 v123
  let c0_i32_59 : BitVec 32 := 0#32
  let v119 : BitVec 1 := Scalar.cmpi .eq v115 c0_i32_59
  let c16_i32_43 : BitVec 32 := 16#32
  let v92 : BitVec 1 := Scalar.cmpi .slt v91 c16_i32_43
  let c0_i32_44 : BitVec 32 := 0#32
  let c1_i32_45 : BitVec 32 := 1#32
  let v93 : BitVec 32 := Scalar.select v92 c0_i32_44 c1_i32_45
  let c1_i32_60 : BitVec 32 := 1#32
  let v120 : BitVec 32 := Scalar.subi c1_i32_60 v93
  let v121 : BitVec 32 := Scalar.select v119 v93 v120
  let v125 : BitVec 32 := Scalar.addi v124 v121
  let c1_i32_663 : BitVec 32 := 1#32
  let v876 : BitVec 32 := Scalar.muli v125 c1_i32_663
  let v877 : BitVec 32 := Scalar.addi c0_i32_664 v876
  v877.toNat
def k0_dev21 (d0 : Dev nD) : Nat :=
  let c0_i32_695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c1_i32_40 : BitVec 32 := 1#32
  let v89 : BitVec 32 := Scalar.addi v50 c1_i32_40
  let c64_i32_41 : BitVec 32 := 64#32
  let v90 : BitVec 32 := Scalar.addi v89 c64_i32_41
  let c32_i32_42 : BitVec 32 := 32#32
  let v91 : BitVec 32 := Scalar.remsi v90 c32_i32_42
  let c16_i32_46 : BitVec 32 := 16#32
  let v94 : BitVec 1 := Scalar.cmpi .slt v91 c16_i32_46
  let c31_i32_47 : BitVec 32 := 31#32
  let v95 : BitVec 32 := Scalar.subi c31_i32_47 v91
  let v96 : BitVec 32 := Scalar.select v94 v91 v95
  let c0_i32_49 : BitVec 32 := 0#32
  let v98 : BitVec 1 := Scalar.cmpi .sgt v96 c0_i32_49
  let v99 : BitVec 32 := Scalar.extui v98
  let c0_i32_50 : BitVec 32 := 0#32
  let v100 : BitVec 1 := Scalar.cmpi .slt v96 c0_i32_50
  let v101 : BitVec 32 := Scalar.extui v100
  let v102 : BitVec 32 := Scalar.subi v99 v101
  let c4_i32_48 : BitVec 32 := 4#32
  let c0_i32_51 : BitVec 32 := 0#32
  let v103 : BitVec 1 := Scalar.cmpi .sgt c4_i32_48 c0_i32_51
  let v104 : BitVec 32 := Scalar.extui v103
  let c0_i32_52 : BitVec 32 := 0#32
  let v105 : BitVec 1 := Scalar.cmpi .slt c4_i32_48 c0_i32_52
  let v106 : BitVec 32 := Scalar.extui v105
  let v107 : BitVec 32 := Scalar.subi v104 v106
  let v108 : BitVec 1 := Scalar.cmpi .ne v102 v107
  let v109 : BitVec 32 := Scalar.remsi v96 c4_i32_48
  let c0_i32_53 : BitVec 32 := 0#32
  let v110 : BitVec 1 := Scalar.cmpi .ne v109 c0_i32_53
  let v111 : BitVec 1 := Scalar.andi v108 v110
  let v97 : BitVec 32 := Scalar.divsi v96 c4_i32_48
  let c1_i32_54 : BitVec 32 := 1#32
  let v112 : BitVec 32 := Scalar.subi v97 c1_i32_54
  let v113 : BitVec 32 := Scalar.select v111 v112 v97
  let c2_i32_56 : BitVec 32 := 2#32
  let v115 : BitVec 32 := Scalar.remsi v113 c2_i32_56
  let c0_i32_57 : BitVec 32 := 0#32
  let v116 : BitVec 1 := Scalar.cmpi .eq v115 c0_i32_57
  let c4_i32_55 : BitVec 32 := 4#32
  let v114 : BitVec 32 := Scalar.remsi v96 c4_i32_55
  let c3_i32_58 : BitVec 32 := 3#32
  let v117 : BitVec 32 := Scalar.subi c3_i32_58 v114
  let v118 : BitVec 32 := Scalar.select v116 v114 v117
  let c8_i32_61 : BitVec 32 := 8#32
  let v122 : BitVec 32 := Scalar.muli v118 c8_i32_61
  let c2_i32_62 : BitVec 32 := 2#32
  let v123 : BitVec 32 := Scalar.muli v113 c2_i32_62
  let v124 : BitVec 32 := Scalar.addi v122 v123
  let c0_i32_59 : BitVec 32 := 0#32
  let v119 : BitVec 1 := Scalar.cmpi .eq v115 c0_i32_59
  let c16_i32_43 : BitVec 32 := 16#32
  let v92 : BitVec 1 := Scalar.cmpi .slt v91 c16_i32_43
  let c0_i32_44 : BitVec 32 := 0#32
  let c1_i32_45 : BitVec 32 := 1#32
  let v93 : BitVec 32 := Scalar.select v92 c0_i32_44 c1_i32_45
  let c1_i32_60 : BitVec 32 := 1#32
  let v120 : BitVec 32 := Scalar.subi c1_i32_60 v93
  let v121 : BitVec 32 := Scalar.select v119 v93 v120
  let v125 : BitVec 32 := Scalar.addi v124 v121
  let c1_i32_694 : BitVec 32 := 1#32
  let v902 : BitVec 32 := Scalar.muli v125 c1_i32_694
  let v903 : BitVec 32 := Scalar.addi c0_i32_695 v902
  v903.toNat
def k0_off20 (d0 : Dev nD) (c30_i32_715 : BitVec 32) (c30_i32_708 : BitVec 32) (c30_i32_711 : BitVec 32) : Fin 2 → Nat :=
  let c31_i32_716 : BitVec 32 := 31#32
  let v931 : BitVec 1 := Scalar.cmpi .slt c30_i32_715 c31_i32_716
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let v924 : BitVec 32 := Scalar.addi v50 c30_i32_708
  let c1_i32_709 : BitVec 32 := 1#32
  let v925 : BitVec 32 := Scalar.addi v924 c1_i32_709
  let c32_i32_710 : BitVec 32 := 32#32
  let v926 : BitVec 32 := Scalar.remsi v925 c32_i32_710
  let v927 : BitVec 32 := Scalar.addi v50 c30_i32_711
  let c31_i32_712 : BitVec 32 := 31#32
  let v928 : BitVec 32 := Scalar.subi v927 c31_i32_712
  let c96_i32_713 : BitVec 32 := 96#32
  let v929 : BitVec 32 := Scalar.addi v928 c96_i32_713
  let c32_i32_714 : BitVec 32 := 32#32
  let v930 : BitVec 32 := Scalar.remsi v929 c32_i32_714
  let v932 : BitVec 32 := Scalar.select v931 v926 v930
  let c64_i32_717 : BitVec 32 := 64#32
  let v933 : BitVec 32 := Scalar.addi v932 c64_i32_717
  let c32_i32_718 : BitVec 32 := 32#32
  let v934 : BitVec 32 := Scalar.remsi v933 c32_i32_718
  let c16_i32_722 : BitVec 32 := 16#32
  let v937 : BitVec 1 := Scalar.cmpi .slt v934 c16_i32_722
  let c31_i32_723 : BitVec 32 := 31#32
  let v938 : BitVec 32 := Scalar.subi c31_i32_723 v934
  let v939 : BitVec 32 := Scalar.select v937 v934 v938
  let c0_i32_725 : BitVec 32 := 0#32
  let v941 : BitVec 1 := Scalar.cmpi .sgt v939 c0_i32_725
  let v942 : BitVec 32 := Scalar.extui v941
  let c0_i32_726 : BitVec 32 := 0#32
  let v943 : BitVec 1 := Scalar.cmpi .slt v939 c0_i32_726
  let v944 : BitVec 32 := Scalar.extui v943
  let v945 : BitVec 32 := Scalar.subi v942 v944
  let c4_i32_724 : BitVec 32 := 4#32
  let c0_i32_727 : BitVec 32 := 0#32
  let v946 : BitVec 1 := Scalar.cmpi .sgt c4_i32_724 c0_i32_727
  let v947 : BitVec 32 := Scalar.extui v946
  let c0_i32_728 : BitVec 32 := 0#32
  let v948 : BitVec 1 := Scalar.cmpi .slt c4_i32_724 c0_i32_728
  let v949 : BitVec 32 := Scalar.extui v948
  let v950 : BitVec 32 := Scalar.subi v947 v949
  let v951 : BitVec 1 := Scalar.cmpi .ne v945 v950
  let v952 : BitVec 32 := Scalar.remsi v939 c4_i32_724
  let c0_i32_729 : BitVec 32 := 0#32
  let v953 : BitVec 1 := Scalar.cmpi .ne v952 c0_i32_729
  let v954 : BitVec 1 := Scalar.andi v951 v953
  let v940 : BitVec 32 := Scalar.divsi v939 c4_i32_724
  let c1_i32_730 : BitVec 32 := 1#32
  let v955 : BitVec 32 := Scalar.subi v940 c1_i32_730
  let v956 : BitVec 32 := Scalar.select v954 v955 v940
  let c2_i32_732 : BitVec 32 := 2#32
  let v958 : BitVec 32 := Scalar.remsi v956 c2_i32_732
  let c0_i32_733 : BitVec 32 := 0#32
  let v959 : BitVec 1 := Scalar.cmpi .eq v958 c0_i32_733
  let c4_i32_731 : BitVec 32 := 4#32
  let v957 : BitVec 32 := Scalar.remsi v939 c4_i32_731
  let c3_i32_734 : BitVec 32 := 3#32
  let v960 : BitVec 32 := Scalar.subi c3_i32_734 v957
  let v961 : BitVec 32 := Scalar.select v959 v957 v960
  let c8_i32_737 : BitVec 32 := 8#32
  let v965 : BitVec 32 := Scalar.muli v961 c8_i32_737
  let c2_i32_738 : BitVec 32 := 2#32
  let v966 : BitVec 32 := Scalar.muli v956 c2_i32_738
  let v967 : BitVec 32 := Scalar.addi v965 v966
  let c0_i32_735 : BitVec 32 := 0#32
  let v962 : BitVec 1 := Scalar.cmpi .eq v958 c0_i32_735
  let c16_i32_719 : BitVec 32 := 16#32
  let v935 : BitVec 1 := Scalar.cmpi .slt v934 c16_i32_719
  let c0_i32_720 : BitVec 32 := 0#32
  let c1_i32_721 : BitVec 32 := 1#32
  let v936 : BitVec 32 := Scalar.select v935 c0_i32_720 c1_i32_721
  let c1_i32_736 : BitVec 32 := 1#32
  let v963 : BitVec 32 := Scalar.subi c1_i32_736 v936
  let v964 : BitVec 32 := Scalar.select v962 v936 v963
  let v968 : BitVec 32 := Scalar.addi v967 v964
  let c256_i32_739 : BitVec 32 := 256#32
  let v969 : BitVec 32 := Scalar.muli v968 c256_i32_739
  let c3072_i32 : BitVec 32 := 3072#32
  ![v969.toNat, 3072]
def k0_off20_at (r : Fin 2) : BitVec 32 × BitVec 32 × BitVec 32 :=
  if r.val < 1 then
    (30#32, 30#32, 30#32)
  else
    (61#32, 61#32, 61#32)
def k0_dev22 (d0 : Dev nD) : Nat :=
  let c0_i32_757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c32_i32_18 : BitVec 32 := 32#32
  let v51 : BitVec 32 := Scalar.addi v50 c32_i32_18
  let c1_i32_19 : BitVec 32 := 1#32
  let v52 : BitVec 32 := Scalar.subi v51 c1_i32_19
  let c64_i32 : BitVec 32 := 64#32
  let v53 : BitVec 32 := Scalar.addi v52 c64_i32
  let c32_i32_20 : BitVec 32 := 32#32
  let v54 : BitVec 32 := Scalar.remsi v53 c32_i32_20
  let c16_i32_23 : BitVec 32 := 16#32
  let v57 : BitVec 1 := Scalar.cmpi .slt v54 c16_i32_23
  let c31_i32_24 : BitVec 32 := 31#32
  let v58 : BitVec 32 := Scalar.subi c31_i32_24 v54
  let v59 : BitVec 32 := Scalar.select v57 v54 v58
  let c0_i32_26 : BitVec 32 := 0#32
  let v61 : BitVec 1 := Scalar.cmpi .sgt v59 c0_i32_26
  let v62 : BitVec 32 := Scalar.extui v61
  let c0_i32_27 : BitVec 32 := 0#32
  let v63 : BitVec 1 := Scalar.cmpi .slt v59 c0_i32_27
  let v64 : BitVec 32 := Scalar.extui v63
  let v65 : BitVec 32 := Scalar.subi v62 v64
  let c4_i32_25 : BitVec 32 := 4#32
  let c0_i32_28 : BitVec 32 := 0#32
  let v66 : BitVec 1 := Scalar.cmpi .sgt c4_i32_25 c0_i32_28
  let v67 : BitVec 32 := Scalar.extui v66
  let c0_i32_29 : BitVec 32 := 0#32
  let v68 : BitVec 1 := Scalar.cmpi .slt c4_i32_25 c0_i32_29
  let v69 : BitVec 32 := Scalar.extui v68
  let v70 : BitVec 32 := Scalar.subi v67 v69
  let v71 : BitVec 1 := Scalar.cmpi .ne v65 v70
  let v72 : BitVec 32 := Scalar.remsi v59 c4_i32_25
  let c0_i32_30 : BitVec 32 := 0#32
  let v73 : BitVec 1 := Scalar.cmpi .ne v72 c0_i32_30
  let v74 : BitVec 1 := Scalar.andi v71 v73
  let v60 : BitVec 32 := Scalar.divsi v59 c4_i32_25
  let c1_i32_31 : BitVec 32 := 1#32
  let v75 : BitVec 32 := Scalar.subi v60 c1_i32_31
  let v76 : BitVec 32 := Scalar.select v74 v75 v60
  let c2_i32_33 : BitVec 32 := 2#32
  let v78 : BitVec 32 := Scalar.remsi v76 c2_i32_33
  let c0_i32_34 : BitVec 32 := 0#32
  let v79 : BitVec 1 := Scalar.cmpi .eq v78 c0_i32_34
  let c4_i32_32 : BitVec 32 := 4#32
  let v77 : BitVec 32 := Scalar.remsi v59 c4_i32_32
  let c3_i32_35 : BitVec 32 := 3#32
  let v80 : BitVec 32 := Scalar.subi c3_i32_35 v77
  let v81 : BitVec 32 := Scalar.select v79 v77 v80
  let c8_i32_38 : BitVec 32 := 8#32
  let v85 : BitVec 32 := Scalar.muli v81 c8_i32_38
  let c2_i32_39 : BitVec 32 := 2#32
  let v86 : BitVec 32 := Scalar.muli v76 c2_i32_39
  let v87 : BitVec 32 := Scalar.addi v85 v86
  let c0_i32_36 : BitVec 32 := 0#32
  let v82 : BitVec 1 := Scalar.cmpi .eq v78 c0_i32_36
  let c16_i32 : BitVec 32 := 16#32
  let v55 : BitVec 1 := Scalar.cmpi .slt v54 c16_i32
  let c0_i32_21 : BitVec 32 := 0#32
  let c1_i32_22 : BitVec 32 := 1#32
  let v56 : BitVec 32 := Scalar.select v55 c0_i32_21 c1_i32_22
  let c1_i32_37 : BitVec 32 := 1#32
  let v83 : BitVec 32 := Scalar.subi c1_i32_37 v56
  let v84 : BitVec 32 := Scalar.select v82 v56 v83
  let v88 : BitVec 32 := Scalar.addi v87 v84
  let c1_i32_756 : BitVec 32 := 1#32
  let v978 : BitVec 32 := Scalar.muli v88 c1_i32_756
  let v979 : BitVec 32 := Scalar.addi c0_i32_757 v978
  v979.toNat
@[reducible] def k0_t2_loop : Scf.Loop 32 :=
  let c31_i32_762 : BitVec 32 := 31#32
  let c30_i32_763 : BitVec 32 := 30#32
  let v988 : BitVec 32 := Scalar.addi c31_i32_762 c30_i32_763
  let c1_i32_764 : BitVec 32 := 1#32
  ⟨c31_i32_762, v988, c1_i32_764⟩
def k0_off21 (k0_t2 : Fin k0_t2_loop.trips) : Fin 2 → Nat :=
  let c0_i32_1021 : BitVec 32 := 0#32
  let c1_i32_1020 : BitVec 32 := 1#32
  let c31_i32_762 : BitVec 32 := 31#32
  let c1_i32_764 : BitVec 32 := 1#32
  let arg15 : BitVec 32 := Scf.iv c31_i32_762 c1_i32_764 k0_t2
  let c2_i32_1019 : BitVec 32 := 2#32
  let v1255 : BitVec 32 := Scalar.remsi arg15 c2_i32_1019
  let v1256 : BitVec 32 := Scalar.subi c1_i32_1020 v1255
  ![0, v1256.toNat]
def k0_off22 (k0_t2 : Fin k0_t2_loop.trips) : Fin 3 → Nat :=
  let c1_i32_1020 : BitVec 32 := 1#32
  let c31_i32_762 : BitVec 32 := 31#32
  let c1_i32_764 : BitVec 32 := 1#32
  let arg15 : BitVec 32 := Scf.iv c31_i32_762 c1_i32_764 k0_t2
  let c2_i32_1019 : BitVec 32 := 2#32
  let v1255 : BitVec 32 := Scalar.remsi arg15 c2_i32_1019
  let v1256 : BitVec 32 := Scalar.subi c1_i32_1020 v1255
  let c0_i32_1025 : BitVec 32 := 0#32
  let c0_i32_1026 : BitVec 32 := 0#32
  ![v1256.toNat, 0, 0]
def k0_off23 (k0_t2 : Fin k0_t2_loop.trips) : Fin 3 → Nat :=
  let c31_i32_762 : BitVec 32 := 31#32
  let c1_i32_764 : BitVec 32 := 1#32
  let arg15 : BitVec 32 := Scf.iv c31_i32_762 c1_i32_764 k0_t2
  let c2_i32_1019 : BitVec 32 := 2#32
  let v1255 : BitVec 32 := Scalar.remsi arg15 c2_i32_1019
  let c0_i32_1027 : BitVec 32 := 0#32
  let c0_i32_1028 : BitVec 32 := 0#32
  ![v1255.toNat, 0, 0]
def k0_off24 (k0_t2 : Fin k0_t2_loop.trips) : Fin 2 → Nat :=
  let c0_i32_1029 : BitVec 32 := 0#32
  let c31_i32_762 : BitVec 32 := 31#32
  let c1_i32_764 : BitVec 32 := 1#32
  let arg15 : BitVec 32 := Scf.iv c31_i32_762 c1_i32_764 k0_t2
  let c2_i32_1019 : BitVec 32 := 2#32
  let v1255 : BitVec 32 := Scalar.remsi arg15 c2_i32_1019
  ![0, v1255.toNat]
def k0_dev23 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c32_i32_18 : BitVec 32 := 32#32
  let v51 : BitVec 32 := Scalar.addi v50 c32_i32_18
  let c1_i32_19 : BitVec 32 := 1#32
  let v52 : BitVec 32 := Scalar.subi v51 c1_i32_19
  let c64_i32 : BitVec 32 := 64#32
  let v53 : BitVec 32 := Scalar.addi v52 c64_i32
  let c32_i32_20 : BitVec 32 := 32#32
  let v54 : BitVec 32 := Scalar.remsi v53 c32_i32_20
  let c16_i32_23 : BitVec 32 := 16#32
  let v57 : BitVec 1 := Scalar.cmpi .slt v54 c16_i32_23
  let c31_i32_24 : BitVec 32 := 31#32
  let v58 : BitVec 32 := Scalar.subi c31_i32_24 v54
  let v59 : BitVec 32 := Scalar.select v57 v54 v58
  let c0_i32_26 : BitVec 32 := 0#32
  let v61 : BitVec 1 := Scalar.cmpi .sgt v59 c0_i32_26
  let v62 : BitVec 32 := Scalar.extui v61
  let c0_i32_27 : BitVec 32 := 0#32
  let v63 : BitVec 1 := Scalar.cmpi .slt v59 c0_i32_27
  let v64 : BitVec 32 := Scalar.extui v63
  let v65 : BitVec 32 := Scalar.subi v62 v64
  let c4_i32_25 : BitVec 32 := 4#32
  let c0_i32_28 : BitVec 32 := 0#32
  let v66 : BitVec 1 := Scalar.cmpi .sgt c4_i32_25 c0_i32_28
  let v67 : BitVec 32 := Scalar.extui v66
  let c0_i32_29 : BitVec 32 := 0#32
  let v68 : BitVec 1 := Scalar.cmpi .slt c4_i32_25 c0_i32_29
  let v69 : BitVec 32 := Scalar.extui v68
  let v70 : BitVec 32 := Scalar.subi v67 v69
  let v71 : BitVec 1 := Scalar.cmpi .ne v65 v70
  let v72 : BitVec 32 := Scalar.remsi v59 c4_i32_25
  let c0_i32_30 : BitVec 32 := 0#32
  let v73 : BitVec 1 := Scalar.cmpi .ne v72 c0_i32_30
  let v74 : BitVec 1 := Scalar.andi v71 v73
  let v60 : BitVec 32 := Scalar.divsi v59 c4_i32_25
  let c1_i32_31 : BitVec 32 := 1#32
  let v75 : BitVec 32 := Scalar.subi v60 c1_i32_31
  let v76 : BitVec 32 := Scalar.select v74 v75 v60
  let c2_i32_33 : BitVec 32 := 2#32
  let v78 : BitVec 32 := Scalar.remsi v76 c2_i32_33
  let c0_i32_34 : BitVec 32 := 0#32
  let v79 : BitVec 1 := Scalar.cmpi .eq v78 c0_i32_34
  let c4_i32_32 : BitVec 32 := 4#32
  let v77 : BitVec 32 := Scalar.remsi v59 c4_i32_32
  let c3_i32_35 : BitVec 32 := 3#32
  let v80 : BitVec 32 := Scalar.subi c3_i32_35 v77
  let v81 : BitVec 32 := Scalar.select v79 v77 v80
  let c8_i32_38 : BitVec 32 := 8#32
  let v85 : BitVec 32 := Scalar.muli v81 c8_i32_38
  let c2_i32_39 : BitVec 32 := 2#32
  let v86 : BitVec 32 := Scalar.muli v76 c2_i32_39
  let v87 : BitVec 32 := Scalar.addi v85 v86
  let c0_i32_36 : BitVec 32 := 0#32
  let v82 : BitVec 1 := Scalar.cmpi .eq v78 c0_i32_36
  let c16_i32 : BitVec 32 := 16#32
  let v55 : BitVec 1 := Scalar.cmpi .slt v54 c16_i32
  let c0_i32_21 : BitVec 32 := 0#32
  let c1_i32_22 : BitVec 32 := 1#32
  let v56 : BitVec 32 := Scalar.select v55 c0_i32_21 c1_i32_22
  let c1_i32_37 : BitVec 32 := 1#32
  let v83 : BitVec 32 := Scalar.subi c1_i32_37 v56
  let v84 : BitVec 32 := Scalar.select v82 v56 v83
  let v88 : BitVec 32 := Scalar.addi v87 v84
  let c1_i32_1038 : BitVec 32 := 1#32
  let v1273 : BitVec 32 := Scalar.muli v88 c1_i32_1038
  let v1274 : BitVec 32 := Scalar.addi c0_i32_1039 v1273
  v1274.toNat
def k0_off25 (d0 : Dev nD) (k0_t2 : Fin k0_t2_loop.trips) : Fin 2 → Nat :=
  let c31_i32_762 : BitVec 32 := 31#32
  let c1_i32_764 : BitVec 32 := 1#32
  let arg15 : BitVec 32 := Scf.iv c31_i32_762 c1_i32_764 k0_t2
  let c31_i32_1046 : BitVec 32 := 31#32
  let v1283 : BitVec 1 := Scalar.cmpi .slt arg15 c31_i32_1046
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let v1275 : BitVec 32 := Scalar.subi v50 arg15
  let c1_i32_1040 : BitVec 32 := 1#32
  let v1276 : BitVec 32 := Scalar.subi v1275 c1_i32_1040
  let c96_i32_1041 : BitVec 32 := 96#32
  let v1277 : BitVec 32 := Scalar.addi v1276 c96_i32_1041
  let c32_i32_1042 : BitVec 32 := 32#32
  let v1278 : BitVec 32 := Scalar.remsi v1277 c32_i32_1042
  let c31_i32_1043 : BitVec 32 := 31#32
  let v1279 : BitVec 32 := Scalar.subi arg15 c31_i32_1043
  let v1280 : BitVec 32 := Scalar.subi v50 v1279
  let c96_i32_1044 : BitVec 32 := 96#32
  let v1281 : BitVec 32 := Scalar.addi v1280 c96_i32_1044
  let c32_i32_1045 : BitVec 32 := 32#32
  let v1282 : BitVec 32 := Scalar.remsi v1281 c32_i32_1045
  let v1284 : BitVec 32 := Scalar.select v1283 v1278 v1282
  let c64_i32_1047 : BitVec 32 := 64#32
  let v1285 : BitVec 32 := Scalar.addi v1284 c64_i32_1047
  let c32_i32_1048 : BitVec 32 := 32#32
  let v1286 : BitVec 32 := Scalar.remsi v1285 c32_i32_1048
  let c16_i32_1052 : BitVec 32 := 16#32
  let v1289 : BitVec 1 := Scalar.cmpi .slt v1286 c16_i32_1052
  let c31_i32_1053 : BitVec 32 := 31#32
  let v1290 : BitVec 32 := Scalar.subi c31_i32_1053 v1286
  let v1291 : BitVec 32 := Scalar.select v1289 v1286 v1290
  let c0_i32_1055 : BitVec 32 := 0#32
  let v1293 : BitVec 1 := Scalar.cmpi .sgt v1291 c0_i32_1055
  let v1294 : BitVec 32 := Scalar.extui v1293
  let c0_i32_1056 : BitVec 32 := 0#32
  let v1295 : BitVec 1 := Scalar.cmpi .slt v1291 c0_i32_1056
  let v1296 : BitVec 32 := Scalar.extui v1295
  let v1297 : BitVec 32 := Scalar.subi v1294 v1296
  let c4_i32_1054 : BitVec 32 := 4#32
  let c0_i32_1057 : BitVec 32 := 0#32
  let v1298 : BitVec 1 := Scalar.cmpi .sgt c4_i32_1054 c0_i32_1057
  let v1299 : BitVec 32 := Scalar.extui v1298
  let c0_i32_1058 : BitVec 32 := 0#32
  let v1300 : BitVec 1 := Scalar.cmpi .slt c4_i32_1054 c0_i32_1058
  let v1301 : BitVec 32 := Scalar.extui v1300
  let v1302 : BitVec 32 := Scalar.subi v1299 v1301
  let v1303 : BitVec 1 := Scalar.cmpi .ne v1297 v1302
  let v1304 : BitVec 32 := Scalar.remsi v1291 c4_i32_1054
  let c0_i32_1059 : BitVec 32 := 0#32
  let v1305 : BitVec 1 := Scalar.cmpi .ne v1304 c0_i32_1059
  let v1306 : BitVec 1 := Scalar.andi v1303 v1305
  let v1292 : BitVec 32 := Scalar.divsi v1291 c4_i32_1054
  let c1_i32_1060 : BitVec 32 := 1#32
  let v1307 : BitVec 32 := Scalar.subi v1292 c1_i32_1060
  let v1308 : BitVec 32 := Scalar.select v1306 v1307 v1292
  let c2_i32_1062 : BitVec 32 := 2#32
  let v1310 : BitVec 32 := Scalar.remsi v1308 c2_i32_1062
  let c0_i32_1063 : BitVec 32 := 0#32
  let v1311 : BitVec 1 := Scalar.cmpi .eq v1310 c0_i32_1063
  let c4_i32_1061 : BitVec 32 := 4#32
  let v1309 : BitVec 32 := Scalar.remsi v1291 c4_i32_1061
  let c3_i32_1064 : BitVec 32 := 3#32
  let v1312 : BitVec 32 := Scalar.subi c3_i32_1064 v1309
  let v1313 : BitVec 32 := Scalar.select v1311 v1309 v1312
  let c8_i32_1067 : BitVec 32 := 8#32
  let v1317 : BitVec 32 := Scalar.muli v1313 c8_i32_1067
  let c2_i32_1068 : BitVec 32 := 2#32
  let v1318 : BitVec 32 := Scalar.muli v1308 c2_i32_1068
  let v1319 : BitVec 32 := Scalar.addi v1317 v1318
  let c0_i32_1065 : BitVec 32 := 0#32
  let v1314 : BitVec 1 := Scalar.cmpi .eq v1310 c0_i32_1065
  let c16_i32_1049 : BitVec 32 := 16#32
  let v1287 : BitVec 1 := Scalar.cmpi .slt v1286 c16_i32_1049
  let c0_i32_1050 : BitVec 32 := 0#32
  let c1_i32_1051 : BitVec 32 := 1#32
  let v1288 : BitVec 32 := Scalar.select v1287 c0_i32_1050 c1_i32_1051
  let c1_i32_1066 : BitVec 32 := 1#32
  let v1315 : BitVec 32 := Scalar.subi c1_i32_1066 v1288
  let v1316 : BitVec 32 := Scalar.select v1314 v1288 v1315
  let v1320 : BitVec 32 := Scalar.addi v1319 v1316
  let c256_i32_1069 : BitVec 32 := 256#32
  let v1321 : BitVec 32 := Scalar.muli v1320 c256_i32_1069
  let c0_i32_1070 : BitVec 32 := 0#32
  ![v1321.toNat, 0]
def k0_dev24 (d0 : Dev nD) : Nat :=
  let c0_i32_1082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c1_i32_40 : BitVec 32 := 1#32
  let v89 : BitVec 32 := Scalar.addi v50 c1_i32_40
  let c64_i32_41 : BitVec 32 := 64#32
  let v90 : BitVec 32 := Scalar.addi v89 c64_i32_41
  let c32_i32_42 : BitVec 32 := 32#32
  let v91 : BitVec 32 := Scalar.remsi v90 c32_i32_42
  let c16_i32_46 : BitVec 32 := 16#32
  let v94 : BitVec 1 := Scalar.cmpi .slt v91 c16_i32_46
  let c31_i32_47 : BitVec 32 := 31#32
  let v95 : BitVec 32 := Scalar.subi c31_i32_47 v91
  let v96 : BitVec 32 := Scalar.select v94 v91 v95
  let c0_i32_49 : BitVec 32 := 0#32
  let v98 : BitVec 1 := Scalar.cmpi .sgt v96 c0_i32_49
  let v99 : BitVec 32 := Scalar.extui v98
  let c0_i32_50 : BitVec 32 := 0#32
  let v100 : BitVec 1 := Scalar.cmpi .slt v96 c0_i32_50
  let v101 : BitVec 32 := Scalar.extui v100
  let v102 : BitVec 32 := Scalar.subi v99 v101
  let c4_i32_48 : BitVec 32 := 4#32
  let c0_i32_51 : BitVec 32 := 0#32
  let v103 : BitVec 1 := Scalar.cmpi .sgt c4_i32_48 c0_i32_51
  let v104 : BitVec 32 := Scalar.extui v103
  let c0_i32_52 : BitVec 32 := 0#32
  let v105 : BitVec 1 := Scalar.cmpi .slt c4_i32_48 c0_i32_52
  let v106 : BitVec 32 := Scalar.extui v105
  let v107 : BitVec 32 := Scalar.subi v104 v106
  let v108 : BitVec 1 := Scalar.cmpi .ne v102 v107
  let v109 : BitVec 32 := Scalar.remsi v96 c4_i32_48
  let c0_i32_53 : BitVec 32 := 0#32
  let v110 : BitVec 1 := Scalar.cmpi .ne v109 c0_i32_53
  let v111 : BitVec 1 := Scalar.andi v108 v110
  let v97 : BitVec 32 := Scalar.divsi v96 c4_i32_48
  let c1_i32_54 : BitVec 32 := 1#32
  let v112 : BitVec 32 := Scalar.subi v97 c1_i32_54
  let v113 : BitVec 32 := Scalar.select v111 v112 v97
  let c2_i32_56 : BitVec 32 := 2#32
  let v115 : BitVec 32 := Scalar.remsi v113 c2_i32_56
  let c0_i32_57 : BitVec 32 := 0#32
  let v116 : BitVec 1 := Scalar.cmpi .eq v115 c0_i32_57
  let c4_i32_55 : BitVec 32 := 4#32
  let v114 : BitVec 32 := Scalar.remsi v96 c4_i32_55
  let c3_i32_58 : BitVec 32 := 3#32
  let v117 : BitVec 32 := Scalar.subi c3_i32_58 v114
  let v118 : BitVec 32 := Scalar.select v116 v114 v117
  let c8_i32_61 : BitVec 32 := 8#32
  let v122 : BitVec 32 := Scalar.muli v118 c8_i32_61
  let c2_i32_62 : BitVec 32 := 2#32
  let v123 : BitVec 32 := Scalar.muli v113 c2_i32_62
  let v124 : BitVec 32 := Scalar.addi v122 v123
  let c0_i32_59 : BitVec 32 := 0#32
  let v119 : BitVec 1 := Scalar.cmpi .eq v115 c0_i32_59
  let c16_i32_43 : BitVec 32 := 16#32
  let v92 : BitVec 1 := Scalar.cmpi .slt v91 c16_i32_43
  let c0_i32_44 : BitVec 32 := 0#32
  let c1_i32_45 : BitVec 32 := 1#32
  let v93 : BitVec 32 := Scalar.select v92 c0_i32_44 c1_i32_45
  let c1_i32_60 : BitVec 32 := 1#32
  let v120 : BitVec 32 := Scalar.subi c1_i32_60 v93
  let v121 : BitVec 32 := Scalar.select v119 v93 v120
  let v125 : BitVec 32 := Scalar.addi v124 v121
  let c1_i32_1081 : BitVec 32 := 1#32
  let v1330 : BitVec 32 := Scalar.muli v125 c1_i32_1081
  let v1331 : BitVec 32 := Scalar.addi c0_i32_1082 v1330
  v1331.toNat
def k0_off26 (k0_t2 : Fin k0_t2_loop.trips) : Fin 2 → Nat :=
  let c2_i32_1087 : BitVec 32 := 2#32
  let c1_i32_1020 : BitVec 32 := 1#32
  let c31_i32_762 : BitVec 32 := 31#32
  let c1_i32_764 : BitVec 32 := 1#32
  let arg15 : BitVec 32 := Scf.iv c31_i32_762 c1_i32_764 k0_t2
  let c2_i32_1019 : BitVec 32 := 2#32
  let v1255 : BitVec 32 := Scalar.remsi arg15 c2_i32_1019
  let v1256 : BitVec 32 := Scalar.subi c1_i32_1020 v1255
  ![2, v1256.toNat]
def k0_off27 (k0_t2 : Fin k0_t2_loop.trips) : Fin 2 → Nat :=
  let c2_i32_1095 : BitVec 32 := 2#32
  let c31_i32_762 : BitVec 32 := 31#32
  let c1_i32_764 : BitVec 32 := 1#32
  let arg15 : BitVec 32 := Scf.iv c31_i32_762 c1_i32_764 k0_t2
  let c2_i32_1019 : BitVec 32 := 2#32
  let v1255 : BitVec 32 := Scalar.remsi arg15 c2_i32_1019
  ![2, v1255.toNat]
def k0_dev25 (d0 : Dev nD) : Nat :=
  let c0_i32_1105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c1_i32_40 : BitVec 32 := 1#32
  let v89 : BitVec 32 := Scalar.addi v50 c1_i32_40
  let c64_i32_41 : BitVec 32 := 64#32
  let v90 : BitVec 32 := Scalar.addi v89 c64_i32_41
  let c32_i32_42 : BitVec 32 := 32#32
  let v91 : BitVec 32 := Scalar.remsi v90 c32_i32_42
  let c16_i32_46 : BitVec 32 := 16#32
  let v94 : BitVec 1 := Scalar.cmpi .slt v91 c16_i32_46
  let c31_i32_47 : BitVec 32 := 31#32
  let v95 : BitVec 32 := Scalar.subi c31_i32_47 v91
  let v96 : BitVec 32 := Scalar.select v94 v91 v95
  let c0_i32_49 : BitVec 32 := 0#32
  let v98 : BitVec 1 := Scalar.cmpi .sgt v96 c0_i32_49
  let v99 : BitVec 32 := Scalar.extui v98
  let c0_i32_50 : BitVec 32 := 0#32
  let v100 : BitVec 1 := Scalar.cmpi .slt v96 c0_i32_50
  let v101 : BitVec 32 := Scalar.extui v100
  let v102 : BitVec 32 := Scalar.subi v99 v101
  let c4_i32_48 : BitVec 32 := 4#32
  let c0_i32_51 : BitVec 32 := 0#32
  let v103 : BitVec 1 := Scalar.cmpi .sgt c4_i32_48 c0_i32_51
  let v104 : BitVec 32 := Scalar.extui v103
  let c0_i32_52 : BitVec 32 := 0#32
  let v105 : BitVec 1 := Scalar.cmpi .slt c4_i32_48 c0_i32_52
  let v106 : BitVec 32 := Scalar.extui v105
  let v107 : BitVec 32 := Scalar.subi v104 v106
  let v108 : BitVec 1 := Scalar.cmpi .ne v102 v107
  let v109 : BitVec 32 := Scalar.remsi v96 c4_i32_48
  let c0_i32_53 : BitVec 32 := 0#32
  let v110 : BitVec 1 := Scalar.cmpi .ne v109 c0_i32_53
  let v111 : BitVec 1 := Scalar.andi v108 v110
  let v97 : BitVec 32 := Scalar.divsi v96 c4_i32_48
  let c1_i32_54 : BitVec 32 := 1#32
  let v112 : BitVec 32 := Scalar.subi v97 c1_i32_54
  let v113 : BitVec 32 := Scalar.select v111 v112 v97
  let c2_i32_56 : BitVec 32 := 2#32
  let v115 : BitVec 32 := Scalar.remsi v113 c2_i32_56
  let c0_i32_57 : BitVec 32 := 0#32
  let v116 : BitVec 1 := Scalar.cmpi .eq v115 c0_i32_57
  let c4_i32_55 : BitVec 32 := 4#32
  let v114 : BitVec 32 := Scalar.remsi v96 c4_i32_55
  let c3_i32_58 : BitVec 32 := 3#32
  let v117 : BitVec 32 := Scalar.subi c3_i32_58 v114
  let v118 : BitVec 32 := Scalar.select v116 v114 v117
  let c8_i32_61 : BitVec 32 := 8#32
  let v122 : BitVec 32 := Scalar.muli v118 c8_i32_61
  let c2_i32_62 : BitVec 32 := 2#32
  let v123 : BitVec 32 := Scalar.muli v113 c2_i32_62
  let v124 : BitVec 32 := Scalar.addi v122 v123
  let c0_i32_59 : BitVec 32 := 0#32
  let v119 : BitVec 1 := Scalar.cmpi .eq v115 c0_i32_59
  let c16_i32_43 : BitVec 32 := 16#32
  let v92 : BitVec 1 := Scalar.cmpi .slt v91 c16_i32_43
  let c0_i32_44 : BitVec 32 := 0#32
  let c1_i32_45 : BitVec 32 := 1#32
  let v93 : BitVec 32 := Scalar.select v92 c0_i32_44 c1_i32_45
  let c1_i32_60 : BitVec 32 := 1#32
  let v120 : BitVec 32 := Scalar.subi c1_i32_60 v93
  let v121 : BitVec 32 := Scalar.select v119 v93 v120
  let v125 : BitVec 32 := Scalar.addi v124 v121
  let c1_i32_1104 : BitVec 32 := 1#32
  let v1356 : BitVec 32 := Scalar.muli v125 c1_i32_1104
  let v1357 : BitVec 32 := Scalar.addi c0_i32_1105 v1356
  v1357.toNat
def k0_off28 (d0 : Dev nD) (k0_t2 : Fin k0_t2_loop.trips) : Fin 2 → Nat :=
  let c31_i32_762 : BitVec 32 := 31#32
  let c1_i32_764 : BitVec 32 := 1#32
  let arg15 : BitVec 32 := Scf.iv c31_i32_762 c1_i32_764 k0_t2
  let c31_i32_1111 : BitVec 32 := 31#32
  let v1365 : BitVec 1 := Scalar.cmpi .slt arg15 c31_i32_1111
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let v1358 : BitVec 32 := Scalar.addi v50 arg15
  let c1_i32_1106 : BitVec 32 := 1#32
  let v1359 : BitVec 32 := Scalar.addi v1358 c1_i32_1106
  let c32_i32_1107 : BitVec 32 := 32#32
  let v1360 : BitVec 32 := Scalar.remsi v1359 c32_i32_1107
  let v1361 : BitVec 32 := Scalar.addi v50 arg15
  let c31_i32_1108 : BitVec 32 := 31#32
  let v1362 : BitVec 32 := Scalar.subi v1361 c31_i32_1108
  let c96_i32_1109 : BitVec 32 := 96#32
  let v1363 : BitVec 32 := Scalar.addi v1362 c96_i32_1109
  let c32_i32_1110 : BitVec 32 := 32#32
  let v1364 : BitVec 32 := Scalar.remsi v1363 c32_i32_1110
  let v1366 : BitVec 32 := Scalar.select v1365 v1360 v1364
  let c64_i32_1112 : BitVec 32 := 64#32
  let v1367 : BitVec 32 := Scalar.addi v1366 c64_i32_1112
  let c32_i32_1113 : BitVec 32 := 32#32
  let v1368 : BitVec 32 := Scalar.remsi v1367 c32_i32_1113
  let c16_i32_1117 : BitVec 32 := 16#32
  let v1371 : BitVec 1 := Scalar.cmpi .slt v1368 c16_i32_1117
  let c31_i32_1118 : BitVec 32 := 31#32
  let v1372 : BitVec 32 := Scalar.subi c31_i32_1118 v1368
  let v1373 : BitVec 32 := Scalar.select v1371 v1368 v1372
  let c0_i32_1120 : BitVec 32 := 0#32
  let v1375 : BitVec 1 := Scalar.cmpi .sgt v1373 c0_i32_1120
  let v1376 : BitVec 32 := Scalar.extui v1375
  let c0_i32_1121 : BitVec 32 := 0#32
  let v1377 : BitVec 1 := Scalar.cmpi .slt v1373 c0_i32_1121
  let v1378 : BitVec 32 := Scalar.extui v1377
  let v1379 : BitVec 32 := Scalar.subi v1376 v1378
  let c4_i32_1119 : BitVec 32 := 4#32
  let c0_i32_1122 : BitVec 32 := 0#32
  let v1380 : BitVec 1 := Scalar.cmpi .sgt c4_i32_1119 c0_i32_1122
  let v1381 : BitVec 32 := Scalar.extui v1380
  let c0_i32_1123 : BitVec 32 := 0#32
  let v1382 : BitVec 1 := Scalar.cmpi .slt c4_i32_1119 c0_i32_1123
  let v1383 : BitVec 32 := Scalar.extui v1382
  let v1384 : BitVec 32 := Scalar.subi v1381 v1383
  let v1385 : BitVec 1 := Scalar.cmpi .ne v1379 v1384
  let v1386 : BitVec 32 := Scalar.remsi v1373 c4_i32_1119
  let c0_i32_1124 : BitVec 32 := 0#32
  let v1387 : BitVec 1 := Scalar.cmpi .ne v1386 c0_i32_1124
  let v1388 : BitVec 1 := Scalar.andi v1385 v1387
  let v1374 : BitVec 32 := Scalar.divsi v1373 c4_i32_1119
  let c1_i32_1125 : BitVec 32 := 1#32
  let v1389 : BitVec 32 := Scalar.subi v1374 c1_i32_1125
  let v1390 : BitVec 32 := Scalar.select v1388 v1389 v1374
  let c2_i32_1127 : BitVec 32 := 2#32
  let v1392 : BitVec 32 := Scalar.remsi v1390 c2_i32_1127
  let c0_i32_1128 : BitVec 32 := 0#32
  let v1393 : BitVec 1 := Scalar.cmpi .eq v1392 c0_i32_1128
  let c4_i32_1126 : BitVec 32 := 4#32
  let v1391 : BitVec 32 := Scalar.remsi v1373 c4_i32_1126
  let c3_i32_1129 : BitVec 32 := 3#32
  let v1394 : BitVec 32 := Scalar.subi c3_i32_1129 v1391
  let v1395 : BitVec 32 := Scalar.select v1393 v1391 v1394
  let c8_i32_1132 : BitVec 32 := 8#32
  let v1399 : BitVec 32 := Scalar.muli v1395 c8_i32_1132
  let c2_i32_1133 : BitVec 32 := 2#32
  let v1400 : BitVec 32 := Scalar.muli v1390 c2_i32_1133
  let v1401 : BitVec 32 := Scalar.addi v1399 v1400
  let c0_i32_1130 : BitVec 32 := 0#32
  let v1396 : BitVec 1 := Scalar.cmpi .eq v1392 c0_i32_1130
  let c16_i32_1114 : BitVec 32 := 16#32
  let v1369 : BitVec 1 := Scalar.cmpi .slt v1368 c16_i32_1114
  let c0_i32_1115 : BitVec 32 := 0#32
  let c1_i32_1116 : BitVec 32 := 1#32
  let v1370 : BitVec 32 := Scalar.select v1369 c0_i32_1115 c1_i32_1116
  let c1_i32_1131 : BitVec 32 := 1#32
  let v1397 : BitVec 32 := Scalar.subi c1_i32_1131 v1370
  let v1398 : BitVec 32 := Scalar.select v1396 v1370 v1397
  let v1402 : BitVec 32 := Scalar.addi v1401 v1398
  let c256_i32_1134 : BitVec 32 := 256#32
  let v1403 : BitVec 32 := Scalar.muli v1402 c256_i32_1134
  let c2048_i32_1135 : BitVec 32 := 2048#32
  ![v1403.toNat, 2048]
def k0_dev26 (d0 : Dev nD) : Nat :=
  let c0_i32_1147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c32_i32_18 : BitVec 32 := 32#32
  let v51 : BitVec 32 := Scalar.addi v50 c32_i32_18
  let c1_i32_19 : BitVec 32 := 1#32
  let v52 : BitVec 32 := Scalar.subi v51 c1_i32_19
  let c64_i32 : BitVec 32 := 64#32
  let v53 : BitVec 32 := Scalar.addi v52 c64_i32
  let c32_i32_20 : BitVec 32 := 32#32
  let v54 : BitVec 32 := Scalar.remsi v53 c32_i32_20
  let c16_i32_23 : BitVec 32 := 16#32
  let v57 : BitVec 1 := Scalar.cmpi .slt v54 c16_i32_23
  let c31_i32_24 : BitVec 32 := 31#32
  let v58 : BitVec 32 := Scalar.subi c31_i32_24 v54
  let v59 : BitVec 32 := Scalar.select v57 v54 v58
  let c0_i32_26 : BitVec 32 := 0#32
  let v61 : BitVec 1 := Scalar.cmpi .sgt v59 c0_i32_26
  let v62 : BitVec 32 := Scalar.extui v61
  let c0_i32_27 : BitVec 32 := 0#32
  let v63 : BitVec 1 := Scalar.cmpi .slt v59 c0_i32_27
  let v64 : BitVec 32 := Scalar.extui v63
  let v65 : BitVec 32 := Scalar.subi v62 v64
  let c4_i32_25 : BitVec 32 := 4#32
  let c0_i32_28 : BitVec 32 := 0#32
  let v66 : BitVec 1 := Scalar.cmpi .sgt c4_i32_25 c0_i32_28
  let v67 : BitVec 32 := Scalar.extui v66
  let c0_i32_29 : BitVec 32 := 0#32
  let v68 : BitVec 1 := Scalar.cmpi .slt c4_i32_25 c0_i32_29
  let v69 : BitVec 32 := Scalar.extui v68
  let v70 : BitVec 32 := Scalar.subi v67 v69
  let v71 : BitVec 1 := Scalar.cmpi .ne v65 v70
  let v72 : BitVec 32 := Scalar.remsi v59 c4_i32_25
  let c0_i32_30 : BitVec 32 := 0#32
  let v73 : BitVec 1 := Scalar.cmpi .ne v72 c0_i32_30
  let v74 : BitVec 1 := Scalar.andi v71 v73
  let v60 : BitVec 32 := Scalar.divsi v59 c4_i32_25
  let c1_i32_31 : BitVec 32 := 1#32
  let v75 : BitVec 32 := Scalar.subi v60 c1_i32_31
  let v76 : BitVec 32 := Scalar.select v74 v75 v60
  let c2_i32_33 : BitVec 32 := 2#32
  let v78 : BitVec 32 := Scalar.remsi v76 c2_i32_33
  let c0_i32_34 : BitVec 32 := 0#32
  let v79 : BitVec 1 := Scalar.cmpi .eq v78 c0_i32_34
  let c4_i32_32 : BitVec 32 := 4#32
  let v77 : BitVec 32 := Scalar.remsi v59 c4_i32_32
  let c3_i32_35 : BitVec 32 := 3#32
  let v80 : BitVec 32 := Scalar.subi c3_i32_35 v77
  let v81 : BitVec 32 := Scalar.select v79 v77 v80
  let c8_i32_38 : BitVec 32 := 8#32
  let v85 : BitVec 32 := Scalar.muli v81 c8_i32_38
  let c2_i32_39 : BitVec 32 := 2#32
  let v86 : BitVec 32 := Scalar.muli v76 c2_i32_39
  let v87 : BitVec 32 := Scalar.addi v85 v86
  let c0_i32_36 : BitVec 32 := 0#32
  let v82 : BitVec 1 := Scalar.cmpi .eq v78 c0_i32_36
  let c16_i32 : BitVec 32 := 16#32
  let v55 : BitVec 1 := Scalar.cmpi .slt v54 c16_i32
  let c0_i32_21 : BitVec 32 := 0#32
  let c1_i32_22 : BitVec 32 := 1#32
  let v56 : BitVec 32 := Scalar.select v55 c0_i32_21 c1_i32_22
  let c1_i32_37 : BitVec 32 := 1#32
  let v83 : BitVec 32 := Scalar.subi c1_i32_37 v56
  let v84 : BitVec 32 := Scalar.select v82 v56 v83
  let v88 : BitVec 32 := Scalar.addi v87 v84
  let c1_i32_1146 : BitVec 32 := 1#32
  let v1412 : BitVec 32 := Scalar.muli v88 c1_i32_1146
  let v1413 : BitVec 32 := Scalar.addi c0_i32_1147 v1412
  v1413.toNat
def k0_off29 (k0_t2 : Fin k0_t2_loop.trips) : Fin 2 → Nat :=
  let c1_i32_1152 : BitVec 32 := 1#32
  let c1_i32_1020 : BitVec 32 := 1#32
  let c31_i32_762 : BitVec 32 := 31#32
  let c1_i32_764 : BitVec 32 := 1#32
  let arg15 : BitVec 32 := Scf.iv c31_i32_762 c1_i32_764 k0_t2
  let c2_i32_1019 : BitVec 32 := 2#32
  let v1255 : BitVec 32 := Scalar.remsi arg15 c2_i32_1019
  let v1256 : BitVec 32 := Scalar.subi c1_i32_1020 v1255
  ![1, v1256.toNat]
def k0_off30 (k0_t2 : Fin k0_t2_loop.trips) : Fin 2 → Nat :=
  let c1_i32_1160 : BitVec 32 := 1#32
  let c31_i32_762 : BitVec 32 := 31#32
  let c1_i32_764 : BitVec 32 := 1#32
  let arg15 : BitVec 32 := Scf.iv c31_i32_762 c1_i32_764 k0_t2
  let c2_i32_1019 : BitVec 32 := 2#32
  let v1255 : BitVec 32 := Scalar.remsi arg15 c2_i32_1019
  ![1, v1255.toNat]
def k0_dev27 (d0 : Dev nD) : Nat :=
  let c0_i32_1170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c32_i32_18 : BitVec 32 := 32#32
  let v51 : BitVec 32 := Scalar.addi v50 c32_i32_18
  let c1_i32_19 : BitVec 32 := 1#32
  let v52 : BitVec 32 := Scalar.subi v51 c1_i32_19
  let c64_i32 : BitVec 32 := 64#32
  let v53 : BitVec 32 := Scalar.addi v52 c64_i32
  let c32_i32_20 : BitVec 32 := 32#32
  let v54 : BitVec 32 := Scalar.remsi v53 c32_i32_20
  let c16_i32_23 : BitVec 32 := 16#32
  let v57 : BitVec 1 := Scalar.cmpi .slt v54 c16_i32_23
  let c31_i32_24 : BitVec 32 := 31#32
  let v58 : BitVec 32 := Scalar.subi c31_i32_24 v54
  let v59 : BitVec 32 := Scalar.select v57 v54 v58
  let c0_i32_26 : BitVec 32 := 0#32
  let v61 : BitVec 1 := Scalar.cmpi .sgt v59 c0_i32_26
  let v62 : BitVec 32 := Scalar.extui v61
  let c0_i32_27 : BitVec 32 := 0#32
  let v63 : BitVec 1 := Scalar.cmpi .slt v59 c0_i32_27
  let v64 : BitVec 32 := Scalar.extui v63
  let v65 : BitVec 32 := Scalar.subi v62 v64
  let c4_i32_25 : BitVec 32 := 4#32
  let c0_i32_28 : BitVec 32 := 0#32
  let v66 : BitVec 1 := Scalar.cmpi .sgt c4_i32_25 c0_i32_28
  let v67 : BitVec 32 := Scalar.extui v66
  let c0_i32_29 : BitVec 32 := 0#32
  let v68 : BitVec 1 := Scalar.cmpi .slt c4_i32_25 c0_i32_29
  let v69 : BitVec 32 := Scalar.extui v68
  let v70 : BitVec 32 := Scalar.subi v67 v69
  let v71 : BitVec 1 := Scalar.cmpi .ne v65 v70
  let v72 : BitVec 32 := Scalar.remsi v59 c4_i32_25
  let c0_i32_30 : BitVec 32 := 0#32
  let v73 : BitVec 1 := Scalar.cmpi .ne v72 c0_i32_30
  let v74 : BitVec 1 := Scalar.andi v71 v73
  let v60 : BitVec 32 := Scalar.divsi v59 c4_i32_25
  let c1_i32_31 : BitVec 32 := 1#32
  let v75 : BitVec 32 := Scalar.subi v60 c1_i32_31
  let v76 : BitVec 32 := Scalar.select v74 v75 v60
  let c2_i32_33 : BitVec 32 := 2#32
  let v78 : BitVec 32 := Scalar.remsi v76 c2_i32_33
  let c0_i32_34 : BitVec 32 := 0#32
  let v79 : BitVec 1 := Scalar.cmpi .eq v78 c0_i32_34
  let c4_i32_32 : BitVec 32 := 4#32
  let v77 : BitVec 32 := Scalar.remsi v59 c4_i32_32
  let c3_i32_35 : BitVec 32 := 3#32
  let v80 : BitVec 32 := Scalar.subi c3_i32_35 v77
  let v81 : BitVec 32 := Scalar.select v79 v77 v80
  let c8_i32_38 : BitVec 32 := 8#32
  let v85 : BitVec 32 := Scalar.muli v81 c8_i32_38
  let c2_i32_39 : BitVec 32 := 2#32
  let v86 : BitVec 32 := Scalar.muli v76 c2_i32_39
  let v87 : BitVec 32 := Scalar.addi v85 v86
  let c0_i32_36 : BitVec 32 := 0#32
  let v82 : BitVec 1 := Scalar.cmpi .eq v78 c0_i32_36
  let c16_i32 : BitVec 32 := 16#32
  let v55 : BitVec 1 := Scalar.cmpi .slt v54 c16_i32
  let c0_i32_21 : BitVec 32 := 0#32
  let c1_i32_22 : BitVec 32 := 1#32
  let v56 : BitVec 32 := Scalar.select v55 c0_i32_21 c1_i32_22
  let c1_i32_37 : BitVec 32 := 1#32
  let v83 : BitVec 32 := Scalar.subi c1_i32_37 v56
  let v84 : BitVec 32 := Scalar.select v82 v56 v83
  let v88 : BitVec 32 := Scalar.addi v87 v84
  let c1_i32_1169 : BitVec 32 := 1#32
  let v1438 : BitVec 32 := Scalar.muli v88 c1_i32_1169
  let v1439 : BitVec 32 := Scalar.addi c0_i32_1170 v1438
  v1439.toNat
def k0_off31 (d0 : Dev nD) (k0_t2 : Fin k0_t2_loop.trips) : Fin 2 → Nat :=
  let c31_i32_762 : BitVec 32 := 31#32
  let c1_i32_764 : BitVec 32 := 1#32
  let arg15 : BitVec 32 := Scf.iv c31_i32_762 c1_i32_764 k0_t2
  let c31_i32_1177 : BitVec 32 := 31#32
  let v1448 : BitVec 1 := Scalar.cmpi .slt arg15 c31_i32_1177
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let v1440 : BitVec 32 := Scalar.subi v50 arg15
  let c1_i32_1171 : BitVec 32 := 1#32
  let v1441 : BitVec 32 := Scalar.subi v1440 c1_i32_1171
  let c96_i32_1172 : BitVec 32 := 96#32
  let v1442 : BitVec 32 := Scalar.addi v1441 c96_i32_1172
  let c32_i32_1173 : BitVec 32 := 32#32
  let v1443 : BitVec 32 := Scalar.remsi v1442 c32_i32_1173
  let c31_i32_1174 : BitVec 32 := 31#32
  let v1444 : BitVec 32 := Scalar.subi arg15 c31_i32_1174
  let v1445 : BitVec 32 := Scalar.subi v50 v1444
  let c96_i32_1175 : BitVec 32 := 96#32
  let v1446 : BitVec 32 := Scalar.addi v1445 c96_i32_1175
  let c32_i32_1176 : BitVec 32 := 32#32
  let v1447 : BitVec 32 := Scalar.remsi v1446 c32_i32_1176
  let v1449 : BitVec 32 := Scalar.select v1448 v1443 v1447
  let c64_i32_1178 : BitVec 32 := 64#32
  let v1450 : BitVec 32 := Scalar.addi v1449 c64_i32_1178
  let c32_i32_1179 : BitVec 32 := 32#32
  let v1451 : BitVec 32 := Scalar.remsi v1450 c32_i32_1179
  let c16_i32_1183 : BitVec 32 := 16#32
  let v1454 : BitVec 1 := Scalar.cmpi .slt v1451 c16_i32_1183
  let c31_i32_1184 : BitVec 32 := 31#32
  let v1455 : BitVec 32 := Scalar.subi c31_i32_1184 v1451
  let v1456 : BitVec 32 := Scalar.select v1454 v1451 v1455
  let c0_i32_1186 : BitVec 32 := 0#32
  let v1458 : BitVec 1 := Scalar.cmpi .sgt v1456 c0_i32_1186
  let v1459 : BitVec 32 := Scalar.extui v1458
  let c0_i32_1187 : BitVec 32 := 0#32
  let v1460 : BitVec 1 := Scalar.cmpi .slt v1456 c0_i32_1187
  let v1461 : BitVec 32 := Scalar.extui v1460
  let v1462 : BitVec 32 := Scalar.subi v1459 v1461
  let c4_i32_1185 : BitVec 32 := 4#32
  let c0_i32_1188 : BitVec 32 := 0#32
  let v1463 : BitVec 1 := Scalar.cmpi .sgt c4_i32_1185 c0_i32_1188
  let v1464 : BitVec 32 := Scalar.extui v1463
  let c0_i32_1189 : BitVec 32 := 0#32
  let v1465 : BitVec 1 := Scalar.cmpi .slt c4_i32_1185 c0_i32_1189
  let v1466 : BitVec 32 := Scalar.extui v1465
  let v1467 : BitVec 32 := Scalar.subi v1464 v1466
  let v1468 : BitVec 1 := Scalar.cmpi .ne v1462 v1467
  let v1469 : BitVec 32 := Scalar.remsi v1456 c4_i32_1185
  let c0_i32_1190 : BitVec 32 := 0#32
  let v1470 : BitVec 1 := Scalar.cmpi .ne v1469 c0_i32_1190
  let v1471 : BitVec 1 := Scalar.andi v1468 v1470
  let v1457 : BitVec 32 := Scalar.divsi v1456 c4_i32_1185
  let c1_i32_1191 : BitVec 32 := 1#32
  let v1472 : BitVec 32 := Scalar.subi v1457 c1_i32_1191
  let v1473 : BitVec 32 := Scalar.select v1471 v1472 v1457
  let c2_i32_1193 : BitVec 32 := 2#32
  let v1475 : BitVec 32 := Scalar.remsi v1473 c2_i32_1193
  let c0_i32_1194 : BitVec 32 := 0#32
  let v1476 : BitVec 1 := Scalar.cmpi .eq v1475 c0_i32_1194
  let c4_i32_1192 : BitVec 32 := 4#32
  let v1474 : BitVec 32 := Scalar.remsi v1456 c4_i32_1192
  let c3_i32_1195 : BitVec 32 := 3#32
  let v1477 : BitVec 32 := Scalar.subi c3_i32_1195 v1474
  let v1478 : BitVec 32 := Scalar.select v1476 v1474 v1477
  let c8_i32_1198 : BitVec 32 := 8#32
  let v1482 : BitVec 32 := Scalar.muli v1478 c8_i32_1198
  let c2_i32_1199 : BitVec 32 := 2#32
  let v1483 : BitVec 32 := Scalar.muli v1473 c2_i32_1199
  let v1484 : BitVec 32 := Scalar.addi v1482 v1483
  let c0_i32_1196 : BitVec 32 := 0#32
  let v1479 : BitVec 1 := Scalar.cmpi .eq v1475 c0_i32_1196
  let c16_i32_1180 : BitVec 32 := 16#32
  let v1452 : BitVec 1 := Scalar.cmpi .slt v1451 c16_i32_1180
  let c0_i32_1181 : BitVec 32 := 0#32
  let c1_i32_1182 : BitVec 32 := 1#32
  let v1453 : BitVec 32 := Scalar.select v1452 c0_i32_1181 c1_i32_1182
  let c1_i32_1197 : BitVec 32 := 1#32
  let v1480 : BitVec 32 := Scalar.subi c1_i32_1197 v1453
  let v1481 : BitVec 32 := Scalar.select v1479 v1453 v1480
  let v1485 : BitVec 32 := Scalar.addi v1484 v1481
  let c256_i32_1200 : BitVec 32 := 256#32
  let v1486 : BitVec 32 := Scalar.muli v1485 c256_i32_1200
  let c1024_i32_1201 : BitVec 32 := 1024#32
  ![v1486.toNat, 1024]
def k0_dev28 (d0 : Dev nD) : Nat :=
  let c0_i32_1213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c1_i32_40 : BitVec 32 := 1#32
  let v89 : BitVec 32 := Scalar.addi v50 c1_i32_40
  let c64_i32_41 : BitVec 32 := 64#32
  let v90 : BitVec 32 := Scalar.addi v89 c64_i32_41
  let c32_i32_42 : BitVec 32 := 32#32
  let v91 : BitVec 32 := Scalar.remsi v90 c32_i32_42
  let c16_i32_46 : BitVec 32 := 16#32
  let v94 : BitVec 1 := Scalar.cmpi .slt v91 c16_i32_46
  let c31_i32_47 : BitVec 32 := 31#32
  let v95 : BitVec 32 := Scalar.subi c31_i32_47 v91
  let v96 : BitVec 32 := Scalar.select v94 v91 v95
  let c0_i32_49 : BitVec 32 := 0#32
  let v98 : BitVec 1 := Scalar.cmpi .sgt v96 c0_i32_49
  let v99 : BitVec 32 := Scalar.extui v98
  let c0_i32_50 : BitVec 32 := 0#32
  let v100 : BitVec 1 := Scalar.cmpi .slt v96 c0_i32_50
  let v101 : BitVec 32 := Scalar.extui v100
  let v102 : BitVec 32 := Scalar.subi v99 v101
  let c4_i32_48 : BitVec 32 := 4#32
  let c0_i32_51 : BitVec 32 := 0#32
  let v103 : BitVec 1 := Scalar.cmpi .sgt c4_i32_48 c0_i32_51
  let v104 : BitVec 32 := Scalar.extui v103
  let c0_i32_52 : BitVec 32 := 0#32
  let v105 : BitVec 1 := Scalar.cmpi .slt c4_i32_48 c0_i32_52
  let v106 : BitVec 32 := Scalar.extui v105
  let v107 : BitVec 32 := Scalar.subi v104 v106
  let v108 : BitVec 1 := Scalar.cmpi .ne v102 v107
  let v109 : BitVec 32 := Scalar.remsi v96 c4_i32_48
  let c0_i32_53 : BitVec 32 := 0#32
  let v110 : BitVec 1 := Scalar.cmpi .ne v109 c0_i32_53
  let v111 : BitVec 1 := Scalar.andi v108 v110
  let v97 : BitVec 32 := Scalar.divsi v96 c4_i32_48
  let c1_i32_54 : BitVec 32 := 1#32
  let v112 : BitVec 32 := Scalar.subi v97 c1_i32_54
  let v113 : BitVec 32 := Scalar.select v111 v112 v97
  let c2_i32_56 : BitVec 32 := 2#32
  let v115 : BitVec 32 := Scalar.remsi v113 c2_i32_56
  let c0_i32_57 : BitVec 32 := 0#32
  let v116 : BitVec 1 := Scalar.cmpi .eq v115 c0_i32_57
  let c4_i32_55 : BitVec 32 := 4#32
  let v114 : BitVec 32 := Scalar.remsi v96 c4_i32_55
  let c3_i32_58 : BitVec 32 := 3#32
  let v117 : BitVec 32 := Scalar.subi c3_i32_58 v114
  let v118 : BitVec 32 := Scalar.select v116 v114 v117
  let c8_i32_61 : BitVec 32 := 8#32
  let v122 : BitVec 32 := Scalar.muli v118 c8_i32_61
  let c2_i32_62 : BitVec 32 := 2#32
  let v123 : BitVec 32 := Scalar.muli v113 c2_i32_62
  let v124 : BitVec 32 := Scalar.addi v122 v123
  let c0_i32_59 : BitVec 32 := 0#32
  let v119 : BitVec 1 := Scalar.cmpi .eq v115 c0_i32_59
  let c16_i32_43 : BitVec 32 := 16#32
  let v92 : BitVec 1 := Scalar.cmpi .slt v91 c16_i32_43
  let c0_i32_44 : BitVec 32 := 0#32
  let c1_i32_45 : BitVec 32 := 1#32
  let v93 : BitVec 32 := Scalar.select v92 c0_i32_44 c1_i32_45
  let c1_i32_60 : BitVec 32 := 1#32
  let v120 : BitVec 32 := Scalar.subi c1_i32_60 v93
  let v121 : BitVec 32 := Scalar.select v119 v93 v120
  let v125 : BitVec 32 := Scalar.addi v124 v121
  let c1_i32_1212 : BitVec 32 := 1#32
  let v1495 : BitVec 32 := Scalar.muli v125 c1_i32_1212
  let v1496 : BitVec 32 := Scalar.addi c0_i32_1213 v1495
  v1496.toNat
def k0_off32 (k0_t2 : Fin k0_t2_loop.trips) : Fin 2 → Nat :=
  let c3_i32_1218 : BitVec 32 := 3#32
  let c1_i32_1020 : BitVec 32 := 1#32
  let c31_i32_762 : BitVec 32 := 31#32
  let c1_i32_764 : BitVec 32 := 1#32
  let arg15 : BitVec 32 := Scf.iv c31_i32_762 c1_i32_764 k0_t2
  let c2_i32_1019 : BitVec 32 := 2#32
  let v1255 : BitVec 32 := Scalar.remsi arg15 c2_i32_1019
  let v1256 : BitVec 32 := Scalar.subi c1_i32_1020 v1255
  ![3, v1256.toNat]
def k0_off33 (k0_t2 : Fin k0_t2_loop.trips) : Fin 2 → Nat :=
  let c3_i32_1226 : BitVec 32 := 3#32
  let c31_i32_762 : BitVec 32 := 31#32
  let c1_i32_764 : BitVec 32 := 1#32
  let arg15 : BitVec 32 := Scf.iv c31_i32_762 c1_i32_764 k0_t2
  let c2_i32_1019 : BitVec 32 := 2#32
  let v1255 : BitVec 32 := Scalar.remsi arg15 c2_i32_1019
  ![3, v1255.toNat]
def k0_dev29 (d0 : Dev nD) : Nat :=
  let c0_i32_1236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c1_i32_40 : BitVec 32 := 1#32
  let v89 : BitVec 32 := Scalar.addi v50 c1_i32_40
  let c64_i32_41 : BitVec 32 := 64#32
  let v90 : BitVec 32 := Scalar.addi v89 c64_i32_41
  let c32_i32_42 : BitVec 32 := 32#32
  let v91 : BitVec 32 := Scalar.remsi v90 c32_i32_42
  let c16_i32_46 : BitVec 32 := 16#32
  let v94 : BitVec 1 := Scalar.cmpi .slt v91 c16_i32_46
  let c31_i32_47 : BitVec 32 := 31#32
  let v95 : BitVec 32 := Scalar.subi c31_i32_47 v91
  let v96 : BitVec 32 := Scalar.select v94 v91 v95
  let c0_i32_49 : BitVec 32 := 0#32
  let v98 : BitVec 1 := Scalar.cmpi .sgt v96 c0_i32_49
  let v99 : BitVec 32 := Scalar.extui v98
  let c0_i32_50 : BitVec 32 := 0#32
  let v100 : BitVec 1 := Scalar.cmpi .slt v96 c0_i32_50
  let v101 : BitVec 32 := Scalar.extui v100
  let v102 : BitVec 32 := Scalar.subi v99 v101
  let c4_i32_48 : BitVec 32 := 4#32
  let c0_i32_51 : BitVec 32 := 0#32
  let v103 : BitVec 1 := Scalar.cmpi .sgt c4_i32_48 c0_i32_51
  let v104 : BitVec 32 := Scalar.extui v103
  let c0_i32_52 : BitVec 32 := 0#32
  let v105 : BitVec 1 := Scalar.cmpi .slt c4_i32_48 c0_i32_52
  let v106 : BitVec 32 := Scalar.extui v105
  let v107 : BitVec 32 := Scalar.subi v104 v106
  let v108 : BitVec 1 := Scalar.cmpi .ne v102 v107
  let v109 : BitVec 32 := Scalar.remsi v96 c4_i32_48
  let c0_i32_53 : BitVec 32 := 0#32
  let v110 : BitVec 1 := Scalar.cmpi .ne v109 c0_i32_53
  let v111 : BitVec 1 := Scalar.andi v108 v110
  let v97 : BitVec 32 := Scalar.divsi v96 c4_i32_48
  let c1_i32_54 : BitVec 32 := 1#32
  let v112 : BitVec 32 := Scalar.subi v97 c1_i32_54
  let v113 : BitVec 32 := Scalar.select v111 v112 v97
  let c2_i32_56 : BitVec 32 := 2#32
  let v115 : BitVec 32 := Scalar.remsi v113 c2_i32_56
  let c0_i32_57 : BitVec 32 := 0#32
  let v116 : BitVec 1 := Scalar.cmpi .eq v115 c0_i32_57
  let c4_i32_55 : BitVec 32 := 4#32
  let v114 : BitVec 32 := Scalar.remsi v96 c4_i32_55
  let c3_i32_58 : BitVec 32 := 3#32
  let v117 : BitVec 32 := Scalar.subi c3_i32_58 v114
  let v118 : BitVec 32 := Scalar.select v116 v114 v117
  let c8_i32_61 : BitVec 32 := 8#32
  let v122 : BitVec 32 := Scalar.muli v118 c8_i32_61
  let c2_i32_62 : BitVec 32 := 2#32
  let v123 : BitVec 32 := Scalar.muli v113 c2_i32_62
  let v124 : BitVec 32 := Scalar.addi v122 v123
  let c0_i32_59 : BitVec 32 := 0#32
  let v119 : BitVec 1 := Scalar.cmpi .eq v115 c0_i32_59
  let c16_i32_43 : BitVec 32 := 16#32
  let v92 : BitVec 1 := Scalar.cmpi .slt v91 c16_i32_43
  let c0_i32_44 : BitVec 32 := 0#32
  let c1_i32_45 : BitVec 32 := 1#32
  let v93 : BitVec 32 := Scalar.select v92 c0_i32_44 c1_i32_45
  let c1_i32_60 : BitVec 32 := 1#32
  let v120 : BitVec 32 := Scalar.subi c1_i32_60 v93
  let v121 : BitVec 32 := Scalar.select v119 v93 v120
  let v125 : BitVec 32 := Scalar.addi v124 v121
  let c1_i32_1235 : BitVec 32 := 1#32
  let v1521 : BitVec 32 := Scalar.muli v125 c1_i32_1235
  let v1522 : BitVec 32 := Scalar.addi c0_i32_1236 v1521
  v1522.toNat
def k0_off34 (d0 : Dev nD) (k0_t2 : Fin k0_t2_loop.trips) : Fin 2 → Nat :=
  let c31_i32_762 : BitVec 32 := 31#32
  let c1_i32_764 : BitVec 32 := 1#32
  let arg15 : BitVec 32 := Scf.iv c31_i32_762 c1_i32_764 k0_t2
  let c31_i32_1242 : BitVec 32 := 31#32
  let v1530 : BitVec 1 := Scalar.cmpi .slt arg15 c31_i32_1242
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let v1523 : BitVec 32 := Scalar.addi v50 arg15
  let c1_i32_1237 : BitVec 32 := 1#32
  let v1524 : BitVec 32 := Scalar.addi v1523 c1_i32_1237
  let c32_i32_1238 : BitVec 32 := 32#32
  let v1525 : BitVec 32 := Scalar.remsi v1524 c32_i32_1238
  let v1526 : BitVec 32 := Scalar.addi v50 arg15
  let c31_i32_1239 : BitVec 32 := 31#32
  let v1527 : BitVec 32 := Scalar.subi v1526 c31_i32_1239
  let c96_i32_1240 : BitVec 32 := 96#32
  let v1528 : BitVec 32 := Scalar.addi v1527 c96_i32_1240
  let c32_i32_1241 : BitVec 32 := 32#32
  let v1529 : BitVec 32 := Scalar.remsi v1528 c32_i32_1241
  let v1531 : BitVec 32 := Scalar.select v1530 v1525 v1529
  let c64_i32_1243 : BitVec 32 := 64#32
  let v1532 : BitVec 32 := Scalar.addi v1531 c64_i32_1243
  let c32_i32_1244 : BitVec 32 := 32#32
  let v1533 : BitVec 32 := Scalar.remsi v1532 c32_i32_1244
  let c16_i32_1248 : BitVec 32 := 16#32
  let v1536 : BitVec 1 := Scalar.cmpi .slt v1533 c16_i32_1248
  let c31_i32_1249 : BitVec 32 := 31#32
  let v1537 : BitVec 32 := Scalar.subi c31_i32_1249 v1533
  let v1538 : BitVec 32 := Scalar.select v1536 v1533 v1537
  let c0_i32_1251 : BitVec 32 := 0#32
  let v1540 : BitVec 1 := Scalar.cmpi .sgt v1538 c0_i32_1251
  let v1541 : BitVec 32 := Scalar.extui v1540
  let c0_i32_1252 : BitVec 32 := 0#32
  let v1542 : BitVec 1 := Scalar.cmpi .slt v1538 c0_i32_1252
  let v1543 : BitVec 32 := Scalar.extui v1542
  let v1544 : BitVec 32 := Scalar.subi v1541 v1543
  let c4_i32_1250 : BitVec 32 := 4#32
  let c0_i32_1253 : BitVec 32 := 0#32
  let v1545 : BitVec 1 := Scalar.cmpi .sgt c4_i32_1250 c0_i32_1253
  let v1546 : BitVec 32 := Scalar.extui v1545
  let c0_i32_1254 : BitVec 32 := 0#32
  let v1547 : BitVec 1 := Scalar.cmpi .slt c4_i32_1250 c0_i32_1254
  let v1548 : BitVec 32 := Scalar.extui v1547
  let v1549 : BitVec 32 := Scalar.subi v1546 v1548
  let v1550 : BitVec 1 := Scalar.cmpi .ne v1544 v1549
  let v1551 : BitVec 32 := Scalar.remsi v1538 c4_i32_1250
  let c0_i32_1255 : BitVec 32 := 0#32
  let v1552 : BitVec 1 := Scalar.cmpi .ne v1551 c0_i32_1255
  let v1553 : BitVec 1 := Scalar.andi v1550 v1552
  let v1539 : BitVec 32 := Scalar.divsi v1538 c4_i32_1250
  let c1_i32_1256 : BitVec 32 := 1#32
  let v1554 : BitVec 32 := Scalar.subi v1539 c1_i32_1256
  let v1555 : BitVec 32 := Scalar.select v1553 v1554 v1539
  let c2_i32_1258 : BitVec 32 := 2#32
  let v1557 : BitVec 32 := Scalar.remsi v1555 c2_i32_1258
  let c0_i32_1259 : BitVec 32 := 0#32
  let v1558 : BitVec 1 := Scalar.cmpi .eq v1557 c0_i32_1259
  let c4_i32_1257 : BitVec 32 := 4#32
  let v1556 : BitVec 32 := Scalar.remsi v1538 c4_i32_1257
  let c3_i32_1260 : BitVec 32 := 3#32
  let v1559 : BitVec 32 := Scalar.subi c3_i32_1260 v1556
  let v1560 : BitVec 32 := Scalar.select v1558 v1556 v1559
  let c8_i32_1263 : BitVec 32 := 8#32
  let v1564 : BitVec 32 := Scalar.muli v1560 c8_i32_1263
  let c2_i32_1264 : BitVec 32 := 2#32
  let v1565 : BitVec 32 := Scalar.muli v1555 c2_i32_1264
  let v1566 : BitVec 32 := Scalar.addi v1564 v1565
  let c0_i32_1261 : BitVec 32 := 0#32
  let v1561 : BitVec 1 := Scalar.cmpi .eq v1557 c0_i32_1261
  let c16_i32_1245 : BitVec 32 := 16#32
  let v1534 : BitVec 1 := Scalar.cmpi .slt v1533 c16_i32_1245
  let c0_i32_1246 : BitVec 32 := 0#32
  let c1_i32_1247 : BitVec 32 := 1#32
  let v1535 : BitVec 32 := Scalar.select v1534 c0_i32_1246 c1_i32_1247
  let c1_i32_1262 : BitVec 32 := 1#32
  let v1562 : BitVec 32 := Scalar.subi c1_i32_1262 v1535
  let v1563 : BitVec 32 := Scalar.select v1561 v1535 v1562
  let v1567 : BitVec 32 := Scalar.addi v1566 v1563
  let c256_i32_1265 : BitVec 32 := 256#32
  let v1568 : BitVec 32 := Scalar.muli v1567 c256_i32_1265
  let c3072_i32_1266 : BitVec 32 := 3072#32
  ![v1568.toNat, 3072]
def k0_dev30 (d0 : Dev nD) : Nat :=
  let c0_i32_1278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c0_i32_17 : BitVec 32 := 0#32
  let v48 : BitVec 1 := Scalar.cmpi .eq v42 c0_i32_17
  let c4_i32 : BitVec 32 := 4#32
  let v43 : BitVec 32 := Scalar.muli v37 c4_i32
  let c0_i32_16 : BitVec 32 := 0#32
  let v44 : BitVec 1 := Scalar.cmpi .eq v39 c0_i32_16
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v45 : BitVec 32 := Scalar.subi c3_i32 v19
  let v46 : BitVec 32 := Scalar.select v44 v19 v45
  let v47 : BitVec 32 := Scalar.addi v43 v46
  let c31_i32 : BitVec 32 := 31#32
  let v49 : BitVec 32 := Scalar.subi c31_i32 v47
  let v50 : BitVec 32 := Scalar.select v48 v47 v49
  let c32_i32_18 : BitVec 32 := 32#32
  let v51 : BitVec 32 := Scalar.addi v50 c32_i32_18
  let c1_i32_19 : BitVec 32 := 1#32
  let v52 : BitVec 32 := Scalar.subi v51 c1_i32_19
  let c64_i32 : BitVec 32 := 64#32
  let v53 : BitVec 32 := Scalar.addi v52 c64_i32
  let c32_i32_20 : BitVec 32 := 32#32
  let v54 : BitVec 32 := Scalar.remsi v53 c32_i32_20
  let c16_i32_23 : BitVec 32 := 16#32
  let v57 : BitVec 1 := Scalar.cmpi .slt v54 c16_i32_23
  let c31_i32_24 : BitVec 32 := 31#32
  let v58 : BitVec 32 := Scalar.subi c31_i32_24 v54
  let v59 : BitVec 32 := Scalar.select v57 v54 v58
  let c0_i32_26 : BitVec 32 := 0#32
  let v61 : BitVec 1 := Scalar.cmpi .sgt v59 c0_i32_26
  let v62 : BitVec 32 := Scalar.extui v61
  let c0_i32_27 : BitVec 32 := 0#32
  let v63 : BitVec 1 := Scalar.cmpi .slt v59 c0_i32_27
  let v64 : BitVec 32 := Scalar.extui v63
  let v65 : BitVec 32 := Scalar.subi v62 v64
  let c4_i32_25 : BitVec 32 := 4#32
  let c0_i32_28 : BitVec 32 := 0#32
  let v66 : BitVec 1 := Scalar.cmpi .sgt c4_i32_25 c0_i32_28
  let v67 : BitVec 32 := Scalar.extui v66
  let c0_i32_29 : BitVec 32 := 0#32
  let v68 : BitVec 1 := Scalar.cmpi .slt c4_i32_25 c0_i32_29
  let v69 : BitVec 32 := Scalar.extui v68
  let v70 : BitVec 32 := Scalar.subi v67 v69
  let v71 : BitVec 1 := Scalar.cmpi .ne v65 v70
  let v72 : BitVec 32 := Scalar.remsi v59 c4_i32_25
  let c0_i32_30 : BitVec 32 := 0#32
  let v73 : BitVec 1 := Scalar.cmpi .ne v72 c0_i32_30
  let v74 : BitVec 1 := Scalar.andi v71 v73
  let v60 : BitVec 32 := Scalar.divsi v59 c4_i32_25
  let c1_i32_31 : BitVec 32 := 1#32
  let v75 : BitVec 32 := Scalar.subi v60 c1_i32_31
  let v76 : BitVec 32 := Scalar.select v74 v75 v60
  let c2_i32_33 : BitVec 32 := 2#32
  let v78 : BitVec 32 := Scalar.remsi v76 c2_i32_33
  let c0_i32_34 : BitVec 32 := 0#32
  let v79 : BitVec 1 := Scalar.cmpi .eq v78 c0_i32_34
  let c4_i32_32 : BitVec 32 := 4#32
  let v77 : BitVec 32 := Scalar.remsi v59 c4_i32_32
  let c3_i32_35 : BitVec 32 := 3#32
  let v80 : BitVec 32 := Scalar.subi c3_i32_35 v77
  let v81 : BitVec 32 := Scalar.select v79 v77 v80
  let c8_i32_38 : BitVec 32 := 8#32
  let v85 : BitVec 32 := Scalar.muli v81 c8_i32_38
  let c2_i32_39 : BitVec 32 := 2#32
  let v86 : BitVec 32 := Scalar.muli v76 c2_i32_39
  let v87 : BitVec 32 := Scalar.addi v85 v86
  let c0_i32_36 : BitVec 32 := 0#32
  let v82 : BitVec 1 := Scalar.cmpi .eq v78 c0_i32_36
  let c16_i32 : BitVec 32 := 16#32
  let v55 : BitVec 1 := Scalar.cmpi .slt v54 c16_i32
  let c0_i32_21 : BitVec 32 := 0#32
  let c1_i32_22 : BitVec 32 := 1#32
  let v56 : BitVec 32 := Scalar.select v55 c0_i32_21 c1_i32_22
  let c1_i32_37 : BitVec 32 := 1#32
  let v83 : BitVec 32 := Scalar.subi c1_i32_37 v56
  let v84 : BitVec 32 := Scalar.select v82 v56 v83
  let v88 : BitVec 32 := Scalar.addi v87 v84
  let c1_i32_1277 : BitVec 32 := 1#32
  let v1577 : BitVec 32 := Scalar.muli v88 c1_i32_1277
  let v1578 : BitVec 32 := Scalar.addi c0_i32_1278 v1577
  v1578.toNat
abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Topo.lean ====
/-
# The ring of thirty-two devices

The devices lie on one closed path (a snake through an 8 × 4 grid); `kOf` is a device's place on the path and `posOf` the
device at a place. Four rings run over this path: rings 0 and 1 forward, rings 2 and 3 backward. On ring `r` a device sends
to `dst r` and receives from `ups r`. Message `s` of a ring leaves a device after `s` steps; `row r s c` names the block of
256 rows of the result that the message which device `c` receives in step `s` belongs to.
-/
module

public import Idealize.ShloMosaic.Lib.Pipeline.Launch

@[expose] public section

namespace Cert.Ring

/-- The number of devices' type. -/
abbrev D32 : Type := Fin 32

/-- The place on the closed path of a device. -/
def kOf (p : D32) : ℕ :=
  let z := p.val / 8
  let y := p.val % 8 / 2
  let xb := p.val % 2
  let xc := if y % 2 = 0 then xb else 1 - xb
  let i0 := y * 4 + (if y % 2 = 0 then z else 3 - z)
  if xc = 0 then i0 else 31 - i0

/-- The device at a place (modulo thirty-two) of the closed path. -/
def posOf (k : ℕ) : D32 :=
  let k := k % 32
  let xc := if k < 16 then 0 else 1
  let i0 := if k < 16 then k else 31 - k
  let y := i0 / 4
  let z := if y % 2 = 0 then i0 % 4 else 3 - i0 % 4
  let xb := if y % 2 = 0 then xc else 1 - xc
  Fin.ofNat 32 (z * 8 + y * 2 + xb)

/-- The neighbours on the path. -/
def nx (c : D32) : D32 := posOf (kOf c + 1)
def pv (c : D32) : D32 := posOf (kOf c + 31)

/-- Where ring `r` sends to, and where it receives from. -/
def dst (r : Fin 4) (c : D32) : D32 := if r.val < 2 then nx c else pv c
def ups (r : Fin 4) (c : D32) : D32 := if r.val < 2 then pv c else nx c

/-- The block of rows which the message received in step `s` belongs to. -/
def row (r : Fin 4) (s : ℕ) (c : D32) : D32 :=
  if r.val < 2 then posOf (if s < 31 then kOf c + 95 - s else kOf c + 127 - s)
  else posOf (if s < 31 then kOf c + s + 1 else kOf c + s + 65)

theorem nx_pv (c : D32) : nx (pv c) = c := by revert c; decide +kernel
theorem pv_nx (c : D32) : pv (nx c) = c := by revert c; decide +kernel
theorem nx_ne_pv (c : D32) : nx c ≠ pv c := by revert c; decide +kernel

theorem dst_ups (r : Fin 4) (c : D32) : dst r (ups r c) = c := by
  unfold dst ups; split_ifs <;> simp only [nx_pv, pv_nx]
theorem ups_dst (r : Fin 4) (c : D32) : ups r (dst r c) = c := by
  unfold dst ups; split_ifs <;> simp only [nx_pv, pv_nx]

/-- Sending on one ring, as a permutation of the devices. -/
def dstE (r : Fin 4) : D32 ≃ D32 := ⟨dst r, ups r, ups_dst r, dst_ups r⟩
/-- Receiving on one ring, as a permutation of the devices. -/
def upsE (r : Fin 4) : D32 ≃ D32 := ⟨ups r, dst r, dst_ups r, ups_dst r⟩

/-- The device that a message passed `n` steps ago. -/
def upsN (r : Fin 4) (n : ℕ) (c : D32) : D32 := (ups r)^[n] c

/-- While the sums are built, a message keeps its block of rows from one device to the next. -/
theorem row_ups (r : Fin 4) (s : Fin 30) (c : D32) : row r s.val (ups r c) = row r (s.val + 1) c := by
  revert r s c; decide +kernel

/-- The block that a device starts is its upstream neighbour's first message. -/
theorem row_zero (r : Fin 4) (c : D32) : row r 0 c = ups r c := by revert r c; decide +kernel

/-- While the results go round, a message keeps its block of rows from one device to the next. -/
theorem row_ups' (r : Fin 4) (s : Fin 31) (c : D32) : row r (s.val + 30) (ups r c) = row r (s.val + 31) c := by
  revert r s c; decide +kernel

/-- The thirty-two blocks that pass a device from step 30 on are all the blocks. -/
theorem row_inj (r : Fin 4) (c : D32) : Function.Injective fun i : Fin 32 => row r (i.val + 30) c := by
  revert r c; decide +kernel

/-- The device that finishes a block of rows: it holds the whole sum in step 30. -/
def fin (r : Fin 4) (b : D32) : D32 := if r.val < 2 then posOf (kOf b + 31) else posOf (kOf b + 1)

theorem row_fin (r : Fin 4) (c : D32) : fin r (row r 30 c) = c := by revert r c; decide +kernel
theorem fin_row (r : Fin 4) (b : D32) : row r 30 (fin r b) = b := by revert r b; decide +kernel

/-- The thirty-two devices upstream of a device, itself included, are all the devices. -/
theorem upsN_inj (r : Fin 4) (c : D32) : Function.Injective fun i : Fin 32 => (ups r)^[i.val] c := by
  revert r c; decide +kernel

end Cert.Ring
-- ==== Proof.KIProg.lean ====
/-
# The kernel's body as a sequence of ring steps

One device's program, cut into the pieces each ring's step consists of: wait for the message and for the own message's
departure (`waits`), give the freed slot back upstream (`credit`), add the own partial product to what arrived (`addSeg`),
wait for leave to send (`creditWait`), pass the message on (`sendSeg`), compute the next partial product (`accSeg`); in the
second half, copy what arrived to the result (`outSeg`). The generated body is this sequence, by computation.
-/
module

public import proofs.«01_k».proof.Proof.Topo
public import proofs.«01_k».proof.Proof.Gen.KernelIdeal
public import proofs.«01_k».proof.Proof.Gen.KernelIdeal.Skeleton

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-! ## The buffers and semaphores -/

abbrev xM : Memref sig .tc .vmem S8192x256 .f32 := Memref.whole cc0_stg0_0
abbrev wM : Memref sig .tc .vmem S256x4096 .f32 := Memref.whole cc0_stg1_0
abbrev oM : Memref sig .tc .hbm S8192x4096 .f32 := Memref.whole main_v1
abbrev c0M : Memref sig .tc .vmem S2x256x1024 .f32 := Memref.whole cc0_scratch0
abbrev c1M : Memref sig .tc .vmem S2x256x1024 .f32 := Memref.whole cc0_scratch1
abbrev c2M : Memref sig .tc .vmem S2x256x1024 .f32 := Memref.whole cc0_scratch2
abbrev c3M : Memref sig .tc .vmem S2x256x1024 .f32 := Memref.whole cc0_scratch3
abbrev a0M : Memref sig .tc .vmem S256x1024 .f32 := Memref.whole cc0_scratch4
abbrev a1M : Memref sig .tc .vmem S256x1024 .f32 := Memref.whole cc0_scratch5
abbrev a2M : Memref sig .tc .vmem S256x1024 .f32 := Memref.whole cc0_scratch6
abbrev a3M : Memref sig .tc .vmem S256x1024 .f32 := Memref.whole cc0_scratch7
abbrev sendA : DmaSems sig S4x2 := cc0_scratch8
abbrev recvA : DmaSems sig S4x2 := cc0_scratch9
abbrev credA : Sems sig S4 := cc0_scratch10
abbrev outA : DmaSems sig S_ := cc0_scratch11

/-- Offsets at which one slot of a two-slot buffer lies in bounds. -/
abbrev SlotIn (off : Fin 3 → ℕ) : Prop := ∀ a, off a + S1x256x1024.size a ≤ S2x256x1024.size a
abbrev CellIn (off : Fin 2 → ℕ) : Prop := ∀ a, off a + S1x1.size a ≤ S4x2.size a
abbrev CredIn (off : Fin 1 → ℕ) : Prop := ∀ a, off a + S1.size a ≤ S4.size a
abbrev RowsIn (off : Fin 2 → ℕ) : Prop := ∀ a, off a + S256x256.size a ≤ S8192x256.size a
abbrev ColsIn (off : Fin 2 → ℕ) : Prop := ∀ a, off a + S256x1024.size a ≤ S256x4096.size a
abbrev OutIn (off : Fin 2 → ℕ) : Prop := ∀ a, off a + S256x1024.size a ≤ S8192x4096.size a

abbrev slotAt (C : Memref sig .tc .vmem S2x256x1024 .f32) (off : Fin 3 → ℕ) (h : SlotIn off) : Memref sig .tc .vmem S256x1024 .f32 :=
  (C.slice (Rect.unit (s := S2x256x1024) off S1x256x1024.size h) (fun _ => rfl)).squeeze S256x1024 squeezes_S1x256x1024_S256x1024
abbrev semAt (A : DmaSems sig S4x2) (off : Fin 2 → ℕ) (h : CellIn off) : DmaSem sig :=
  ((A.slice (Rect.unit (s := S4x2) off S1x1.size h)).squeeze S_ squeezes_S1x1_S_).sem
abbrev credAt (off : Fin 1 → ℕ) (h : CredIn off) : Sem sig :=
  ((credA.slice (Rect.unit (s := S4) off S1.size h)).squeeze S_ squeezes_S1_S_).sem
abbrev outAt (off : Fin 2 → ℕ) (h : OutIn off) : Memref sig .tc .hbm S256x1024 .f32 :=
  oM.slice (Rect.unit (s := S8192x4096) off S256x1024.size h) (fun _ => rfl)
abbrev rowsR (off : Fin 2 → ℕ) (h : RowsIn off) : Rect S8192x256 := Rect.unit (s := S8192x256) off S256x256.size h
abbrev colsR (off : Fin 2 → ℕ) (h : ColsIn off) : Rect S256x4096 := Rect.unit (s := S256x4096) off S256x1024.size h
abbrev slotR (off : Fin 3 → ℕ) (h : SlotIn off) : Rect S2x256x1024 := Rect.unit (s := S2x256x1024) off S1x256x1024.size h
abbrev accR : Rect S256x1024 := Rect.unit (s := S256x1024) ![0, 0] S256x1024.size inb_S256x1024_S256x1024_0_0
abbrev barA : Sems sig S_ := SemArray.scalar (sig.barrier 0 rfl)
abbrev barS : Sem sig := barA.sem

/-! ## The pieces of a step -/

/-- The programs of one device. -/
abbrev PT (F : FTy → Type) (α : Type) : Type 1 := Prog (TpuEff nD τ sig (Elt F) Λ₀ .tc) α

section Pieces

variable (C : Memref sig .tc .vmem S2x256x1024 .f32) (A : Memref sig .tc .vmem S256x1024 .f32)
  (oN : Fin 3 → ℕ) (hN : SlotIn oN) (oO : Fin 3 → ℕ) (hO : SlotIn oO)
  (oR : Fin 2 → ℕ) (hR : CellIn oR) (oS : Fin 2 → ℕ) (hS : CellIn oS)

/-- Wait for the message of this step to arrive in the new slot. -/
def recvWait : PT F PUnit :=
  Prog.lift (.waitDma2 (semAt recvA oR hR) (slotAt C oO hO) (slotAt C oN hN) ((View.wordExact_bits rfl).reshape _ _) ((View.wordExact_bits rfl).reshape _ _))

/-- Wait for the own message to have left the old slot. -/
def sendWait : PT F PUnit :=
  Prog.lift (.waitDma2 (semAt sendA oS hS) (slotAt C oN hN) (slotAt C oO hO) ((View.wordExact_bits rfl).reshape _ _) ((View.wordExact_bits rfl).reshape _ _))

/-- Pass the new slot's message on to the next device's old slot. -/
def sendSeg (dn : Dev nD) : PT F PUnit :=
  Prog.lift (.enqueueDma (slotAt C oN hN) (.remote (Dev.tc dn) (slotAt C oO hO) (.dma (semAt sendA oS hS))) (.dma (semAt recvA oR hR))
    ((View.wordExact_bits rfl).reshape _ _) ((View.wordExact_bits rfl).reshape _ _) ⟨⟨rfl, Or.inl rfl⟩, trivial⟩)

/-- Update the slot by the accumulator. -/
def addSeg (pay : Vec F S1x256x1024 .f32 → Vec F S256x1024 .f32 → Vec F S1x256x1024 .f32) : PT F PUnit := do
  let v : Vec F S1x256x1024 .f32 ← Prog.lift (.load C (slotR oN hN).toLoadRect (View.loadsAt_vmem h_S1x256x1024))
  let a : Vec F S256x1024 .f32 ← Prog.lift (.load A accR.toLoadRect (View.loadsAt_vmem h_S256x1024))
  let _ : Vec F S1x256x1024 .f32 ← Prog.lift (.load C (slotR oN hN).toLoadRect (View.loadsAt_vmem h_S1x256x1024))
  Prog.lift (.store C (slotR oN hN) (pay v a) Finset.univ (View.stores_vmem_bits_univ h_S1x256x1024 rfl) (.inl rfl))

/-- Put a partial product into the slot. -/
def startSeg (ox : Fin 2 → ℕ) (hx : RowsIn ox) (ow : Fin 2 → ℕ) (hw : ColsIn ow)
    (pay : Vec F S256x256 .f32 → Vec F S256x1024 .f32 → Vec F S1x256x1024 .f32) : PT F PUnit := do
  let x : Vec F S256x256 .f32 ← Prog.lift (.load xM (rowsR ox hx).toLoadRect (View.loadsAt_vmem h_S256x256))
  let w : Vec F S256x1024 .f32 ← Prog.lift (.load wM (colsR ow hw).toLoadRect (View.loadsAt_vmem h_S256x1024))
  let _ : Vec F S1x256x1024 .f32 ← Prog.lift (.load C (slotR oN hN).toLoadRect (View.loadsAt_vmem h_S1x256x1024))
  Prog.lift (.store C (slotR oN hN) (pay x w) Finset.univ (View.stores_vmem_bits_univ h_S1x256x1024 rfl) (.inl rfl))

/-- Put a partial product into the accumulator. -/
def accSeg (ox : Fin 2 → ℕ) (hx : RowsIn ox) (ow : Fin 2 → ℕ) (hw : ColsIn ow)
    (pay : Vec F S256x256 .f32 → Vec F S256x1024 .f32 → Vec F S256x1024 .f32) : PT F PUnit := do
  let x : Vec F S256x256 .f32 ← Prog.lift (.load xM (rowsR ox hx).toLoadRect (View.loadsAt_vmem h_S256x256))
  let w : Vec F S256x1024 .f32 ← Prog.lift (.load wM (colsR ow hw).toLoadRect (View.loadsAt_vmem h_S256x1024))
  let _ : Vec F S256x1024 .f32 ← Prog.lift (.load A accR.toLoadRect (View.loadsAt_vmem h_S256x1024))
  Prog.lift (.store A accR (pay x w) Finset.univ (View.stores_vmem_bits_univ h_S256x1024 rfl) (.inl rfl))

/-- Start the copy of the new slot to a piece of the result. -/
def outStart (oT : Fin 2 → ℕ) (hT : OutIn oT) : PT F PUnit :=
  Prog.lift (.enqueueDma (slotAt C oN hN) (.here (outAt oT hT)) (.dma outA.sem) ((View.wordExact_bits rfl).reshape _ _) (View.wordExact_bits rfl) ⟨Or.inl rfl, trivial⟩)
/-- Wait for that copy. -/
def outWait (oT : Fin 2 → ℕ) (hT : OutIn oT) : PT F PUnit :=
  Prog.lift (.waitDma2 outA.sem (slotAt C oN hN) (outAt oT hT) ((View.wordExact_bits rfl).reshape _ _) (View.wordExact_bits rfl))

/-- Copy the new slot to a piece of the result and wait for the copy. -/
def outSeg (oT : Fin 2 → ℕ) (hT : OutIn oT) : PT F PUnit := do
  outStart C oN hN oT hT
  outWait C oN hN oT hT

/-- Give leave upstream. -/
def credit (cu : Dev nD) (oC : Fin 1 → ℕ) (hC : CredIn oC) : PT F PUnit := semSignalWord cu (credAt oC hC) 1#32
/-- Wait for leave. -/
def creditWait (oC : Fin 1 → ℕ) (hC : CredIn oC) : PT F PUnit := semWaitWord (credAt oC hC) 1#32

/-- One ring's step while the sums are built. -/
def rsStep (cu dn : Dev nD) (oC : Fin 1 → ℕ) (hC : CredIn oC)
    (pay : Vec F S1x256x1024 .f32 → Vec F S256x1024 .f32 → Vec F S1x256x1024 .f32)
    (ox : Fin 2 → ℕ) (hx : RowsIn ox) (ow : Fin 2 → ℕ) (hw : ColsIn ow)
    (pay' : Vec F S256x256 .f32 → Vec F S256x1024 .f32 → Vec F S256x1024 .f32) : PT F PUnit := do
  recvWait C oN hN oO hO oR hR
  sendWait C oN hN oO hO oS hS
  credit cu oC hC
  addSeg C A oN hN pay
  creditWait oC hC
  sendSeg C oN hN oO hO oS hS oR hR dn
  accSeg A ox hx ow hw pay'

/-- One ring's step in which its own block's sum is finished. -/
def glStep (cu dn : Dev nD) (oC : Fin 1 → ℕ) (hC : CredIn oC)
    (pay : Vec F S1x256x1024 .f32 → Vec F S256x1024 .f32 → Vec F S1x256x1024 .f32) (oT : Fin 2 → ℕ) (hT : OutIn oT) : PT F PUnit := do
  recvWait C oN hN oO hO oR hR
  sendWait C oN hN oO hO oS hS
  credit cu oC hC
  addSeg C A oN hN pay
  outSeg C oN hN oT hT
  creditWait oC hC
  sendSeg C oN hN oO hO oS hS oR hR dn

/-- One ring's step while the results go round. -/
def agStep (cu dn : Dev nD) (oC : Fin 1 → ℕ) (hC : CredIn oC) (oT : Fin 2 → ℕ) (hT : OutIn oT) : PT F PUnit := do
  recvWait C oN hN oO hO oR hR
  sendWait C oN hN oO hO oS hS
  credit cu oC hC
  outSeg C oN hN oT hT
  creditWait oC hC
  sendSeg C oN hN oO hO oS hS oR hR dn

/-- One ring's last step. -/
def lastStep (oT : Fin 2 → ℕ) (hT : OutIn oT) : PT F PUnit := do
  recvWait C oN hN oO hO oR hR
  sendWait C oN hN oO hO oS hS
  outSeg C oN hN oT hT

/-- One ring's first message. -/
def firstStep (dn : Dev nD) (ox : Fin 2 → ℕ) (hx : RowsIn ox) (ow : Fin 2 → ℕ) (hw : ColsIn ow)
    (pay : Vec F S256x256 .f32 → Vec F S256x1024 .f32 → Vec F S1x256x1024 .f32) : PT F PUnit := do
  startSeg C oN hN ox hx ow hw pay
  sendSeg C oN hN oO hO oR hR oS hS dn

end Pieces

/-! ## The two loops' bodies -/

/-- One trip of the first loop. -/
def trip1 (d : Dev nD) (t : Fin k0_t1_loop.trips) : PT F PUnit := do
  rsStep c0M a0M (k0_off5 t) (k0_off5_inb t) (k0_off6 t) (k0_off6_inb t) (k0_off4 t) (k0_off4_inb t) (k0_off7 t) (k0_off7_inb t)
    ⟨k0_dev7 d, k0_dev7_lt d⟩ ⟨k0_dev8 d, k0_dev8_lt d⟩ ![0] inb_S4_S1_0 k0_pay1 (k0_off9 d t) (k0_off9_inb d t) ![0, 0] inb_S256x4096_S256x1024_0_0 k0_pay2
  rsStep c2M a2M (k0_off5 t) (k0_off5_inb t) (k0_off6 t) (k0_off6_inb t) (k0_off10 t) (k0_off10_inb t) (k0_off11 t) (k0_off11_inb t)
    ⟨k0_dev9 d, k0_dev9_lt d⟩ ⟨k0_dev10 d, k0_dev10_lt d⟩ ![2] inb_S4_S1_2 k0_pay3 (k0_off12 d t) (k0_off12_inb d t) ![0, 2048] inb_S256x4096_S256x1024_0_2048 k0_pay4
  rsStep c1M a1M (k0_off5 t) (k0_off5_inb t) (k0_off6 t) (k0_off6_inb t) (k0_off13 t) (k0_off13_inb t) (k0_off14 t) (k0_off14_inb t)
    ⟨k0_dev11 d, k0_dev11_lt d⟩ ⟨k0_dev12 d, k0_dev12_lt d⟩ ![1] inb_S4_S1_1 k0_pay5 (k0_off9 d t) (k0_off9_inb d t) ![0, 1024] inb_S256x4096_S256x1024_0_1024 k0_pay6
  rsStep c3M a3M (k0_off5 t) (k0_off5_inb t) (k0_off6 t) (k0_off6_inb t) (k0_off15 t) (k0_off15_inb t) (k0_off16 t) (k0_off16_inb t)
    ⟨k0_dev13 d, k0_dev13_lt d⟩ ⟨k0_dev14 d, k0_dev14_lt d⟩ ![3] inb_S4_S1_3 k0_pay7 (k0_off12 d t) (k0_off12_inb d t) ![0, 3072] inb_S256x4096_S256x1024_0_3072 k0_pay18

theorem trip1_eq (d : Dev nD) (v50 v88 v125 v534 v554 v555 : BitVec 32) (t : Fin k0_t1_loop.trips) :
    k0_t1_body (F := F) xM (Memref.isWhole_whole _) wM (Memref.isWhole_whole _) oM (Memref.isWhole_whole _) c0M (Memref.isWhole_whole _) c1M (Memref.isWhole_whole _)
      c2M (Memref.isWhole_whole _) c3M (Memref.isWhole_whole _) a0M (Memref.isWhole_whole _) a1M (Memref.isWhole_whole _) a2M (Memref.isWhole_whole _) a3M (Memref.isWhole_whole _)
      sendA recvA credA outA d v50 v88 v125 v534 v554 v555 t () = trip1 d t := by
  rfl

/-- One trip of the second loop. -/
def trip2 (d : Dev nD) (t : Fin k0_t2_loop.trips) : PT F PUnit := do
  agStep c0M (k0_off22 t) (k0_off22_inb t) (k0_off23 t) (k0_off23_inb t) (k0_off21 t) (k0_off21_inb t) (k0_off24 t) (k0_off24_inb t)
    ⟨k0_dev23 d, k0_dev23_lt d⟩ ⟨k0_dev24 d, k0_dev24_lt d⟩ ![0] inb_S4_S1_0 (k0_off25 d t) (k0_off25_inb d t)
  agStep c2M (k0_off22 t) (k0_off22_inb t) (k0_off23 t) (k0_off23_inb t) (k0_off26 t) (k0_off26_inb t) (k0_off27 t) (k0_off27_inb t)
    ⟨k0_dev25 d, k0_dev25_lt d⟩ ⟨k0_dev26 d, k0_dev26_lt d⟩ ![2] inb_S4_S1_2 (k0_off28 d t) (k0_off28_inb d t)
  agStep c1M (k0_off22 t) (k0_off22_inb t) (k0_off23 t) (k0_off23_inb t) (k0_off29 t) (k0_off29_inb t) (k0_off30 t) (k0_off30_inb t)
    ⟨k0_dev27 d, k0_dev27_lt d⟩ ⟨k0_dev28 d, k0_dev28_lt d⟩ ![1] inb_S4_S1_1 (k0_off31 d t) (k0_off31_inb d t)
  agStep c3M (k0_off22 t) (k0_off22_inb t) (k0_off23 t) (k0_off23_inb t) (k0_off32 t) (k0_off32_inb t) (k0_off33 t) (k0_off33_inb t)
    ⟨k0_dev29 d, k0_dev29_lt d⟩ ⟨k0_dev30 d, k0_dev30_lt d⟩ ![3] inb_S4_S1_3 (k0_off34 d t) (k0_off34_inb d t)

theorem trip2_eq (d : Dev nD) (v50 v88 v125 : BitVec 32) (t : Fin k0_t2_loop.trips) :
    k0_t2_body (F := F) xM (Memref.isWhole_whole _) wM (Memref.isWhole_whole _) oM (Memref.isWhole_whole _) c0M (Memref.isWhole_whole _) c1M (Memref.isWhole_whole _)
      c2M (Memref.isWhole_whole _) c3M (Memref.isWhole_whole _) a0M (Memref.isWhole_whole _) a1M (Memref.isWhole_whole _) a2M (Memref.isWhole_whole _) a3M (Memref.isWhole_whole _)
      sendA recvA credA outA d v50 v88 v125 t () = trip2 d t := by
  rfl

/-! ## The whole body -/

/-- The rendezvous with both neighbours. -/
def barSeg (d : Dev nD) : PT F PUnit := do
  semSignalWord (⟨k0_dev1 d, k0_dev1_lt d⟩ : Dev nD) barS 1#32
  semSignalWord (⟨k0_dev2 d, k0_dev2_lt d⟩ : Dev nD) barS 1#32
  semWaitWord barS 2#32

/-- The four rings' first messages. -/
def firsts (d : Dev nD) : PT F PUnit := do
  firstStep c0M ![0, 0, 0] inb_S2x256x1024_S1x256x1024_0_0_0 ![1, 0, 0] inb_S2x256x1024_S1x256x1024_1_0_0 ![0, 1] inb_S4x2_S1x1_0_1 ![0, 0] inb_S4x2_S1x1_0_0 ⟨k0_dev3 d, k0_dev3_lt d⟩
    (k0_off1 d) (k0_off1_inb d) ![0, 0] inb_S256x4096_S256x1024_0_0 k0_pay8
  firstStep c2M ![0, 0, 0] inb_S2x256x1024_S1x256x1024_0_0_0 ![1, 0, 0] inb_S2x256x1024_S1x256x1024_1_0_0 ![2, 1] inb_S4x2_S1x1_2_1 ![2, 0] inb_S4x2_S1x1_2_0 ⟨k0_dev4 d, k0_dev4_lt d⟩
    (k0_off1 d) (k0_off1_inb d) ![0, 2048] inb_S256x4096_S256x1024_0_2048 k0_pay9
  firstStep c1M ![0, 0, 0] inb_S2x256x1024_S1x256x1024_0_0_0 ![1, 0, 0] inb_S2x256x1024_S1x256x1024_1_0_0 ![1, 1] inb_S4x2_S1x1_1_1 ![1, 0] inb_S4x2_S1x1_1_0 ⟨k0_dev5 d, k0_dev5_lt d⟩
    (k0_off1 d) (k0_off1_inb d) ![0, 1024] inb_S256x4096_S256x1024_0_1024 (fun x w => k0_pay11 (k0_pay10 x) w)
  firstStep c3M ![0, 0, 0] inb_S2x256x1024_S1x256x1024_0_0_0 ![1, 0, 0] inb_S2x256x1024_S1x256x1024_1_0_0 ![3, 1] inb_S4x2_S1x1_3_1 ![3, 0] inb_S4x2_S1x1_3_0 ⟨k0_dev6 d, k0_dev6_lt d⟩
    (k0_off1 d) (k0_off1_inb d) ![0, 3072] inb_S256x4096_S256x1024_0_3072 k0_pay12

/-- The four rings' first partial products to add. -/
def accs (d : Dev nD) : PT F PUnit := do
  accSeg a0M (k0_off2 d) (k0_off2_inb d) ![0, 0] inb_S256x4096_S256x1024_0_0 k0_pay13
  accSeg a2M (k0_off3 d) (k0_off3_inb d) ![0, 2048] inb_S256x4096_S256x1024_0_2048 k0_pay14
  accSeg a1M (k0_off2 d) (k0_off2_inb d) ![0, 1024] inb_S256x4096_S256x1024_0_1024 (fun x w => k0_pay16 (k0_pay15 x w))
  accSeg a3M (k0_off3 d) (k0_off3_inb d) ![0, 3072] inb_S256x4096_S256x1024_0_3072 k0_pay17

/-- The step in which every ring's own block is finished. -/
def mids (d : Dev nD) : PT F PUnit := do
  glStep c0M a0M ![1, 0, 0] inb_S2x256x1024_S1x256x1024_1_0_0 ![0, 0, 0] inb_S2x256x1024_S1x256x1024_0_0_0 ![0, 1] inb_S4x2_S1x1_0_1 ![0, 0] inb_S4x2_S1x1_0_0
    ⟨k0_dev15 d, k0_dev15_lt d⟩ ⟨k0_dev16 d, k0_dev16_lt d⟩ ![0] inb_S4_S1_0 (fun v a => k0_pay20 (k0_pay19 v a)) (k0_off17 d 30#32 30#32 30#32) (k0_off17_inb d 0)
  glStep c2M a2M ![1, 0, 0] inb_S2x256x1024_S1x256x1024_1_0_0 ![0, 0, 0] inb_S2x256x1024_S1x256x1024_0_0_0 ![2, 1] inb_S4x2_S1x1_2_1 ![2, 0] inb_S4x2_S1x1_2_0
    ⟨k0_dev17 d, k0_dev17_lt d⟩ ⟨k0_dev18 d, k0_dev18_lt d⟩ ![2] inb_S4_S1_2 k0_pay21 (k0_off18 d 30#32 30#32 30#32) (k0_off18_inb d 0)
  glStep c1M a1M ![1, 0, 0] inb_S2x256x1024_S1x256x1024_1_0_0 ![0, 0, 0] inb_S2x256x1024_S1x256x1024_0_0_0 ![1, 1] inb_S4x2_S1x1_1_1 ![1, 0] inb_S4x2_S1x1_1_0
    ⟨k0_dev19 d, k0_dev19_lt d⟩ ⟨k0_dev20 d, k0_dev20_lt d⟩ ![1] inb_S4_S1_1 k0_pay22 (k0_off19 d 30#32 30#32 30#32) (k0_off19_inb d 0)
  glStep c3M a3M ![1, 0, 0] inb_S2x256x1024_S1x256x1024_1_0_0 ![0, 0, 0] inb_S2x256x1024_S1x256x1024_0_0_0 ![3, 1] inb_S4x2_S1x1_3_1 ![3, 0] inb_S4x2_S1x1_3_0
    ⟨k0_dev21 d, k0_dev21_lt d⟩ ⟨k0_dev22 d, k0_dev22_lt d⟩ ![3] inb_S4_S1_3 (fun v a => k0_pay26 (k0_pay23 v a) (k0_pay24 v a) (k0_pay25 (F := F))) (k0_off20 d 30#32 30#32 30#32) (k0_off20_inb d 0)

/-- The last step of the first three rings, and the fourth's up to its last wait. -/
def lasts (d : Dev nD) : PT F PUnit := do
  sendWait c0M ![0, 0, 0] inb_S2x256x1024_S1x256x1024_0_0_0 ![1, 0, 0] inb_S2x256x1024_S1x256x1024_1_0_0 ![0, 1] inb_S4x2_S1x1_0_1
  outSeg c0M ![0, 0, 0] inb_S2x256x1024_S1x256x1024_0_0_0 (k0_off17 d 61#32 61#32 61#32) (k0_off17_inb d 1)
  lastStep c2M ![0, 0, 0] inb_S2x256x1024_S1x256x1024_0_0_0 ![1, 0, 0] inb_S2x256x1024_S1x256x1024_1_0_0 ![2, 0] inb_S4x2_S1x1_2_0 ![2, 1] inb_S4x2_S1x1_2_1 (k0_off18 d 61#32 61#32 61#32) (k0_off18_inb d 1)
  lastStep c1M ![0, 0, 0] inb_S2x256x1024_S1x256x1024_0_0_0 ![1, 0, 0] inb_S2x256x1024_S1x256x1024_1_0_0 ![1, 0] inb_S4x2_S1x1_1_0 ![1, 1] inb_S4x2_S1x1_1_1 (k0_off19 d 61#32 61#32 61#32) (k0_off19_inb d 1)
  recvWait c3M ![0, 0, 0] inb_S2x256x1024_S1x256x1024_0_0_0 ![1, 0, 0] inb_S2x256x1024_S1x256x1024_1_0_0 ![3, 0] inb_S4x2_S1x1_3_0
  sendWait c3M ![0, 0, 0] inb_S2x256x1024_S1x256x1024_0_0_0 ![1, 0, 0] inb_S2x256x1024_S1x256x1024_1_0_0 ![3, 1] inb_S4x2_S1x1_3_1
  outStart c3M ![0, 0, 0] inb_S2x256x1024_S1x256x1024_0_0_0 (k0_off20 d 61#32 61#32 61#32) (k0_off20_inb d 1)

/-- Everything up to the last wait. -/
def upToLast : PT F (Dev nD) := do
  let d : Dev nD ← Prog.lift .deviceId
  barSeg d
  firsts d
  accs d
  (do Scf.Loop.for k0_t1_loop k0_t1_ok ⟨⟩ (fun t _ => trip1 d t); pure ⟨⟩ : PT F PUnit)
  mids d
  (do
    Scf.Loop.for k0_t2_loop k0_t2_ok ⟨⟩ (fun t _ => trip2 d t)
    recvWait c0M ![0, 0, 0] inb_S2x256x1024_S1x256x1024_0_0_0 ![1, 0, 0] inb_S2x256x1024_S1x256x1024_1_0_0 ![0, 0] inb_S4x2_S1x1_0_0
    pure ⟨⟩ : PT F PUnit)
  lasts d
  pure d

/-- The whole body. -/
def whole : PT F PUnit := do
  let d : Dev nD ← upToLast
  outWait c3M ![0, 0, 0] inb_S2x256x1024_S1x256x1024_0_0_0 (k0_off20 d 61#32 61#32 61#32) (k0_off20_inb d 1)

theorem body_eq : cc0_body (F := F) xM (Memref.isWhole_whole _) wM (Memref.isWhole_whole _) oM (Memref.isWhole_whole _) c0M (Memref.isWhole_whole _) c1M (Memref.isWhole_whole _)
      c2M (Memref.isWhole_whole _) c3M (Memref.isWhole_whole _) a0M (Memref.isWhole_whole _) a1M (Memref.isWhole_whole _) a2M (Memref.isWhole_whole _) a3M (Memref.isWhole_whole _)
      sendA recvA credA outA = whole := by
  rfl

end Cert.KernelIdeal.Ring
-- ==== Proof.KIFacts.lean ====
/-
# Where a step's pieces lie

The device numbers and offsets that the kernel computes, as the ring's names for them: which neighbour a step's signal and
message go to, which slot, semaphore, block of rows and block of columns a step uses.
-/
module

public import proofs.«01_k».proof.Proof.KIProg

@[expose] public section

noncomputable section

namespace Cert.KernelIdeal.Ring

open Cert.KernelIdeal Cert.KernelIdeal.Gen Cert.Ring
open Idealize.ShloMosaic

theorem dev1 (d : Dev nD) : (⟨k0_dev1 d, k0_dev1_lt d⟩ : Dev nD) = pv d := by revert d; decide +kernel
theorem dev2 (d : Dev nD) : (⟨k0_dev2 d, k0_dev2_lt d⟩ : Dev nD) = nx d := by revert d; decide +kernel
theorem dev3 (d : Dev nD) : (⟨k0_dev3 d, k0_dev3_lt d⟩ : Dev nD) = dst 0 d := by revert d; decide +kernel
theorem dev4 (d : Dev nD) : (⟨k0_dev4 d, k0_dev4_lt d⟩ : Dev nD) = dst 2 d := by revert d; decide +kernel
theorem dev5 (d : Dev nD) : (⟨k0_dev5 d, k0_dev5_lt d⟩ : Dev nD) = dst 1 d := by revert d; decide +kernel
theorem dev6 (d : Dev nD) : (⟨k0_dev6 d, k0_dev6_lt d⟩ : Dev nD) = dst 3 d := by revert d; decide +kernel
theorem dev7 (d : Dev nD) : (⟨k0_dev7 d, k0_dev7_lt d⟩ : Dev nD) = ups 0 d := by revert d; decide +kernel
theorem dev8 (d : Dev nD) : (⟨k0_dev8 d, k0_dev8_lt d⟩ : Dev nD) = dst 0 d := by revert d; decide +kernel
theorem dev9 (d : Dev nD) : (⟨k0_dev9 d, k0_dev9_lt d⟩ : Dev nD) = ups 2 d := by revert d; decide +kernel
theorem dev10 (d : Dev nD) : (⟨k0_dev10 d, k0_dev10_lt d⟩ : Dev nD) = dst 2 d := by revert d; decide +kernel
theorem dev11 (d : Dev nD) : (⟨k0_dev11 d, k0_dev11_lt d⟩ : Dev nD) = ups 1 d := by revert d; decide +kernel
theorem dev12 (d : Dev nD) : (⟨k0_dev12 d, k0_dev12_lt d⟩ : Dev nD) = dst 1 d := by revert d; decide +kernel
theorem dev13 (d : Dev nD) : (⟨k0_dev13 d, k0_dev13_lt d⟩ : Dev nD) = ups 3 d := by revert d; decide +kernel
theorem dev14 (d : Dev nD) : (⟨k0_dev14 d, k0_dev14_lt d⟩ : Dev nD) = dst 3 d := by revert d; decide +kernel
theorem dev15 (d : Dev nD) : (⟨k0_dev15 d, k0_dev15_lt d⟩ : Dev nD) = ups 0 d := by revert d; decide +kernel
theorem dev16 (d : Dev nD) : (⟨k0_dev16 d, k0_dev16_lt d⟩ : Dev nD) = dst 0 d := by revert d; decide +kernel
theorem dev17 (d : Dev nD) : (⟨k0_dev17 d, k0_dev17_lt d⟩ : Dev nD) = ups 2 d := by revert d; decide +kernel
theorem dev18 (d : Dev nD) : (⟨k0_dev18 d, k0_dev18_lt d⟩ : Dev nD) = dst 2 d := by revert d; decide +kernel
theorem dev19 (d : Dev nD) : (⟨k0_dev19 d, k0_dev19_lt d⟩ : Dev nD) = ups 1 d := by revert d; decide +kernel
theorem dev20 (d : Dev nD) : (⟨k0_dev20 d, k0_dev20_lt d⟩ : Dev nD) = dst 1 d := by revert d; decide +kernel
theorem dev21 (d : Dev nD) : (⟨k0_dev21 d, k0_dev21_lt d⟩ : Dev nD) = ups 3 d := by revert d; decide +kernel
theorem dev22 (d : Dev nD) : (⟨k0_dev22 d, k0_dev22_lt d⟩ : Dev nD) = dst 3 d := by revert d; decide +kernel
theorem dev23 (d : Dev nD) : (⟨k0_dev23 d, k0_dev23_lt d⟩ : Dev nD) = ups 0 d := by revert d; decide +kernel
theorem dev24 (d : Dev nD) : (⟨k0_dev24 d, k0_dev24_lt d⟩ : Dev nD) = dst 0 d := by revert d; decide +kernel
theorem dev25 (d : Dev nD) : (⟨k0_dev25 d, k0_dev25_lt d⟩ : Dev nD) = ups 2 d := by revert d; decide +kernel
theorem dev26 (d : Dev nD) : (⟨k0_dev26 d, k0_dev26_lt d⟩ : Dev nD) = dst 2 d := by revert d; decide +kernel
theorem dev27 (d : Dev nD) : (⟨k0_dev27 d, k0_dev27_lt d⟩ : Dev nD) = ups 1 d := by revert d; decide +kernel
theorem dev28 (d : Dev nD) : (⟨k0_dev28 d, k0_dev28_lt d⟩ : Dev nD) = dst 1 d := by revert d; decide +kernel
theorem dev29 (d : Dev nD) : (⟨k0_dev29 d, k0_dev29_lt d⟩ : Dev nD) = ups 3 d := by revert d; decide +kernel
theorem dev30 (d : Dev nD) : (⟨k0_dev30 d, k0_dev30_lt d⟩ : Dev nD) = dst 3 d := by revert d; decide +kernel

theorem off1 (d : Dev nD) : k0_off1 d = ![256 * d.val, 0] := by revert d; decide +kernel
theorem off2 (r : Fin 4) (hr : r.val < 2) (d : Dev nD) : k0_off2 d = ![256 * (row r 0 d).val, 0] := by revert r d; decide +kernel
theorem off3 (r : Fin 4) (hr : 2 ≤ r.val) (d : Dev nD) : k0_off3 d = ![256 * (row r 0 d).val, 0] := by revert r d; decide +kernel
theorem off9 (r : Fin 4) (hr : r.val < 2) (d : Dev nD) (t : Fin k0_t1_loop.trips) : k0_off9 d t = ![256 * (row r (t.val + 1) d).val, 0] := by revert r d t; decide +kernel
theorem off12 (r : Fin 4) (hr : 2 ≤ r.val) (d : Dev nD) (t : Fin k0_t1_loop.trips) : k0_off12 d t = ![256 * (row r (t.val + 1) d).val, 0] := by revert r d t; decide +kernel
theorem off17a (d : Dev nD) : k0_off17 d 30#32 30#32 30#32 = ![256 * (row 0 30 d).val, 0] := by revert d; decide +kernel
theorem off17b (d : Dev nD) : k0_off17 d 61#32 61#32 61#32 = ![256 * (row 0 61 d).val, 0] := by revert d; decide +kernel
theorem off25 (d : Dev nD) (t : Fin k0_t2_loop.trips) : k0_off25 d t = ![256 * (row 0 (t.val + 31) d).val, 0] := by revert d t; decide +kernel
theorem off18a (d : Dev nD) : k0_off18 d 30#32 30#32 30#32 = ![256 * (row 2 30 d).val, 2048] := by revert d; decide +kernel
theorem off18b (d : Dev nD) : k0_off18 d 61#32 61#32 61#32 = ![256 * (row 2 61 d).val, 2048] := by revert d; decide +kernel
theorem off28 (d : Dev nD) (t : Fin k0_t2_loop.trips) : k0_off28 d t = ![256 * (row 2 (t.val + 31) d).val, 2048] := by revert d t; decide +kernel
theorem off19a (d : Dev nD) : k0_off19 d 30#32 30#32 30#32 = ![256 * (row 1 30 d).val, 1024] := by revert d; decide +kernel
theorem off19b (d : Dev nD) : k0_off19 d 61#32 61#32 61#32 = ![256 * (row 1 61 d).val, 1024] := by revert d; decide +kernel
theorem off31 (d : Dev nD) (t : Fin k0_t2_loop.trips) : k0_off31 d t = ![256 * (row 1 (t.val + 31) d).val, 1024] := by revert d t; decide +kernel
theorem off20a (d : Dev nD) : k0_off20 d 30#32 30#32 30#32 = ![256 * (row 3 30 d).val, 3072] := by revert d; decide +kernel
theorem off20b (d : Dev nD) : k0_off20 d 61#32 61#32 61#32 = ![256 * (row 3 61 d).val, 3072] := by revert d; decide +kernel
theorem off34 (d : Dev nD) (t : Fin k0_t2_loop.trips) : k0_off34 d t = ![256 * (row 3 (t.val + 31) d).val, 3072] := by revert d t; decide +kernel

theorem off5 (t : Fin k0_t1_loop.trips) : k0_off5 t = ![(t.val + 1) % 2, 0, 0] := by revert t; decide +kernel
theorem off6 (t : Fin k0_t1_loop.trips) : k0_off6 t = ![t.val % 2, 0, 0] := by revert t; decide +kernel
theorem off4 (t : Fin k0_t1_loop.trips) : k0_off4 t = ![0, (t.val + 1) % 2] := by revert t; decide +kernel
theorem off7 (t : Fin k0_t1_loop.trips) : k0_off7 t = ![0, t.val % 2] := by revert t; decide +kernel
theorem off10 (t : Fin k0_t1_loop.trips) : k0_off10 t = ![2, (t.val + 1) % 2] := by revert t; decide +kernel
theorem off11 (t : Fin k0_t1_loop.trips) : k0_off11 t = ![2, t.val % 2] := by revert t; decide +kernel
theorem off13 (t : Fin k0_t1_loop.trips) : k0_off13 t = ![1, (t.val + 1) % 2] := by revert t; decide +kernel
theorem off14 (t : Fin k0_t1_loop.trips) : k0_off14 t = ![1, t.val % 2] := by revert t; decide +kernel
theorem off15 (t : Fin k0_t1_loop.trips) : k0_off15 t = ![3, (t.val + 1) % 2] := by revert t; decide +kernel
theorem off16 (t : Fin k0_t1_loop.trips) : k0_off16 t = ![3, t.val % 2] := by revert t; decide +kernel
theorem off22 (t : Fin k0_t2_loop.trips) : k0_off22 t = ![(t.val + 31 + 1) % 2, 0, 0] := by revert t; decide +kernel
theorem off23 (t : Fin k0_t2_loop.trips) : k0_off23 t = ![(t.val + 31) % 2, 0, 0] := by revert t; decide +kernel
theorem off21 (t : Fin k0_t2_loop.trips) : k0_off21 t = ![0, (t.val + 31 + 1) % 2] := by revert t; decide +kernel
theorem off24 (t : Fin k0_t2_loop.trips) : k0_off24 t = ![0, (t.val + 31) % 2] := by revert t; decide +kernel
theorem off26 (t : Fin k0_t2_loop.trips) : k0_off26 t = ![2, (t.val + 31 + 1) % 2] := by revert t; decide +kernel
theorem off27 (t : Fin k0_t2_loop.trips) : k0_off27 t = ![2, (t.val + 31) % 2] := by revert t; decide +kernel
theorem off29 (t : Fin k0_t2_loop.trips) : k0_off29 t = ![1, (t.val + 31 + 1) % 2] := by revert t; decide +kernel
theorem off30 (t : Fin k0_t2_loop.trips) : k0_off30 t = ![1, (t.val + 31) % 2] := by revert t; decide +kernel
theorem off32 (t : Fin k0_t2_loop.trips) : k0_off32 t = ![3, (t.val + 31 + 1) % 2] := by revert t; decide +kernel
theorem off33 (t : Fin k0_t2_loop.trips) : k0_off33 t = ![3, (t.val + 31) % 2] := by revert t; decide +kernel

theorem trips1 : k0_t1_loop.trips = 30 := by decide +kernel
theorem trips2 : k0_t2_loop.trips = 30 := by decide +kernel

end Cert.KernelIdeal.Ring
-- ==== Proof.KISched.lean ====
/-
# The protocol of the four rings

What the messages hold (`M`), the semaphore cells with the rounds that each cell goes through, who pays a round and what the
payment hands over (`rd`), the levels at which the cells are waited for, and what a device still owes (`owe`).

* Message `s` (of 62) of ring `r` leaves device `c` from its slot `s % 2` for the other slot of `dst r c`. It pays round
  `s / 2` of the receive cell of that slot: it hands over the slot holding the message, and that the sender has reached the
  round of its credit cell that the receiver pays next. It also pays round `s / 2` of the sender's own send cell: the slot
  it left is the sender's again.
* After step `s` a device gives its upstream neighbour leave to send message `s + 1`: round `s` of the neighbour's credit
  cell, handing over the slot that message will fill and the round of the receive cell it will pay.
* The barrier cell hands over, at the start, the slots that the first messages fill.
* The copies to the result go one after the other over one cell; a round hands back the piece written and the slot read.
-/
module

public import proofs.«01_k».proof.Proof.KIFacts
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB
local notation "𝕄" => MT nD τ sig ℕ (Elt F) ℕ UU ℕ
abbrev EP : Emb (UR sig nD τ) (MT nD τ sig ℕ (Elt F) ℕ UU ℕ) := embL
abbrev ER : Emb UB (MT nD τ sig ℕ (Elt F) ℕ UU ℕ) := embR

/-! ## Buffers and cells by ring -/

/-- A ring's two-slot buffer and its accumulator. -/
abbrev cM (r : Fin 4) : Memref sig .tc .vmem S2x256x1024 .f32 := match r with | 0 => c0M | 1 => c1M | 2 => c2M | 3 => c3M
abbrev aM (r : Fin 4) : Memref sig .tc .vmem S256x1024 .f32 := match r with | 0 => a0M | 1 => a1M | 2 => a2M | 3 => a3M

theorem slotIn (s : ℕ) : SlotIn ![s % 2, 0, 0] := by
  have h := Nat.mod_lt s (show 0 < 2 by decide)
  intro a; fin_cases a
  · show s % 2 + 1 ≤ 2; omega
  · show 0 + 256 ≤ 256; omega
  · show 0 + 1024 ≤ 1024; omega
theorem outIn (r : Fin 4) (b : D32) : OutIn ![256 * b.val, 1024 * r.val] := by
  intro a; fin_cases a
  · show 256 * b.val + 256 ≤ 8192; omega
  · show 1024 * r.val + 1024 ≤ 4096; omega
theorem rowsIn (b : D32) : RowsIn ![256 * b.val, 0] := by
  intro a; fin_cases a
  · show 256 * b.val + 256 ≤ 8192; omega
  · show 0 + 256 ≤ 256; omega
theorem colsIn (r : Fin 4) : ColsIn ![0, 1024 * r.val] := by
  intro a; fin_cases a
  · show 0 + 256 ≤ 256; omega
  · show 1024 * r.val + 1024 ≤ 4096; omega

/-- Slot `s % 2` of a ring's buffer. -/
abbrev slotM (r : Fin 4) (s : ℕ) : Memref sig .tc .vmem S256x1024 .f32 := slotAt (cM r) ![s % 2, 0, 0] (slotIn s)
/-- Block `b` of rows, ring `r`'s columns, of the result. -/
abbrev outM (r : Fin 4) (b : D32) : Memref sig .tc .hbm S256x1024 .f32 := outAt ![256 * b.val, 1024 * r.val] (outIn r b)

def sendS (r : Fin 4) (s : ℕ) : DmaSem sig := ⟨2 + 2 * r.val + s % 2, by show _ < 19; omega⟩
def recvS (r : Fin 4) (s : ℕ) : DmaSem sig := ⟨10 + 2 * r.val + s % 2, by show _ < 19; omega⟩
def outS : DmaSem sig := ⟨18, by show _ < 19; omega⟩
def credS (r : Fin 4) : Sem sig := ⟨r.val, by show _ < 5; omega⟩

theorem semAt_send (r : Fin 4) (s : ℕ) (h : CellIn ![r.val, s % 2]) : semAt sendA ![r.val, s % 2] h = sendS r s := by
  have key : ∀ (r : Fin 4) (j : Fin 2) (h : CellIn ![r.val, j.val]), (semAt sendA ![r.val, j.val] h).val = 2 + 2 * r.val + j.val := by
    decide +kernel
  exact Fin.ext (key r ⟨s % 2, Nat.mod_lt _ (by decide)⟩ h)
theorem semAt_recv (r : Fin 4) (s : ℕ) (h : CellIn ![r.val, s % 2]) : semAt recvA ![r.val, s % 2] h = recvS r s := by
  have key : ∀ (r : Fin 4) (j : Fin 2) (h : CellIn ![r.val, j.val]), (semAt recvA ![r.val, j.val] h).val = 10 + 2 * r.val + j.val := by
    decide +kernel
  exact Fin.ext (key r ⟨s % 2, Nat.mod_lt _ (by decide)⟩ h)
theorem credAt_eq (r : Fin 4) (h : CredIn ![r.val]) : credAt ![r.val] h = credS r := by
  have key : ∀ (r : Fin 4) (h : CredIn ![r.val]), (credAt ![r.val] h).val = r.val := by decide +kernel
  exact Fin.ext (key r h)
theorem outA_eq : outA.sem = outS := rfl
theorem barS_val : (barS : Sem sig).val = 4 := rfl

abbrev gR (r : Fin 4) (s : ℕ) (c : Dev nD) : GSem nD τ sig := ((c : Thread nD τ), .dma (recvS r s))
abbrev gS (r : Fin 4) (s : ℕ) (c : Dev nD) : GSem nD τ sig := ((c : Thread nD τ), .dma (sendS r s))
abbrev gC (r : Fin 4) (c : Dev nD) : GSem nD τ sig := ((c : Thread nD τ), .reg (credS r))
abbrev gO (c : Dev nD) : GSem nD τ sig := ((c : Thread nD τ), .dma outS)
abbrev gB (c : Dev nD) : GSem nD τ sig := ((c : Thread nD τ), .reg barS)

theorem recvS_add (r : Fin 4) (s : ℕ) : recvS r (s + 2) = recvS r s := by
  apply Fin.ext; show 10 + 2 * r.val + _ % 2 = 10 + 2 * r.val + _ % 2; omega
theorem sendS_add (r : Fin 4) (s : ℕ) : sendS r (s + 2) = sendS r s := by
  apply Fin.ext; show 2 + 2 * r.val + _ % 2 = 2 + 2 * r.val + _ % 2; omega
theorem slotM_congr (r : Fin 4) {s s' : ℕ} (h : s % 2 = s' % 2) : slotM r s = slotM r s' := by
  unfold slotM; congr 1; rw [h]
theorem slotM_add (r : Fin 4) (s : ℕ) : slotM r (s + 2) = slotM r s := slotM_congr r (by omega)
theorem recvS_congr (r : Fin 4) {s s' : ℕ} (h : s % 2 = s' % 2) : recvS r s = recvS r s' := by
  apply Fin.ext; show 10 + 2 * r.val + _ % 2 = 10 + 2 * r.val + _ % 2; omega
theorem sendS_congr (r : Fin 4) {s s' : ℕ} (h : s % 2 = s' % 2) : sendS r s = sendS r s' := by
  apply Fin.ext; show 2 + 2 * r.val + _ % 2 = 2 + 2 * r.val + _ % 2; omega

/-- What a transfer of one block credits, on a ring's buffer and on the result. -/
def NN (r : Fin 4) : ℕ := (slotM r 0).view.dmaCredit
def NO : ℕ := (outM 0 0).view.dmaCredit
theorem NN_pos (r : Fin 4) : 0 < NN r := View.dmaCredit_pos _ (by decide)
theorem NO_pos : 0 < NO := View.dmaCredit_pos _ (by decide)

/-! ## What the messages hold -/

section Contents

variable (xs : Dev nD → Vec F S8192x256 .f32) (ws : Dev nD → Vec F S256x4096 .f32)

/-- The rows of a block, and a ring's columns. -/
def xBlk (b : D32) (x : Vec F S8192x256 .f32) : Vec F S256x256 .f32 := (xM : Memref sig .tc .vmem S8192x256 .f32).view.readAt (Elt F) (rowsR ![256 * b.val, 0] (rowsIn b)).toLoadRect x
def wBlk (r : Fin 4) (w : Vec F S256x4096 .f32) : Vec F S256x1024 .f32 := (wM : Memref sig .tc .vmem S256x4096 .f32).view.readAt (Elt F) (colsR ![0, 1024 * r.val] (colsIn r)).toLoadRect w

/-- A device's partial product for a block of rows and a ring's columns. -/
def P (r : Fin 4) (b : D32) (c : Dev nD) : Vec F S256x1024 .f32 := k0_pay2 (xBlk b (xs c)) (wBlk r (ws c))

/-- The activation, as the kernel computes it. -/
def act (y : Vec F S256x1024 .f32) : Vec F S256x1024 .f32 :=
  mulf (mulf (broadcast S256x1024 (Scalar.ofBits .f32 0x3F000000#32)) y)
    (addf (broadcast S256x1024 (Scalar.ofBits .f32 0x3F800000#32))
      (tanh (mulf (broadcast S256x1024 (Scalar.ofBits .f32 0x3F4C422A#32))
        (addf y (mulf (mulf (mulf (broadcast S256x1024 (Scalar.ofBits .f32 0x3D372713#32)) y) y) y)))))

/-- Message `s` of ring `r`, as device `c` sends it. -/
def M (r : Fin 4) : ℕ → D32 → Vec F S256x1024 .f32
  | 0, c => P xs ws r c c
  | s + 1, c =>
    if s < 30 then addf (M r s (ups r c)) (P xs ws r (row r s c) c)
    else if s = 30 then act (addf (M r s (ups r c)) (P xs ws r (row r s c) c))
    else M r s (ups r c)

theorem M_zero (r : Fin 4) (c : D32) : M xs ws r 0 c = P xs ws r c c := rfl
theorem M_lt (r : Fin 4) (s : ℕ) (h : s < 30) (c : D32) : M xs ws r (s + 1) c = addf (M xs ws r s (ups r c)) (P xs ws r (row r s c) c) := by
  rw [M, if_pos h]
theorem M_mid (r : Fin 4) (c : D32) : M xs ws r (30 + 1) c = act (addf (M xs ws r 30 (ups r c)) (P xs ws r (row r 30 c) c)) := by
  rw [M, if_neg (by decide), if_pos rfl]
theorem M_gt (r : Fin 4) (s : ℕ) (h : 30 < s) (c : D32) : M xs ws r (s + 1) c = M xs ws r s (ups r c) := by
  rw [M, if_neg (by omega), if_neg (by omega)]

end Contents

/-! ## The assertions about memory -/

/-- Device `c`'s slot `s % 2` of ring `r` reads `X`; holds anything. -/
def slotHas (r : Fin 4) (s : ℕ) (c : Dev nD) (X : Vec F S256x1024 .f32) : sProp 𝕄 := owns (c : Thread nD τ) (slotM r s) fullShare X
def slotAny (r : Fin 4) (s : ℕ) (c : Dev nD) : sProp 𝕄 := iprop(∃ f, (slotM r s).view.loc (c : Thread nD τ) ↦[(slotM r s).view.set]{fullShare} f)
/-- Device `c`'s piece of the result, likewise. -/
def outHas (r : Fin 4) (b : D32) (c : Dev nD) (X : Vec F S256x1024 .f32) : sProp 𝕄 := owns (c : Thread nD τ) (outM r b) fullShare X
def outAny (r : Fin 4) (b : D32) (c : Dev nD) : sProp 𝕄 := iprop(∃ f, (outM r b).view.loc (c : Thread nD τ) ↦[(outM r b).view.set]{fullShare} f)
/-- Device `c`'s accumulator of ring `r` reads `X`. -/
def accHas (r : Fin 4) (c : Dev nD) (X : Vec F S256x1024 .f32) : sProp 𝕄 := owns (c : Thread nD τ) (aM r) fullShare X

omit [FloatOps F] in
theorem slotHas_any (r : Fin 4) (s : ℕ) (c : Dev nD) (X : Vec F S256x1024 .f32) : slotHas r s c X ⊢ slotAny (F := F) r s c := by
  unfold slotHas slotAny owns
  iintro ⟨%f, %hf, H⟩; iexists f; iexact H
omit [FloatOps F] in
theorem slotAny_congr (r : Fin 4) {s s' : ℕ} (h : s % 2 = s' % 2) (c : Dev nD) : slotAny (F := F) r s c = slotAny r s' c := by
  unfold slotAny; rw [slotM_congr r h]
omit [FloatOps F] in
theorem slotHas_congr (r : Fin 4) {s s' : ℕ} (h : s % 2 = s' % 2) (c : Dev nD) (X : Vec F S256x1024 .f32) : slotHas r s c X = slotHas r s' c X := by
  unfold slotHas; rw [slotM_congr r h]

omit [FloatOps F] in
instance slotHas_storable (r : Fin 4) (s : ℕ) (c : Dev nD) (X : Vec F S256x1024 .f32) : BI.Storable (upEmb : UEmb _ 𝕄) (slotHas r s c X) := by unfold slotHas; infer_instance
omit [FloatOps F] in
instance slotAny_storable (r : Fin 4) (s : ℕ) (c : Dev nD) : BI.Storable (upEmb : UEmb _ 𝕄) (slotAny (F := F) r s c) := by unfold slotAny; infer_instance
omit [FloatOps F] in
instance outHas_storable (r : Fin 4) (b : D32) (c : Dev nD) (X : Vec F S256x1024 .f32) : BI.Storable (upEmb : UEmb _ 𝕄) (outHas r b c X) := by unfold outHas; infer_instance

/-! ## The schedule -/

section Sched

variable (xs : Dev nD → Vec F S8192x256 .f32) (ws : Dev nD → Vec F S256x4096 .f32)

/-- The rings in the order in which a step goes through them. -/
def ring (p : ℕ) : Fin 4 := if p % 4 = 0 then 0 else if p % 4 = 1 then 2 else if p % 4 = 2 then 1 else 3
def place (r : Fin 4) : ℕ := match r with | 0 => 0 | 1 => 2 | 2 => 1 | 3 => 3
theorem ring_place (r : Fin 4) (s : ℕ) : ring (4 * s + place r) = r := by
  unfold ring; fin_cases r <;> simp [place, Nat.mul_add_mod]
theorem place_lt (r : Fin 4) : place r < 4 := by fin_cases r <;> decide

def recvPay (r : Fin 4) (s : ℕ) (c : Dev nD) : sProp 𝕄 :=
  iprop(slotHas r (s + 1) c (M xs ws r s (ups r c)) ∗ reached ER (gC r (ups r c)) s)
def credPay (r : Fin 4) (s : ℕ) (c : Dev nD) : sProp 𝕄 :=
  iprop(slotAny r s (dst r c) ∗ reached ER (gR r s (dst r c)) ((s + 1) / 2))
def outPay (r : Fin 4) (s : ℕ) (c : Dev nD) : sProp 𝕄 :=
  iprop(outHas r (row r s c) c (M xs ws r (s + 1) c) ∗ slotHas r (s + 1) c (M xs ws r (s + 1) c))
def barPay (d : Bool) (c : Dev nD) : sProp 𝕄 :=
  if d then iprop(slotAny 0 1 (dst 0 c) ∗ slotAny 1 1 (dst 1 c)) else iprop(slotAny 2 1 (dst 2 c) ∗ slotAny 3 1 (dst 3 c))

/-- The number of rounds of a cell. -/
def rounds (sm : SemLoc sig) : ℕ :=
  match sm with
  | .dma q => if q.val < 2 then 0 else if q.val < 18 then 31 else 128
  | .reg q => if q.val < 4 then 61 else 1

def names (sm : SemLoc sig) : Finset Bool :=
  match sm with
  | .dma _ => {false}
  | .reg q => if q.val < 4 then {false} else {false, true}

def amt (sm : SemLoc sig) : ℕ :=
  match sm with
  | .dma q => if q.val < 18 then NN (Fin.ofNat 4 ((q.val - 2) / 2)) else NO
  | .reg _ => 1

def pay (sm : SemLoc sig) (k : ℕ) (d : Bool) (c : Dev nD) : sProp 𝕄 :=
  match sm with
  | .dma q =>
    if q.val < 10 then slotAny (Fin.ofNat 4 ((q.val - 2) / 2)) q.val c
    else if q.val < 18 then recvPay xs ws (Fin.ofNat 4 ((q.val - 2) / 2)) (2 * k + (1 - q.val % 2)) c
    else outPay xs ws (ring k) (k / 4 + 30) c
  | .reg q => if q.val < 4 then credPay (Fin.ofNat 4 q.val) k c else barPay d c

def rd : Rounds.Schedule (GSem nD τ sig) Bool 𝕄 where
  duties g k := if k < rounds g.2 then names g.2 else ∅
  unitless _ := False
  amount g _ _ := amt g.2
  payload g k d := pay xs ws g.2 k d g.1.1
  amount_pos g _ _ _ := by
    show 0 < amt g.2
    unfold amt; split
    · split
      · exact NN_pos _
      · exact NO_pos
    · exact Nat.one_pos

instance rd_storable (g : GSem nD τ sig) (k : ℕ) (d : Bool) : BI.Storable (upEmb : UEmb _ 𝕄) ((rd (F := F) xs ws).payload g k d) := by
  show BI.Storable upEmb (pay xs ws g.2 k d g.1.1)
  unfold pay recvPay credPay outPay barPay
  (repeat' split) <;> infer_instance

theorem ringOf_send (r : Fin 4) (s : ℕ) : Fin.ofNat 4 (((sendS r s).val - 2) / 2) = r := by
  apply Fin.ext; show ((2 + 2 * r.val + s % 2 - 2) / 2) % 4 = r.val; omega
theorem ringOf_recv (r : Fin 4) (s : ℕ) : Fin.ofNat 4 (((recvS r s).val - 2) / 2) = r := by
  apply Fin.ext; show ((10 + 2 * r.val + s % 2 - 2) / 2) % 4 = r.val; omega

theorem rounds_R (r : Fin 4) (s : ℕ) : rounds (.dma (recvS r s)) = 31 := by
  show (if 10 + 2 * r.val + s % 2 < 2 then 0 else if 10 + 2 * r.val + s % 2 < 18 then 31 else 128) = 31
  rw [if_neg (by omega), if_pos (by omega)]
theorem rounds_S (r : Fin 4) (s : ℕ) : rounds (.dma (sendS r s)) = 31 := by
  show (if 2 + 2 * r.val + s % 2 < 2 then 0 else if 2 + 2 * r.val + s % 2 < 18 then 31 else 128) = 31
  rw [if_neg (by omega), if_pos (by omega)]
theorem rounds_C (r : Fin 4) : rounds (.reg (credS r)) = 61 := by
  show (if r.val < 4 then 61 else 1) = 61
  rw [if_pos r.isLt]
theorem rounds_O : rounds (.dma outS) = 128 := by decide +kernel
theorem rounds_B : rounds (.reg barS) = 1 := by decide +kernel
theorem names_C (r : Fin 4) : names (.reg (credS r)) = {false} := by
  show (if r.val < 4 then _ else _) = _
  rw [if_pos r.isLt]
theorem names_B : names (.reg barS) = {false, true} := by decide +kernel
theorem amt_R (r : Fin 4) (s : ℕ) : amt (.dma (recvS r s)) = NN r := by
  show (if 10 + 2 * r.val + s % 2 < 18 then NN (Fin.ofNat 4 (((recvS r s).val - 2) / 2)) else NO) = _
  rw [if_pos (by omega), ringOf_recv]
theorem amt_S (r : Fin 4) (s : ℕ) : amt (.dma (sendS r s)) = NN r := by
  show (if 2 + 2 * r.val + s % 2 < 18 then NN (Fin.ofNat 4 (((sendS r s).val - 2) / 2)) else NO) = _
  rw [if_pos (by omega), ringOf_send]
theorem amt_O : amt (.dma outS) = NO := by unfold amt; dsimp only; rw [if_neg (by decide)]

section
variable (c : Dev nD) (r : Fin 4) (s k : ℕ) (d : Bool)

theorem duties_of (g : GSem nD τ sig) (hk : k < rounds g.2) : (rd xs ws).duties g k = names g.2 := if_pos hk
theorem duties_later (g : GSem nD τ sig) (hk : rounds g.2 ≤ k) : (rd xs ws).duties g k = ∅ := if_neg (Nat.not_lt.mpr hk)
theorem pay_S : pay xs ws (.dma (sendS r s)) k d c = slotAny r s c := by
  show (if 2 + 2 * r.val + s % 2 < 10 then slotAny (Fin.ofNat 4 (((sendS r s).val - 2) / 2)) (sendS r s).val c else _) = _
  rw [if_pos (by omega), ringOf_send]
  exact slotAny_congr r (by show (2 + 2 * r.val + s % 2) % 2 = s % 2; omega) c
theorem pay_R : pay xs ws (.dma (recvS r (s + 1))) (s / 2) d c = recvPay xs ws r s c := by
  show (if 10 + 2 * r.val + (s + 1) % 2 < 10 then _ else if 10 + 2 * r.val + (s + 1) % 2 < 18 then
    recvPay xs ws (Fin.ofNat 4 (((recvS r (s + 1)).val - 2) / 2)) (2 * (s / 2) + (1 - (10 + 2 * r.val + (s + 1) % 2) % 2)) c else _) = _
  rw [if_neg (by omega), if_pos (by omega), ringOf_recv, show 2 * (s / 2) + (1 - (10 + 2 * r.val + (s + 1) % 2) % 2) = s by omega]
theorem pay_C : pay xs ws (.reg (credS r)) k d c = credPay r k c := by
  show (if r.val < 4 then credPay (Fin.ofNat 4 r.val) k c else _) = _
  rw [if_pos r.isLt]; congr 1; exact Fin.ext (Nat.mod_eq_of_lt r.isLt)
theorem pay_O (hs : 30 ≤ s) : pay xs ws (.dma outS) (4 * (s - 30) + place r) d c = outPay xs ws r s c := by
  have e : ∀ k, pay xs ws (.dma outS) k d c = outPay xs ws (ring k) (k / 4 + 30) c := by
    intro k; unfold pay; dsimp only; rw [if_neg (by decide), if_neg (by decide)]
  rw [e]
  have := place_lt r
  rw [ring_place, show (4 * (s - 30) + place r) / 4 + 30 = s by omega]
theorem pay_B : pay xs ws (.reg barS) k d c = barPay d c := by unfold pay; dsimp only; rw [if_neg (by decide)]

/-- The rest of a round with one duty. -/
theorem rest_one (g : GSem nD τ sig) (hk : k < rounds g.2) (hn : names g.2 = {false}) :
    bigSep ((rd xs ws).duties g k \ ∅) (fun d => (rd xs ws).payload g k d) = pay xs ws g.2 k false g.1.1 := by
  rw [Finset.sdiff_empty, duties_of xs ws k g hk, hn, bigSep_singleton]; rfl
theorem expect_one (g : GSem nD τ sig) (hk : k < rounds g.2) (hn : names g.2 = {false}) : (rd xs ws).expect g k = amt g.2 := by
  unfold Schedule.expect Schedule.amountOf; rw [duties_of xs ws k g hk, hn, Finset.sum_singleton]; rfl
theorem rest_bar : bigSep ((rd xs ws).duties (gB c) 0 \ ∅) (fun d => (rd xs ws).payload (gB c) 0 d)
    = iprop(barPay (F := F) false c ∗ barPay true c) := by
  rw [Finset.sdiff_empty, duties_of xs ws 0 (gB c) (by show 0 < rounds (.reg barS); rw [rounds_B]; decide)]
  show bigSep (names (.reg barS)) _ = _
  rw [names_B, show ({false, true} : Finset Bool) = Finset.univ from by decide, bigSep_univ_eq_bigSepL [false, true] (by decide) (by decide), bigSepL_cons_cons, bigSepL_singleton]
  show iprop(pay xs ws (.reg barS) 0 false c ∗ pay xs ws (.reg barS) 0 true c) = _
  rw [pay_B, pay_B]
theorem expect_bar : (rd xs ws).expect (gB c) 0 = 2 := by
  unfold Schedule.expect Schedule.amountOf
  rw [duties_of xs ws 0 (gB c) (by show 0 < rounds (.reg barS); rw [rounds_B]; decide)]
  show ∑ d ∈ names (.reg barS), 1 = 2
  rw [names_B]; rfl
theorem mem_names (sm : SemLoc sig) : false ∈ names sm := by
  unfold names; (repeat' split) <;> decide
end

end Sched

/-! ## What a device owes, and the levels -/

/-- A message and a leave, by the number `4 * s + place r` of the step of the ring. -/
def msgItem (i : ℕ) (c : Dev nD) : CellTallies nD τ sig ℕ := tallyAt (gR (ring i) (i / 4 + 1) (dst (ring i) c)) (2 + 2 * i) (NN (ring i))
def credItem (i : ℕ) (c : Dev nD) : CellTallies nD τ sig ℕ := tallyAt (gC (ring i) (ups (ring i) c)) (3 + 2 * i) 1

/-- What is owed from number `n` on; what is owed while the first messages are sent; at launch. -/
def owe (n : ℕ) (c : Dev nD) : CellTallies nD τ sig ℕ := ∑ i ∈ Finset.Ico n 244, (msgItem (i + 4) c + credItem i c)
def oweFirst (p : ℕ) (c : Dev nD) : CellTallies nD τ sig ℕ := owe 0 c + ∑ i ∈ Finset.Ico p 4, msgItem i c
def O₁ (c : Dev nD) : CellTallies nD τ sig ℕ := oweFirst 0 c + tallyAt (gB (nx c)) 1 1
def O₀ (c : Dev nD) : CellTallies nD τ sig ℕ := O₁ c + tallyAt (gB (pv c)) 1 1

theorem Ico_step {n k : ℕ} (h : n < k) : Finset.Ico n k = insert n (Finset.Ico (n + 1) k) := by
  ext i; rw [Finset.mem_insert, Finset.mem_Ico, Finset.mem_Ico]; omega
theorem not_mem_Ico (n k : ℕ) : n ∉ Finset.Ico (n + 1) k := by rw [Finset.mem_Ico]; omega

theorem owe_step (n : ℕ) (h : n < 244) (c : Dev nD) : owe n c = owe (n + 1) c + msgItem (n + 4) c + credItem n c := by
  unfold owe; rw [Ico_step h, Finset.sum_insert (not_mem_Ico _ _), add_comm, add_assoc]
theorem owe_end (n : ℕ) (h : 244 ≤ n) (c : Dev nD) : owe n c = 0 := by
  unfold owe; rw [Finset.Ico_eq_empty (by omega), Finset.sum_empty]
theorem oweFirst_step (p : ℕ) (h : p < 4) (c : Dev nD) : oweFirst p c = oweFirst (p + 1) c + msgItem p c := by
  unfold oweFirst; rw [Ico_step h, Finset.sum_insert (not_mem_Ico _ _), add_assoc, add_comm (msgItem p c)]
theorem oweFirst_end (c : Dev nD) : oweFirst 4 c = owe 0 c := by
  unfold oweFirst; rw [Finset.Ico_eq_empty (by omega), Finset.sum_empty, add_zero]

def L (g : GSem nD τ sig) : Finset ℕ := if g.1.2 = .tc then Finset.range 600 else ∅
def lv (_ : GSem nD τ sig) (ι : ℕ) : ℕ := ι
theorem L_of_ne (g : GSem nD τ sig) (h : g.1.2 ≠ .tc) : L g = ∅ := if_neg h
theorem L_tc (c : Dev nD) (sm : SemLoc sig) : L ((c : Thread nD τ), sm) = Finset.range 600 := if_pos rfl

/-- Everything owed lies on TensorCore cells at levels above `n` and below 600. -/
def Above (n : ℕ) (O : CellTallies nD τ sig ℕ) : Prop := ∀ g ι, 0 < O g ι → g.1.2 = .tc ∧ n < ι ∧ ι < 600

theorem Above.zero (n : ℕ) : Above n 0 := fun g ι h => absurd h (Nat.lt_irrefl 0)
theorem Above.add {n : ℕ} {A B : CellTallies nD τ sig ℕ} (hA : Above n A) (hB : Above n B) : Above n (A + B) := by
  intro g ι h
  rw [Pi.add_apply, Finsupp.add_apply] at h
  rcases Nat.eq_zero_or_pos (A g ι) with h0 | h0
  · exact hB g ι (by omega)
  · exact hA g ι h0
theorem Above.sum {n : ℕ} (S : Finset ℕ) (f : ℕ → CellTallies nD τ sig ℕ) (h : ∀ i ∈ S, Above n (f i)) : Above n (∑ i ∈ S, f i) := by
  induction S using Finset.induction_on with
  | empty => rw [Finset.sum_empty]; exact Above.zero n
  | insert a S ha ih =>
    rw [Finset.sum_insert ha]
    exact Above.add (h a (Finset.mem_insert_self a S)) (ih fun i hi => h i (Finset.mem_insert_of_mem hi))
theorem Above.at {n ι k : ℕ} (c : Dev nD) (sm : SemLoc sig) (h : n < ι) (h' : ι < 600) : Above n (tallyAt ((c : Thread nD τ), sm) ι k) := by
  intro g ι' hg
  rw [tallyAt_apply] at hg
  by_cases hh : g = ((c : Thread nD τ), sm) ∧ ι' = ι
  · obtain ⟨rfl, rfl⟩ := hh; exact ⟨rfl, h, h'⟩
  · rw [if_neg hh] at hg; exact absurd hg (Nat.lt_irrefl 0)
theorem above_owe (n i : ℕ) (h : n < 3 + 2 * i) (c : Dev nD) : Above n (owe i c) := by
  unfold owe
  refine Above.sum _ _ fun j hj => ?_
  have := Finset.mem_Ico.mp hj
  exact Above.add (Above.at _ _ (by omega) (by omega)) (Above.at _ _ (by omega) (by omega))
theorem above_first (n p : ℕ) (h : n < 2 + 2 * p) (h' : n < 3) (c : Dev nD) : Above n (oweFirst p c) := by
  unfold oweFirst
  refine Above.add (above_owe n 0 (by omega) c) (Above.sum _ _ fun j hj => ?_)
  have := Finset.mem_Ico.mp hj
  exact Above.at _ _ (by omega) (by omega)
theorem above_O₀ (c : Dev nD) : Above 0 (O₀ c) :=
  Above.add (Above.add (above_first 0 0 (by omega) (by omega) c) (Above.at _ _ (by omega) (by omega))) (Above.at _ _ (by omega) (by omega))

omit [FloatOps F] in
theorem mayWait (c : Dev nD) (sm : SemLoc sig) (ι : ℕ) (hι : ι < 600) {O : CellTallies nD τ sig ℕ} (h : Above ι O) :
    (levAts L lv : sProp 𝕄) ⊢ MayWait (c : Thread nD τ) sm ι O := by
  refine Pipeline.mayWait_of_levAts (by rw [L_tc]; exact Finset.mem_range.mpr hι) fun g i hg => ?_
  obtain ⟨h1, h2, h3⟩ := h g i hg
  exact ⟨by unfold L; rw [if_pos h1]; exact Finset.mem_range.mpr h3, h2⟩

end Cert.KernelIdeal.Ring
-- ==== Proof.KIMem.lean ====
/-
# What the kernel's loads and stores do

Reading and writing one slot of a two-slot buffer, an accumulator, and the staged operands; and what each of the kernel's
arithmetic pieces computes, in the terms of the protocol's contents.
-/
module

public import proofs.«01_k».proof.Proof.KISched
public import Idealize.ShloMosaic.Lib.Pipeline.Value

@[expose] public section

noncomputable section

namespace Cert.KernelIdeal.Ring

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- What a device's program needs so that it ends in `Q`. -/
abbrev wpr {α : Type} (c : Dev nD) (p : PT F α) (Q : α → sProp 𝕄) : sProp 𝕄 :=
  wp frame (wpE (defs₀ (F := F)) 𝒱₀ (c : Thread nD τ) none) Set.univ p Q

theorem ret_intro {α : Type} (c : Dev nD) (a : α) (Q : α → sProp 𝕄) : Q a ⊢ wpr c (.ret a) Q := fupd_intro.trans (Entails.of_eq (wp_ret _ _ _ _ _).symm)
theorem bind_intro {α β : Type} (c : Dev nD) (p : PT F α) (k : α → PT F β) (Q : β → sProp 𝕄) : wpr c p (fun a => wpr c (k a) Q) ⊢ wpr c (p >>= k) Q :=
  Entails.of_eq (wp_bind _ _ _ _ _ _).symm

theorem assoc_intro {α : Type} (c : Dev nD) (a b : PT F PUnit) (k : PT F α) (Q : α → sProp 𝕄) :
    wpr c (do a; b) (fun _ => wpr c k Q) ⊢ wpr c (do a; b; k) Q := by
  refine Entails.of_eq ?_
  simp only [wp_bind]

omit [FloatOps F] in
theorem owns_any {sp : Space} {s : Shape} (c : Dev nD) (m : Memref sig .tc sp s .f32) (X : Vec F s .f32) :
    owns (c : Thread nD τ) m fullShare X ⊢ (iprop(∃ f, m.view.loc (c : Thread nD τ) ↦[m.view.set]{fullShare} f) : sProp 𝕄) := by
  unfold owns
  iintro ⟨%f, %hf, H⟩; iexists f; iexact H

/-- A slot's contents without the leading axis of extent one, and with it. -/
abbrev flat (v : Vec F S1x256x1024 .f32) : Vec F S256x1024 .f32 := shapeCast S256x1024 v shapeCasts_S1x256x1024_S256x1024
abbrev thick (v : Vec F S256x1024 .f32) : Vec F S1x256x1024 .f32 := shapeCast S1x256x1024 v shapeCasts_S256x1024_S1x256x1024

omit [FloatOps F] in
theorem flat_thick (v : Vec F S256x1024 .f32) : flat (thick v) = v := shapeCast_shapeCast v _ _

section Slot

variable {α : Type} (c : Dev nD) (C : Memref sig .tc .vmem S2x256x1024 .f32) (oN : Fin 3 → ℕ) (hN : SlotIn oN) (X : Vec F S256x1024 .f32)

theorem load_slot {Q : α → sProp 𝕄} (hl : C.view.LoadsAt (slotR oN hN).toLoadRect) (k : Vec F S1x256x1024 .f32 → PT F α) :
    owns (c : Thread nD τ) (slotAt C oN hN) fullShare X
      ⊢ iprop((∀ v : Vec F S1x256x1024 .f32, ⌜flat v = X⌝ -∗ owns (c : Thread nD τ) (slotAt C oN hN) fullShare X -∗ wpr c (k v) Q)
        -∗ wpr c (.op (.load C (slotR oN hN).toLoadRect hl) k) Q) := by
  unfold owns
  iintro ⟨%f, %hf, H⟩ Hk
  iapply (wp_load 𝒱₀ (c : Thread nD τ) none Set.univ (m := C) (r := (slotR oN hN).toLoadRect) (S := (slotAt C oN hN).view.set) (by
    rw [View.set_reshape]; exact (View.set_slice _ _).symm.subset)) $$ H
  iintro H
  iapply Hk $$ %(C.view.readAt (Elt F) (slotR oN hN).toLoadRect f) [] [H]
  · ipureintro; exact hf
  · iexists f; isplitr; · ipureintro; exact hf
    iexact H

theorem store_slot {Q : α → sProp 𝕄} (w : Vec F S1x256x1024 .f32) (hx : (C.access (slotR oN hN)).Stores Finset.univ) (hm : (Finset.univ : Finset (slotR oN hN).shape.Idx) = Finset.univ ∨ ∀ a, (slotR oN hN).stride a = 1)
    (k : PUnit → PT F α) (hw : flat w = X) :
    iprop(∃ f, (slotAt C oN hN).view.loc (c : Thread nD τ) ↦[(slotAt C oN hN).view.set]{fullShare} f)
      ⊢ iprop((owns (c : Thread nD τ) (slotAt C oN hN) fullShare X -∗ wpr c (k ⟨⟩) Q)
        -∗ wpr c (.op (.store C (slotR oN hN) w Finset.univ hx hm) k) Q) := by
  unfold owns
  iintro ⟨%f, H⟩ Hk
  iapply (wp_store 𝒱₀ (c : Thread nD τ) none Set.univ (m := C) (r := slotR oN hN) (S := (slotAt C oN hN).view.set) (f := f) (by
    rw [View.set_reshape]; exact View.setOn_subset_set _ _)) $$ H
  iintro H
  iapply Hk
  iexists ((C.access (slotR oN hN)).write (Elt F) f w Finset.univ)
  isplitr
  · ipureintro
    have h1 := Memref.read_squeeze_slice (Val := Elt F) C (slotR oN hN) (fun _ => rfl) squeezes_S1x256x1024_S256x1024
      shapeCasts_S1x256x1024_S256x1024 ((C.access (slotR oN hN)).write (Elt F) f w Finset.univ)
    have h2 : C.view.readAt (Elt F) (slotR oN hN).toLoadRect ((C.access (slotR oN hN)).write (Elt F) f w Finset.univ) = w :=
      View.read_write_univ (v := C.access (slotR oN hN)) f w
    rw [h2] at h1
    exact h1.trans hw
  · iexact H

theorem load_slot_any {Q : α → sProp 𝕄} (hl : C.view.LoadsAt (slotR oN hN).toLoadRect) (k : Vec F S1x256x1024 .f32 → PT F α) :
    iprop(∃ f, (slotAt C oN hN).view.loc (c : Thread nD τ) ↦[(slotAt C oN hN).view.set]{fullShare} f)
      ⊢ iprop((∀ v : Vec F S1x256x1024 .f32, (∃ f, (slotAt C oN hN).view.loc (c : Thread nD τ) ↦[(slotAt C oN hN).view.set]{fullShare} f) -∗ wpr c (k v) Q)
        -∗ wpr c (.op (.load C (slotR oN hN).toLoadRect hl) k) Q) := by
  iintro ⟨%f, H⟩ Hk
  iapply (wp_load 𝒱₀ (c : Thread nD τ) none Set.univ (m := C) (r := (slotR oN hN).toLoadRect) (S := (slotAt C oN hN).view.set) (by
    rw [View.set_reshape]; exact (View.set_slice _ _).symm.subset)) $$ H
  iintro H
  iapply Hk $$ %(C.view.readAt (Elt F) (slotR oN hN).toLoadRect f) [H]
  iexists f; iexact H

end Slot

theorem accR_emb (x : S256x1024.Idx) : accR.emb x = x := by
  funext a; apply Fin.ext
  rw [Rect.emb_apply]
  fin_cases a
  · show 0 + 1 * _ = _; omega
  · show 0 + 1 * _ = _; omega

section Acc

variable {α : Type} (c : Dev nD) (A : Memref sig .tc .vmem S256x1024 .f32) (X : Vec F S256x1024 .f32)

theorem load_acc {Q : α → sProp 𝕄} (hl : A.view.LoadsAt accR.toLoadRect) (k : Vec F S256x1024 .f32 → PT F α) :
    owns (c : Thread nD τ) A fullShare X
      ⊢ iprop((owns (c : Thread nD τ) A fullShare X -∗ wpr c (k X) Q) -∗ wpr c (.op (.load A accR.toLoadRect hl) k) Q) := by
  unfold owns
  iintro ⟨%f, %hf, H⟩ Hk
  have he : A.view.readAt (Elt F) accR.toLoadRect f = X := by
    rw [← hf]; funext x
    exact congrArg (A.view.read (Elt F) f) (accR_emb x)
  iapply (wp_load 𝒱₀ (c : Thread nD τ) none Set.univ (m := A) (r := accR.toLoadRect) (S := A.view.set) (View.setOn_subset_set _ _)) $$ H
  iintro H
  rw [he]
  iapply Hk
  iexists f; isplitr; · ipureintro; exact hf
  iexact H

theorem load_acc_any {Q : α → sProp 𝕄} (hl : A.view.LoadsAt accR.toLoadRect) (k : Vec F S256x1024 .f32 → PT F α) :
    iprop(∃ f, A.view.loc (c : Thread nD τ) ↦[A.view.set]{fullShare} f)
      ⊢ iprop((∀ v : Vec F S256x1024 .f32, (∃ f, A.view.loc (c : Thread nD τ) ↦[A.view.set]{fullShare} f) -∗ wpr c (k v) Q) -∗ wpr c (.op (.load A accR.toLoadRect hl) k) Q) := by
  iintro ⟨%f, H⟩ Hk
  iapply (wp_load 𝒱₀ (c : Thread nD τ) none Set.univ (m := A) (r := accR.toLoadRect) (S := A.view.set) (View.setOn_subset_set _ _)) $$ H
  iintro H
  iapply Hk $$ %(A.view.readAt (Elt F) accR.toLoadRect f) [H]
  iexists f; iexact H

theorem store_acc {Q : α → sProp 𝕄} (hx : (A.access accR).Stores Finset.univ) (hm : (Finset.univ : Finset accR.shape.Idx) = Finset.univ ∨ ∀ a, accR.stride a = 1) (k : PUnit → PT F α) :
    iprop(∃ f, A.view.loc (c : Thread nD τ) ↦[A.view.set]{fullShare} f)
      ⊢ iprop((owns (c : Thread nD τ) A fullShare X -∗ wpr c (k ⟨⟩) Q) -∗ wpr c (.op (.store A accR X Finset.univ hx hm) k) Q) := by
  unfold owns
  iintro ⟨%f, H⟩ Hk
  iapply (wp_store 𝒱₀ (c : Thread nD τ) none Set.univ (m := A) (r := accR) (S := A.view.set) (f := f)
    ((View.setOn_subset_set _ _).trans (View.set_slice_subset _ _))) $$ H
  iintro H
  iapply Hk
  iexists ((A.access accR).write (Elt F) f X Finset.univ)
  isplitr
  · ipureintro
    have h := View.read_write_univ (v := A.access accR) f X
    funext x
    have h1 := congrFun h x
    rw [← h1]
    exact (congrArg (A.view.read (Elt F) ((A.access accR).write (Elt F) f X Finset.univ)) (accR_emb x)).symm
  · iexact H

end Acc

/-! ## The staged operands -/

section Staged

variable {α : Type} (c : Dev nD)

theorem load_x {Q : α → sProp 𝕄} (b : D32) (x : Vec F S8192x256 .f32) (ox : Fin 2 → ℕ) (hx : RowsIn ox) (e : ox = ![256 * b.val, 0]) (hl : xM.view.LoadsAt (rowsR ox hx).toLoadRect)
    (k : Vec F S256x256 .f32 → PT F α) :
    ((xM.view.loc (c : Thread nD τ)) ↦{fullShare} x)
      ⊢ iprop((((xM.view.loc (c : Thread nD τ)) ↦{fullShare} x) -∗ wpr c (k (xBlk b x)) Q) -∗ wpr c (.op (.load xM (rowsR ox hx).toLoadRect hl) k) Q) := by
  subst e
  exact wp_load 𝒱₀ (c : Thread nD τ) none Set.univ (m := xM) (r := (rowsR ![256 * b.val, 0] hx).toLoadRect) (Finset.subset_univ _)

theorem load_w {Q : α → sProp 𝕄} (r : Fin 4) (w : Vec F S256x4096 .f32) (ow : Fin 2 → ℕ) (hw : ColsIn ow) (e : ow = ![0, 1024 * r.val]) (hl : wM.view.LoadsAt (colsR ow hw).toLoadRect)
    (k : Vec F S256x1024 .f32 → PT F α) :
    ((wM.view.loc (c : Thread nD τ)) ↦{fullShare} w)
      ⊢ iprop((((wM.view.loc (c : Thread nD τ)) ↦{fullShare} w) -∗ wpr c (k (wBlk r w)) Q) -∗ wpr c (.op (.load wM (colsR ow hw).toLoadRect hl) k) Q) := by
  subst e
  exact wp_load 𝒱₀ (c : Thread nD τ) none Set.univ (m := wM) (r := (colsR ![0, 1024 * r.val] hw).toLoadRect) (Finset.subset_univ _)

end Staged

/-! ## The arithmetic pieces -/

section Pays

variable (v : Vec F S1x256x1024 .f32) (a : Vec F S256x1024 .f32) (x : Vec F S256x256 .f32) (w : Vec F S256x1024 .f32)

theorem flat_add1 : flat (k0_pay1 v a) = addf (flat v) a := flat_thick _
theorem flat_add3 : flat (k0_pay3 v a) = addf (flat v) a := flat_thick _
theorem flat_add5 : flat (k0_pay5 v a) = addf (flat v) a := flat_thick _
theorem flat_add7 : flat (k0_pay7 v a) = addf (flat v) a := flat_thick _
theorem flat_mid0 : flat (k0_pay20 (k0_pay19 v a)) = act (addf (flat v) a) := flat_thick _
theorem flat_mid2 : flat (k0_pay21 v a) = act (addf (flat v) a) := flat_thick _
theorem flat_mid1 : flat (k0_pay22 v a) = act (addf (flat v) a) := flat_thick _
theorem flat_mid3 : flat (k0_pay26 (k0_pay23 v a) (k0_pay24 v a) (k0_pay25 (F := F))) = act (addf (flat v) a) := flat_thick _

/-- The product that every partial product is. -/
def prod : Vec F S256x1024 .f32 :=
  matmul dot_S256x256_S256x1024_S256x1024_1_0_0_1_n_n none (shapeCast S256x256 x shapeCasts_S256x256_S256x256 : FVec F S256x256 .f32)
    (shapeCast S256x1024 w shapeCasts_S256x1024_S256x1024 : FVec F S256x1024 .f32) (constant S256x1024 .f32 0x00000000#32)

theorem pay2_prod : k0_pay2 x w = prod x w := shapeCast_self _ _
theorem flat_first0 : flat (k0_pay8 x w) = k0_pay2 x w := (flat_thick _).trans (pay2_prod x w).symm
theorem flat_first2 : flat (k0_pay9 x w) = k0_pay2 x w := (flat_thick _).trans (pay2_prod x w).symm
theorem flat_first1 : flat (k0_pay11 (k0_pay10 x) w) = k0_pay2 x w := (flat_thick _).trans (pay2_prod x w).symm
theorem flat_first3 : flat (k0_pay12 x w) = k0_pay2 x w := (flat_thick _).trans (pay2_prod x w).symm
theorem acc4 : k0_pay4 x w = k0_pay2 x w := rfl
theorem acc6 : k0_pay6 x w = k0_pay2 x w := rfl
theorem acc18 : k0_pay18 x w = k0_pay2 x w := rfl
theorem acc13 : k0_pay13 x w = k0_pay2 x w := rfl
theorem acc14 : k0_pay14 x w = k0_pay2 x w := rfl
theorem acc16 : k0_pay16 (k0_pay15 x w) = k0_pay2 x w := rfl
theorem acc17 : k0_pay17 x w = k0_pay2 x w := rfl

end Pays

end Cert.KernelIdeal.Ring
-- ==== Proof.KISteps.lean ====
/-
# The pieces of a step, proved one by one

What each piece of a ring's step needs and leaves, at an arbitrary ring, step and device.
-/
module

public import proofs.«01_k».proof.Proof.KIMem

@[expose] public section

noncomputable section

namespace Cert.KernelIdeal.Ring

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → Vec F S8192x256 .f32) (ws : Dev nD → Vec F S256x4096 .f32)

/-! ## What every device knows all along -/

/-- The semaphores that have a round. -/
def sems : Finset (SemLoc sig) := Finset.univ.filter fun sm => 0 < rounds sm

/-- Every cell carries its invariant, the first round of each is reached, and the levels are fixed. -/
def Ctx : sProp 𝕄 :=
  iprop((bigSep Finset.univ fun c : Dev nD => bigSep sems fun sm => iprop(∃ κ : ℕ, cellInv ER (rd xs ws) κ ((c : Thread nD τ), sm)))
    ∗ (bigSep Finset.univ fun c : Dev nD => bigSep sems fun sm => reached ER ((c : Thread nD τ), sm) 0)
    ∗ levAts L lv)

instance Ctx_persistent : BI.Persistent (Ctx (F := F) xs ws) := by unfold Ctx; infer_instance

theorem mem_sems {sm : SemLoc sig} {n : ℕ} (h : rounds sm = n + 1) : sm ∈ sems :=
  Finset.mem_filter.mpr ⟨Finset.mem_univ _, by omega⟩

omit [FloatOps F] in
theorem device_sem (Φ : Dev nD → SemLoc sig → sProp 𝕄) (c : Dev nD) {sm : SemLoc sig} (h : sm ∈ sems) :
    (bigSep Finset.univ fun c : Dev nD => bigSep sems fun sm => Φ c sm) ⊢ Φ c sm :=
  BIBase.Entails.trans (bigSep_elim (Finset.mem_univ c)) (bigSep_elim h)

theorem ctx_cell (c : Dev nD) {sm : SemLoc sig} (h : sm ∈ sems) : Ctx xs ws ⊢ iprop(∃ κ : ℕ, cellInv ER (rd xs ws) κ ((c : Thread nD τ), sm)) := by
  unfold Ctx
  iintro ⟨H, -, -⟩
  iapply (device_sem (fun c sm => iprop(∃ κ : ℕ, cellInv ER (rd xs ws) κ ((c : Thread nD τ), sm))) c h) $$ H
theorem ctx_reached (c : Dev nD) {sm : SemLoc sig} (h : sm ∈ sems) : Ctx xs ws ⊢ reached ER ((c : Thread nD τ), sm) 0 := by
  unfold Ctx
  iintro ⟨-, H, -⟩
  iapply (device_sem (fun c sm => reached ER ((c : Thread nD τ), sm) 0) c h) $$ H
theorem ctx_lev : Ctx (F := F) xs ws ⊢ levAts L lv := by
  unfold Ctx
  iintro ⟨-, -, H⟩; iexact H

set_option maxRecDepth 20000 in
theorem ctx_wait (c : Dev nD) (sm : SemLoc sig) (ι : ℕ) (hι : ι < 600) {O : CellTallies nD τ sig ℕ} (h : Above ι O) :
    Ctx (F := F) xs ws ⊢ MayWait (c : Thread nD τ) sm ι O :=
  BIBase.Entails.trans (ctx_lev xs ws) (mayWait (F := F) c sm ι hι h)

theorem mem_R (r : Fin 4) (s : ℕ) : (.dma (recvS r s) : SemLoc sig) ∈ sems := mem_sems (rounds_R r s)
theorem mem_S (r : Fin 4) (s : ℕ) : (.dma (sendS r s) : SemLoc sig) ∈ sems := mem_sems (rounds_S r s)
theorem mem_C (r : Fin 4) : (.reg (credS r) : SemLoc sig) ∈ sems := mem_sems (rounds_C r)
theorem mem_O : (.dma outS : SemLoc sig) ∈ sems := mem_sems rounds_O
theorem mem_B : (.reg barS : SemLoc sig) ∈ sems := mem_sems rounds_B

/-- Device `c` owes `O`, whatever it has waited for. -/
def ow (c : Dev nD) (O : CellTallies nD τ sig ℕ) : sProp 𝕄 := iprop(∃ W, owes (c : Thread nD τ) O W)

theorem gR_add (r : Fin 4) (s : ℕ) (c : Dev nD) : gR r (s + 2) c = gR r s c := by unfold gR; rw [recvS_add]
theorem gS_add (r : Fin 4) (s : ℕ) (c : Dev nD) : gS r (s + 2) c = gS r s c := by unfold gS; rw [sendS_add]

theorem payload_eq (c : Dev nD) (sm : SemLoc sig) (k : ℕ) (d : Bool) : (rd xs ws).payload ((c : Thread nD τ), sm) k d = pay xs ws sm k d c := rfl

/-! ## Waits -/

theorem wait_one {α : Type} {Q : α → sProp 𝕄} {w : TpuEff nD τ sig (Elt F) Λ₀ .tc PUnit} (c : Dev nD) (sm : SemLoc sig) (n : ℕ)
    (hw : ∀ K : PUnit → sProp 𝕄, wpE (defs₀ (F := F)) 𝒱₀ (c : Thread nD τ) none Set.univ w K = waitSpec (c : Thread nD τ) Set.univ sm n K)
    (hn : n = amt sm) (k : ℕ) (hk : k < rounds sm) (hm : names sm = {false}) (ι : ℕ) (hι : ι < 600) {O : CellTallies nD τ sig ℕ} (hO : Above ι O)
    (kk : PUnit → PT F α) :
    iprop(Ctx xs ws ∗ cred (tallyAt ((c : Thread nD τ), sm) ι n) ∗ ow c O ∗ atPos ER ((c : Thread nD τ), sm) k ∅ 0)
      ⊢ iprop(((ow c O ∗ atPos ER ((c : Thread nD τ), sm) (k + 1) ∅ 0 ∗ reached ER ((c : Thread nD τ), sm) (k + 1) ∗ pay xs ws sm k false c)
          -∗ wpr c (kk ⟨⟩) Q) -∗ wpr c (.op w kk) Q) := by
  unfold ow
  have hms : sm ∈ sems := Finset.mem_filter.mpr ⟨Finset.mem_univ _, by omega⟩
  iintro ⟨#HC, Hcr, ⟨%W, Ho⟩, Hat⟩ Hk
  ihave HI := (ctx_cell xs ws c hms) $$ HC
  icases HI with ⟨%κ, #HI⟩
  ihave HM := (ctx_wait xs ws c sm ι hι hO) $$ HC
  iapply (wp_wait_rest_token 𝒱₀ ER (rd xs ws) (c : Thread nD τ) none (κ := κ) hw (Set.mem_univ _) ι (O := O) (W := W) (R := k) (m := 0) (T := ∅)
    (by rw [Nat.zero_add, expect_one xs ws k _ hk hm]; exact hn)) $$ [Hcr Ho HM Hat]
  · isplitr; · iexact HI
    isplitl [Hcr]; · iexact Hcr
    isplitl [Ho]; · iexact Ho
    isplitl [HM] <;> iassumption
  iintro ⟨Ho, Hat, Hr, Hp⟩
  iapply Hk
  isplitl [Ho]; · iexists _; iexact Ho
  isplitl [Hat]; · iexact Hat
  isplitl [Hr]; · iexact Hr
  iapply (Entails.of_eq (rest_one xs ws k ((c : Thread nD τ), sm) hk hm)) $$ Hp

theorem wait_ret {Q : PUnit → sProp 𝕄} {w : TpuEff nD τ sig (Elt F) Λ₀ .tc PUnit} (c : Dev nD) (sm : SemLoc sig) (n : ℕ)
    (hw : ∀ K : PUnit → sProp 𝕄, wpE (defs₀ (F := F)) 𝒱₀ (c : Thread nD τ) none Set.univ w K = waitSpec (c : Thread nD τ) Set.univ sm n K)
    (hn : n = amt sm) (k : ℕ) (hk : k < rounds sm) (hm : names sm = {false}) (ι : ℕ) (hι : ι < 600) {O : CellTallies nD τ sig ℕ} (hO : Above ι O) :
    iprop(Ctx xs ws ∗ cred (tallyAt ((c : Thread nD τ), sm) ι n) ∗ ow c O ∗ atPos ER ((c : Thread nD τ), sm) k ∅ 0)
      ⊢ iprop(((ow c O ∗ atPos ER ((c : Thread nD τ), sm) (k + 1) ∅ 0 ∗ reached ER ((c : Thread nD τ), sm) (k + 1) ∗ pay xs ws sm k false c)
          -∗ Q ⟨⟩) -∗ wpr c (.op w .ret) Q) := by
  iintro H Hk
  iapply (wait_one xs ws c sm n hw hn k hk hm ι hι hO .ret) $$ H
  iintro H
  iapply (ret_intro c ⟨⟩ Q)
  iapply Hk; iexact H

theorem recv_seg {Q : PUnit → sProp 𝕄} (r : Fin 4) (s : ℕ) (hs : s < 62) (c : Dev nD) (ι : ℕ) (hι : ι < 600) {O : CellTallies nD τ sig ℕ} (hO : Above ι O)
    (hN : SlotIn ![(s + 1) % 2, 0, 0]) (hO' : SlotIn ![s % 2, 0, 0]) (hR : CellIn ![r.val, (s + 1) % 2]) :
    iprop(Ctx xs ws ∗ cred (tallyAt (gR r (s + 1) c) ι (NN r)) ∗ ow c O ∗ atPos ER (gR r (s + 1) c) (s / 2) ∅ 0)
      ⊢ iprop(((ow c O ∗ atPos ER (gR r (s + 1) c) (s / 2 + 1) ∅ 0 ∗ reached ER (gR r (s + 1) c) (s / 2 + 1)
            ∗ slotHas r (s + 1) c (M xs ws r s (ups r c)) ∗ reached ER (gC r (ups r c)) s)
          -∗ Q ⟨⟩) -∗ wpr c (recvWait (cM r) ![(s + 1) % 2, 0, 0] hN ![s % 2, 0, 0] hO' ![r.val, (s + 1) % 2] hR) Q) := by
  unfold recvWait
  simp only [semAt_recv, Prog.lift]
  have h := wait_ret xs ws (Q := Q) c (.dma (recvS r (s + 1))) (NN r)
    (wpE_waitDma2_eq (defs := defs₀ (F := F)) 𝒱₀ (c : Thread nD τ) none Set.univ (src := slotM r s) (dst := slotM r (s + 1))
      (hsrc := (View.wordExact_bits rfl).reshape _ _) (hdst := (View.wordExact_bits rfl).reshape _ _))
    (amt_R r (s + 1)).symm (s / 2) (by rw [rounds_R]; omega) rfl ι hι hO
  rw [pay_R] at h
  unfold recvPay at h
  exact h

theorem send_wait {Q : PUnit → sProp 𝕄} (r : Fin 4) (s : ℕ) (hs : s < 62) (c : Dev nD) {O : CellTallies nD τ sig ℕ} (hO : Above 0 O)
    (hN : SlotIn ![(s + 1) % 2, 0, 0]) (hO' : SlotIn ![s % 2, 0, 0]) (hS : CellIn ![r.val, s % 2]) :
    iprop(Ctx xs ws ∗ cred (tallyAt (gS r s c) 0 (NN r)) ∗ ow c O ∗ atPos ER (gS r s c) (s / 2) ∅ 0)
      ⊢ iprop(((ow c O ∗ atPos ER (gS r s c) (s / 2 + 1) ∅ 0 ∗ reached ER (gS r s c) (s / 2 + 1) ∗ slotAny r s c)
          -∗ Q ⟨⟩) -∗ wpr c (sendWait (cM r) ![(s + 1) % 2, 0, 0] hN ![s % 2, 0, 0] hO' ![r.val, s % 2] hS) Q) := by
  unfold sendWait
  simp only [semAt_send, Prog.lift]
  have h := wait_ret xs ws (Q := Q) c (.dma (sendS r s)) (NN r)
    (wpE_waitDma2_eq (defs := defs₀ (F := F)) 𝒱₀ (c : Thread nD τ) none Set.univ (src := slotM r (s + 1)) (dst := slotM r s)
      (hsrc := (View.wordExact_bits rfl).reshape _ _) (hdst := (View.wordExact_bits rfl).reshape _ _))
    (amt_S r s).symm (s / 2) (by rw [rounds_S]; omega) rfl 0 (by decide) hO
  rw [pay_S] at h
  exact h

theorem credit_wait {Q : PUnit → sProp 𝕄} (r : Fin 4) (s : ℕ) (hs : s < 61) (c : Dev nD) (ι : ℕ) (hι : ι < 600) {O : CellTallies nD τ sig ℕ} (hO : Above ι O)
    (hC : CredIn ![r.val]) :
    iprop(Ctx xs ws ∗ cred (tallyAt (gC r c) ι 1) ∗ ow c O ∗ atPos ER (gC r c) s ∅ 0)
      ⊢ iprop(((ow c O ∗ atPos ER (gC r c) (s + 1) ∅ 0 ∗ reached ER (gC r c) (s + 1) ∗ slotAny r s (dst r c) ∗ reached ER (gR r s (dst r c)) ((s + 1) / 2))
          -∗ Q ⟨⟩) -∗ wpr c (creditWait ![r.val] hC) Q) := by
  unfold creditWait semWaitWord
  simp only [credAt_eq]
  have h := wait_ret xs ws (Q := Q) c (.reg (credS r)) 1
    (wpE_semWait_eq (defs := defs₀ (F := F)) 𝒱₀ (c : Thread nD τ) none Set.univ (sem := credS r) (k := 1))
    rfl s (by rw [rounds_C]; omega) (names_C r) ι hι hO
  rw [pay_C] at h
  unfold credPay at h
  exact h

theorem out_wait {Q : PUnit → sProp 𝕄} (r : Fin 4) (s : ℕ) (h30 : 30 ≤ s) (hs : s < 62) (c : Dev nD) {O : CellTallies nD τ sig ℕ} (hO : Above 0 O)
    (hN : SlotIn ![(s + 1) % 2, 0, 0]) (hT : OutIn ![256 * (row r s c).val, 1024 * r.val]) :
    iprop(Ctx xs ws ∗ cred (tallyAt (gO c) 0 NO) ∗ ow c O ∗ atPos ER (gO c) (4 * (s - 30) + place r) ∅ 0)
      ⊢ iprop(((ow c O ∗ atPos ER (gO c) (4 * (s - 30) + place r + 1) ∅ 0 ∗ reached ER (gO c) (4 * (s - 30) + place r + 1) ∗ outPay xs ws r s c)
          -∗ Q ⟨⟩) -∗ wpr c (outWait (cM r) ![(s + 1) % 2, 0, 0] hN ![256 * (row r s c).val, 1024 * r.val] hT) Q) := by
  unfold outWait
  simp only [Prog.lift]
  have hp := place_lt r
  have h := wait_ret xs ws (Q := Q) c (.dma outS) NO
    (wpE_waitDma2_eq (defs := defs₀ (F := F)) 𝒱₀ (c : Thread nD τ) none Set.univ (src := slotM r (s + 1)) (dst := outM r (row r s c))
      (hsrc := (View.wordExact_bits rfl).reshape _ _) (hdst := (View.wordExact_bits rfl)))
    amt_O.symm (4 * (s - 30) + place r) (by rw [rounds_O]; omega) rfl 0 (by decide) hO
  rw [pay_O xs ws c r s _ h30] at h
  exact h

/-! ## The leave given upstream -/

theorem credit_seg {Q : PUnit → sProp 𝕄} (r : Fin 4) (s : ℕ) (hs : s < 61) (c : Dev nD) (ι : ℕ) (O : CellTallies nD τ sig ℕ) (hC : CredIn ![r.val]) :
    iprop(Ctx xs ws ∗ ow c (O + tallyAt (gC r (ups r c)) ι 1) ∗ dutyTok ER (gC r (ups r c)) s false ∗ reached ER (gC r (ups r c)) s
        ∗ slotAny r s c ∗ reached ER (gR r s c) ((s + 1) / 2))
      ⊢ iprop((ow c O -∗ Q ⟨⟩) -∗ wpr c (credit (ups r c) ![r.val] hC) Q) := by
  unfold credit semSignalWord ow
  simp only [credAt_eq]
  iintro ⟨#HC, ⟨%W, Ho⟩, Htok, Hr, Hs, HrR⟩ Hk
  ihave HI := (ctx_cell xs ws (ups r c) (mem_C r)) $$ HC
  icases HI with ⟨%κ, #HI⟩
  iapply (wp_signal 𝒱₀ ER (rd xs ws) (c : Thread nD τ) none (dst := (ups r c : Thread nD τ)) (sem := credS r) (r := s) (d := false) (k' := 1) (κ := κ)
    (by rw [duties_of xs ws s _ (by rw [rounds_C]; exact hs)]; exact mem_names _) rfl ι O rfl (W := W)) $$ [Ho Htok Hr Hs HrR]
  · isplitr; · iexact HI
    isplitl [Ho]; · iexact Ho
    isplitl [Htok]; · iexact Htok
    isplitl [Hs HrR]
    · rw [payload_eq, pay_C]
      unfold credPay
      rw [dst_ups]
      isplitl [Hs] <;> iassumption
    · iexact Hr
  iintro Ho
  iapply (ret_intro c ⟨⟩ Q)
  iapply Hk; iexists W; iexact Ho

/-! ## Passing a message on -/

theorem send_seg {Q : PUnit → sProp 𝕄} (r : Fin 4) (m : ℕ) (hm : m < 62) (c : Dev nD) (ι : ℕ) (O : CellTallies nD τ sig ℕ)
    (hN : SlotIn ![m % 2, 0, 0]) (hO : SlotIn ![(m + 1) % 2, 0, 0]) (hR : CellIn ![r.val, (m + 1) % 2]) (hS : CellIn ![r.val, m % 2]) :
    iprop(Ctx xs ws ∗ ow c (O + tallyAt (gR r (m + 1) (dst r c)) ι (NN r)) ∗ slotHas r m c (M xs ws r m c) ∗ slotAny r (m + 1) (dst r c)
        ∗ dutyTok ER (gS r m c) (m / 2) false ∗ reached ER (gS r m c) (m / 2)
        ∗ dutyTok ER (gR r (m + 1) (dst r c)) (m / 2) false ∗ reached ER (gR r (m + 1) (dst r c)) (m / 2) ∗ reached ER (gC r c) m)
      ⊢ iprop(((cred (tallyAt (gS r m c) 0 (NN r)) ∗ ow c O) -∗ Q ⟨⟩)
        -∗ wpr c (sendSeg (cM r) ![m % 2, 0, 0] hN ![(m + 1) % 2, 0, 0] hO ![r.val, (m + 1) % 2] hR ![r.val, m % 2] hS (dst r c)) Q) := by
  unfold sendSeg ow
  simp only [semAt_send, semAt_recv, Prog.lift]
  iintro ⟨#HC, ⟨%W, Ho⟩, Hsrc, Hdst, HtS, HrS, HtR, HrR, HrC⟩ Hk
  ihave HI := (ctx_cell xs ws c (mem_S r m)) $$ HC
  icases HI with ⟨%κ₁, #HI₁⟩
  ihave HI := (ctx_cell xs ws (dst r c) (mem_R r (m + 1))) $$ HC
  icases HI with ⟨%κ₂, #HI₂⟩
  unfold slotHas owns slotAny
  icases Hsrc with ⟨%fs, %hfs, Hsrc⟩
  icases Hdst with ⟨%fd, Hdst⟩
  iapply (wp_send_pointsTo_with 𝒱₀ ER (rd xs ws) (c : Thread nD τ) none (c' := (dst r c : Thread nD τ)) (src := slotM r m) (dst := slotM r (m + 1))
    (sS := .dma (sendS r m)) (sem := .dma (recvS r (m + 1))) (q := fullShare) (fs := fs) (fd := fd) (F := reached ER (gC r c) m)
    (r₁ := m / 2) (r₂ := m / 2) (d₁ := false) (d₂ := false) (κ₁ := κ₁) (κ₂ := κ₂)
    (by rw [duties_of xs ws (m / 2) _ (by rw [rounds_S]; omega)]; exact mem_names _)
    (by rw [duties_of xs ws (m / 2) _ (by rw [rounds_R]; omega)]; exact mem_names _)
    ι 0 (NN r) rfl (amt_S r m) (amt_R r (m + 1)) O rfl (W := W)
    (by
      refine BIBase.Entails.trans ?_ (Entails.of_eq (pay_S xs ws c r m (m / 2) false).symm)
      unfold slotAny
      iintro H; iexists fs; iexact H)
    (by
      refine BIBase.Entails.trans ?_ (Entails.of_eq (pay_R xs ws (dst r c) r m false).symm)
      unfold recvPay slotHas owns
      rw [ups_dst]
      iintro ⟨H, HrC⟩
      isplitl [H]
      · iexists ((slotM r (m + 1)).view.write (Elt F) fd ((slotM r m).view.read (Elt F) fs) Finset.univ)
        isplitr
        · ipureintro; rw [← hfs]; exact View.read_write_univ _ _
        · iexact H
      · iexact HrC)) $$ [Ho Hsrc Hdst HtS HrS HtR HrR HrC]
  · isplitr; · iexact HI₁
    isplitr; · iexact HI₂
    isplitl [Hsrc]; · iexact Hsrc
    isplitl [Hdst HrC]; · isplitl [Hdst] <;> iassumption
    isplitl [Ho]; · iexact Ho
    isplitl [HtS]; · iexact HtS
    isplitl [HrS]; · iexact HrS
    isplitl [HtR] <;> iassumption
  iintro ⟨Hc, Ho⟩
  iapply (ret_intro c ⟨⟩ Q)
  iapply Hk
  isplitl [Hc]; · iexact Hc
  iexists W; iexact Ho

/-! ## Copying to the result -/

theorem out_start {Q : PUnit → sProp 𝕄} (r : Fin 4) (s : ℕ) (h30 : 30 ≤ s) (hs : s < 62) (c : Dev nD)
    (hN : SlotIn ![(s + 1) % 2, 0, 0]) (hT : OutIn ![256 * (row r s c).val, 1024 * r.val]) :
    iprop(Ctx xs ws ∗ slotHas r (s + 1) c (M xs ws r (s + 1) c) ∗ outAny r (row r s c) c
        ∗ dutyTok ER (gO c) (4 * (s - 30) + place r) false ∗ reached ER (gO c) (4 * (s - 30) + place r))
      ⊢ iprop((cred (tallyAt (gO c) 0 NO) -∗ Q ⟨⟩)
        -∗ wpr c (outStart (cM r) ![(s + 1) % 2, 0, 0] hN ![256 * (row r s c).val, 1024 * r.val] hT) Q) := by
  have hp := place_lt r
  unfold outStart
  simp only [Prog.lift]
  iintro ⟨#HC, Hsrc, Hdst, Ht, Hr⟩ Hk
  ihave HI := (ctx_cell xs ws c mem_O) $$ HC
  icases HI with ⟨%κ, #HI⟩
  unfold slotHas owns outAny
  icases Hsrc with ⟨%fs, %hfs, Hsrc⟩
  icases Hdst with ⟨%fd, Hdst⟩
  iapply (wp_copy_pointsTo 𝒱₀ ER (rd xs ws) (c : Thread nD τ) none (src := slotM r (s + 1)) (dst := outM r (row r s c)) (sem := .dma outS)
    (q := fullShare) (fs := fs) (fd := fd) (r := 4 * (s - 30) + place r) (d := false) (κ := κ)
    (by rw [duties_of xs ws _ _ (by rw [rounds_O]; omega)]; exact mem_names _) 0 NO rfl amt_O
    (by
      refine BIBase.Entails.trans ?_ (Entails.of_eq (pay_O xs ws c r s false h30).symm)
      unfold outPay outHas slotHas owns
      iintro ⟨H, Hs⟩
      isplitl [H]
      · iexists ((outM r (row r s c)).view.write (Elt F) fd ((slotM r (s + 1)).view.read (Elt F) fs) Finset.univ)
        isplitr
        · ipureintro; rw [← hfs]; exact View.read_write_univ _ _
        · iexact H
      · iexists fs; isplitr; · ipureintro; exact hfs
        iexact Hs)) $$ [Hsrc Hdst Ht Hr]
  · isplitr; · iexact HI
    isplitl [Hsrc]; · iexact Hsrc
    isplitl [Hdst]; · iexact Hdst
    isplitl [Ht] <;> iassumption
  iintro Hc
  iapply (ret_intro c ⟨⟩ Q)
  iapply Hk; iexact Hc

theorem out_seg {Q : PUnit → sProp 𝕄} (r : Fin 4) (s : ℕ) (h30 : 30 ≤ s) (hs : s < 62) (c : Dev nD) {O : CellTallies nD τ sig ℕ} (hO : Above 0 O)
    (hN : SlotIn ![(s + 1) % 2, 0, 0]) (hT : OutIn ![256 * (row r s c).val, 1024 * r.val]) :
    iprop(Ctx xs ws ∗ slotHas r (s + 1) c (M xs ws r (s + 1) c) ∗ outAny r (row r s c) c
        ∗ dutyTok ER (gO c) (4 * (s - 30) + place r) false ∗ reached ER (gO c) (4 * (s - 30) + place r)
        ∗ ow c O ∗ atPos ER (gO c) (4 * (s - 30) + place r) ∅ 0)
      ⊢ iprop(((ow c O ∗ atPos ER (gO c) (4 * (s - 30) + place r + 1) ∅ 0 ∗ reached ER (gO c) (4 * (s - 30) + place r + 1) ∗ outPay xs ws r s c) -∗ Q ⟨⟩)
        -∗ wpr c (outSeg (cM r) ![(s + 1) % 2, 0, 0] hN ![256 * (row r s c).val, 1024 * r.val] hT) Q) := by
  unfold outSeg
  iintro ⟨#HC, Hsrc, Hdst, Ht, Hr, Ho, Hat⟩ Hk
  iapply (bind_intro c _ _ Q)
  iapply (out_start xs ws r s h30 hs c hN hT) $$ [Hsrc Hdst Ht Hr]
  · isplitr; · iexact HC
    isplitl [Hsrc]; · iexact Hsrc
    isplitl [Hdst]; · iexact Hdst
    isplitl [Ht] <;> iassumption
  iintro Hc
  iapply (out_wait xs ws r s h30 hs c hO hN hT) $$ [Hc Ho Hat]
  · isplitr; · iexact HC
    isplitl [Hc]; · iexact Hc
    isplitl [Ho] <;> iassumption
  iexact Hk

/-! ## The arithmetic -/

/-- The staged operands of device `c`. -/
def stg (c : Dev nD) : sProp 𝕄 :=
  iprop(((xM.view.loc (c : Thread nD τ)) ↦{fullShare} (xs c)) ∗ ((wM.view.loc (c : Thread nD τ)) ↦{fullShare} (ws c)))

def accAny (r : Fin 4) (c : Dev nD) : sProp 𝕄 := iprop(∃ f, (aM r).view.loc (c : Thread nD τ) ↦[(aM r).view.set]{fullShare} f)

omit [FloatOps F] in
theorem accHas_any (r : Fin 4) (c : Dev nD) (X : Vec F S256x1024 .f32) : accHas r c X ⊢ accAny (F := F) r c := by
  unfold accHas accAny owns
  iintro ⟨%f, %hf, H⟩; iexists f; iexact H

theorem add_seg {Q : PUnit → sProp 𝕄} (r : Fin 4) (s : ℕ) (c : Dev nD) (X A : Vec F S256x1024 .f32)
    (pay : Vec F S1x256x1024 .f32 → Vec F S256x1024 .f32 → Vec F S1x256x1024 .f32) (g : Vec F S256x1024 .f32 → Vec F S256x1024 .f32 → Vec F S256x1024 .f32)
    (hpay : ∀ v a, flat (pay v a) = g (flat v) a) (hN : SlotIn ![s % 2, 0, 0]) :
    iprop(slotHas r s c X ∗ accHas r c A)
      ⊢ iprop(((slotHas r s c (g X A) ∗ accHas r c A) -∗ Q ⟨⟩) -∗ wpr c (addSeg (cM r) (aM r) ![s % 2, 0, 0] hN pay) Q) := by
  unfold addSeg slotHas accHas
  simp only [Prog.lift, Prog.bind_op, Prog.bind_ret]
  iintro ⟨Hs, Ha⟩ Hk
  iapply (load_slot c (cM r) ![s % 2, 0, 0] hN X) $$ Hs
  iintro %v %hv Hs
  iapply (load_acc c (aM r) A) $$ Ha
  iintro Ha
  iapply (load_slot c (cM r) ![s % 2, 0, 0] hN X) $$ Hs
  iintro %v' %hv' Hs
  iapply (store_slot c (cM r) ![s % 2, 0, 0] hN (g X A) (pay v A) _ _ _ (by rw [hpay, hv])) $$ [Hs]
  · iapply (owns_any c (slotAt (cM r) ![s % 2, 0, 0] hN) X) $$ Hs
  iintro Hs
  iapply (ret_intro c ⟨⟩ Q)
  iapply Hk
  isplitl [Hs] <;> iassumption

theorem acc_seg {Q : PUnit → sProp 𝕄} (r : Fin 4) (b : D32) (c : Dev nD) (hx : RowsIn ![256 * b.val, 0]) (hw : ColsIn ![0, 1024 * r.val])
    (pay : Vec F S256x256 .f32 → Vec F S256x1024 .f32 → Vec F S256x1024 .f32) (hpay : ∀ x w, pay x w = k0_pay2 x w) :
    iprop(stg xs ws c ∗ accAny r c)
      ⊢ iprop(((stg xs ws c ∗ accHas r c (P xs ws r b c)) -∗ Q ⟨⟩) -∗ wpr c (accSeg (aM r) ![256 * b.val, 0] hx ![0, 1024 * r.val] hw pay) Q) := by
  unfold accSeg stg accAny accHas
  simp only [Prog.lift, Prog.bind_op, Prog.bind_ret]
  iintro ⟨⟨Hx, Hw⟩, Ha⟩ Hk
  iapply (load_x c b (xs c) _ hx rfl) $$ Hx
  iintro Hx
  iapply (load_w c r (ws c) _ hw rfl) $$ Hw
  iintro Hw
  iapply (load_acc_any c (aM r)) $$ Ha
  iintro %v Ha
  rw [hpay]
  iapply (store_acc c (aM r) (k0_pay2 (xBlk b (xs c)) (wBlk r (ws c)))) $$ Ha
  iintro Ha
  iapply (ret_intro c ⟨⟩ Q)
  iapply Hk
  isplitl [Hx Hw]; · isplitl [Hx] <;> iassumption
  iexact Ha

theorem start_seg {Q : PUnit → sProp 𝕄} (r : Fin 4) (b : D32) (c : Dev nD) (s : ℕ) (hN : SlotIn ![s % 2, 0, 0]) (hx : RowsIn ![256 * b.val, 0]) (hw : ColsIn ![0, 1024 * r.val])
    (pay : Vec F S256x256 .f32 → Vec F S256x1024 .f32 → Vec F S1x256x1024 .f32) (hpay : ∀ x w, flat (pay x w) = k0_pay2 x w) :
    iprop(stg xs ws c ∗ slotAny r s c)
      ⊢ iprop(((stg xs ws c ∗ slotHas r s c (P xs ws r b c)) -∗ Q ⟨⟩)
        -∗ wpr c (startSeg (cM r) ![s % 2, 0, 0] hN ![256 * b.val, 0] hx ![0, 1024 * r.val] hw pay) Q) := by
  unfold startSeg stg slotAny slotHas
  simp only [Prog.lift, Prog.bind_op, Prog.bind_ret]
  iintro ⟨⟨Hx, Hw⟩, Hs⟩ Hk
  iapply (load_x c b (xs c) _ hx rfl) $$ Hx
  iintro Hx
  iapply (load_w c r (ws c) _ hw rfl) $$ Hw
  iintro Hw
  iapply (load_slot_any c (cM r) ![s % 2, 0, 0] hN) $$ Hs
  iintro %v Hs
  iapply (store_slot c (cM r) ![s % 2, 0, 0] hN (P xs ws r b c) _ _ _ _ (hpay _ _)) $$ Hs
  iintro Hs
  iapply (ret_intro c ⟨⟩ Q)
  iapply Hk
  isplitl [Hx Hw]; · isplitl [Hx] <;> iassumption
  iexact Hs

end Cert.KernelIdeal.Ring
-- ==== Proof.KIRing.lean ====
/-
# A whole step of one ring

The pieces put together: what one step of one ring needs and leaves, in each of the four forms a step takes.
-/
module

public import proofs.«01_k».proof.Proof.KISteps

@[expose] public section

noncomputable section

namespace Cert.KernelIdeal.Ring

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → Vec F S8192x256 .f32) (ws : Dev nD → Vec F S256x4096 .f32)

/-! ## The state of a ring before a step, and what the step uses up -/

/-- Where device `c` stands in the cells of ring `r` before step `s`. -/
def St (r : Fin 4) (s : ℕ) (c : Dev nD) : sProp 𝕄 :=
  iprop((atPos ER (gR r (s + 1) c) (s / 2) ∅ 0 ∗ atPos ER (gR r s c) ((s + 1) / 2) ∅ 0 ∗ reached ER (gR r s c) ((s + 1) / 2))
    ∗ (atPos ER (gS r s c) (s / 2) ∅ 0 ∗ atPos ER (gS r (s + 1) c) ((s + 1) / 2) ∅ 0 ∗ reached ER (gS r (s + 1) c) ((s + 1) / 2))
    ∗ atPos ER (gC r c) s ∅ 0)

/-- What step `s` waits for and pays. -/
def Bun (r : Fin 4) (s : ℕ) (c : Dev nD) : sProp 𝕄 :=
  iprop(cred (tallyAt (gR r (s + 1) c) (2 + 2 * (4 * s + place r)) (NN r))
    ∗ dutyTok ER (gC r (ups r c)) s false ∗ cred (tallyAt (gC r c) (3 + 2 * (4 * s + place r)) 1)
    ∗ dutyTok ER (gR r (s + 1 + 1) (dst r c)) ((s + 1) / 2) false ∗ dutyTok ER (gS r (s + 1) c) ((s + 1) / 2) false)

/-- What a copy to the result uses up, and leaves. -/
def OutB (r : Fin 4) (s : ℕ) (c : Dev nD) : sProp 𝕄 :=
  iprop(dutyTok ER (gO c) (4 * (s - 30) + place r) false ∗ outAny r (row r s c) c)
def OutD (r : Fin 4) (s : ℕ) (c : Dev nD) : sProp 𝕄 := outHas r (row r s c) c (M xs ws r (s + 1) c)
/-- Where device `c` stands in the copies' cell. -/
def OutAt (n : ℕ) (c : Dev nD) : sProp 𝕄 := iprop(atPos ER (gO c) n ∅ 0 ∗ reached ER (gO c) n)

theorem msgItem_at (r : Fin 4) (s : ℕ) (c : Dev nD) :
    msgItem (4 * s + place r + 4) c = tallyAt (gR r (s + 1 + 1) (dst r c)) (2 + 2 * (4 * (s + 1) + place r)) (NN r) := by
  have hp := place_lt r
  unfold msgItem
  rw [show 4 * s + place r + 4 = 4 * (s + 1) + place r by omega, ring_place, show (4 * (s + 1) + place r) / 4 = s + 1 by omega]
theorem credItem_at (r : Fin 4) (s : ℕ) (c : Dev nD) :
    credItem (4 * s + place r) c = tallyAt (gC r (ups r c)) (3 + 2 * (4 * s + place r)) 1 := by
  unfold credItem; rw [ring_place]

/-- What is owed before step `s` of ring `r`. -/
theorem owe_at (r : Fin 4) (s : ℕ) (hs : s < 61) (c : Dev nD) :
    owe (4 * s + place r) c = owe (4 * s + place r + 1) c + tallyAt (gR r (s + 1 + 1) (dst r c)) (2 + 2 * (4 * (s + 1) + place r)) (NN r)
      + tallyAt (gC r (ups r c)) (3 + 2 * (4 * s + place r)) 1 := by
  have hp := place_lt r
  rw [owe_step _ (by omega), msgItem_at, credItem_at]

theorem above_mid (r : Fin 4) (s n : ℕ) (hs : s < 61) (hn : n ≤ 3 + 2 * (4 * s + place r)) (c : Dev nD) :
    Above n (owe (4 * s + place r + 1) c + tallyAt (gR r (s + 1 + 1) (dst r c)) (2 + 2 * (4 * (s + 1) + place r)) (NN r)) := by
  have hp := place_lt r
  exact Above.add (above_owe _ _ (by omega) c) (Above.at _ _ (by omega) (by omega))

/-! ## The two waits at the start of a step, and the end of it -/

/-- The two waits. -/
theorem waits_seg {Q : PUnit → sProp 𝕄} (r : Fin 4) (s : ℕ) (hs : s < 62) (c : Dev nD)
    (hN : SlotIn ![(s + 1) % 2, 0, 0]) (hO : SlotIn ![s % 2, 0, 0]) (hR : CellIn ![r.val, (s + 1) % 2]) (hS : CellIn ![r.val, s % 2]) (k : PT F PUnit) :
    iprop(Ctx xs ws ∗ cred (tallyAt (gR r (s + 1) c) (2 + 2 * (4 * s + place r)) (NN r)) ∗ cred (tallyAt (gS r s c) 0 (NN r))
        ∗ ow c (owe (4 * s + place r) c) ∗ St r s c)
      ⊢ iprop(((ow c (owe (4 * s + place r) c) ∗ slotHas r (s + 1) c (M xs ws r s (ups r c)) ∗ reached ER (gC r (ups r c)) s ∗ slotAny r s c
            ∗ (atPos ER (gR r (s + 1 + 1) c) ((s + 1) / 2) ∅ 0 ∗ reached ER (gR r s c) ((s + 1) / 2)
              ∗ atPos ER (gR r (s + 1) c) ((s + 1 + 1) / 2) ∅ 0 ∗ reached ER (gR r (s + 1) c) ((s + 1 + 1) / 2))
            ∗ (atPos ER (gS r (s + 1) c) ((s + 1) / 2) ∅ 0 ∗ reached ER (gS r (s + 1) c) ((s + 1) / 2)
              ∗ atPos ER (gS r (s + 1 + 1) c) ((s + 1 + 1) / 2) ∅ 0 ∗ reached ER (gS r (s + 1 + 1) c) ((s + 1 + 1) / 2))
            ∗ atPos ER (gC r c) s ∅ 0)
          -∗ wpr c k Q)
        -∗ wpr c (do
            recvWait (cM r) ![(s + 1) % 2, 0, 0] hN ![s % 2, 0, 0] hO ![r.val, (s + 1) % 2] hR
            sendWait (cM r) ![(s + 1) % 2, 0, 0] hN ![s % 2, 0, 0] hO ![r.val, s % 2] hS
            k) Q) := by
  have hp := place_lt r
  unfold St
  iintro ⟨#HC, Hcr, Hcs, Ho, ⟨⟨HaR, HaR', #HrR⟩, ⟨HaS, HaS', #HrS⟩, HaC⟩⟩ Hk
  iapply (bind_intro c _ _ Q)
  iapply (recv_seg xs ws r s hs c (2 + 2 * (4 * s + place r)) (by omega) (above_owe _ (4 * s + place r) (by omega) c) hN hO hR) $$ [Hcr Ho HaR]
  · isplitr; · iexact HC
    isplitl [Hcr]; · iexact Hcr
    isplitl [Ho] <;> iassumption
  iintro ⟨Ho, HaR, HrR', Hsl, HrC⟩
  iapply (bind_intro c _ _ Q)
  iapply (send_wait xs ws r s hs c (above_owe _ (4 * s + place r) (by omega) c) hN hO hS) $$ [Hcs Ho HaS]
  · isplitr; · iexact HC
    isplitl [Hcs]; · iexact Hcs
    isplitl [Ho] <;> iassumption
  iintro ⟨Ho, HaS, HrS', Hany⟩
  rw [show s + 1 + 1 = s + 2 from rfl, gR_add, gS_add, show (s + 2) / 2 = s / 2 + 1 by omega]
  iapply Hk
  isplitl [Ho]; · iexact Ho
  isplitl [Hsl]; · iexact Hsl
  isplitl [HrC]; · iexact HrC
  isplitl [Hany]; · iexact Hany
  isplitl [HaR HaR' HrR']
  · isplitl [HaR']; · iexact HaR'
    isplitr; · iexact HrR
    isplitl [HaR] <;> iassumption
  isplitl [HaS HaS' HrS']
  · isplitl [HaS']; · iexact HaS'
    isplitr; · iexact HrS
    isplitl [HaS] <;> iassumption
  iexact HaC

/-- Wait for leave and pass the message on. -/
theorem pass_last {Q : PUnit → sProp 𝕄} (r : Fin 4) (s : ℕ) (hs : s < 61) (c : Dev nD)
    (hN : SlotIn ![(s + 1) % 2, 0, 0]) (hO : SlotIn ![s % 2, 0, 0]) (hR : CellIn ![r.val, (s + 1) % 2]) (hS : CellIn ![r.val, s % 2]) (hC : CredIn ![r.val]) :
    iprop(Ctx xs ws ∗ ow c (owe (4 * s + place r + 1) c + tallyAt (gR r (s + 1 + 1) (dst r c)) (2 + 2 * (4 * (s + 1) + place r)) (NN r))
        ∗ cred (tallyAt (gC r c) (3 + 2 * (4 * s + place r)) 1) ∗ atPos ER (gC r c) s ∅ 0
        ∗ slotHas r (s + 1) c (M xs ws r (s + 1) c)
        ∗ dutyTok ER (gS r (s + 1) c) ((s + 1) / 2) false ∗ reached ER (gS r (s + 1) c) ((s + 1) / 2)
        ∗ dutyTok ER (gR r (s + 1 + 1) (dst r c)) ((s + 1) / 2) false)
      ⊢ iprop(((ow c (owe (4 * s + place r + 1) c) ∗ atPos ER (gC r c) (s + 1) ∅ 0 ∗ cred (tallyAt (gS r (s + 1) c) 0 (NN r))) -∗ Q ⟨⟩)
        -∗ wpr c (do
            creditWait ![r.val] hC
            sendSeg (cM r) ![(s + 1) % 2, 0, 0] hN ![s % 2, 0, 0] hO ![r.val, s % 2] hS ![r.val, (s + 1) % 2] hR (dst r c)) Q) := by
  have hp := place_lt r
  iintro ⟨#HC, Ho, Hcc, HaC, Hsl, HtS, HrS, HtR⟩ Hk
  iapply (bind_intro c _ _ Q)
  iapply (credit_wait xs ws r s hs c (3 + 2 * (4 * s + place r)) (by omega) (above_mid r s _ hs (le_refl _) c) hC) $$ [Hcc Ho HaC]
  · isplitr; · iexact HC
    isplitl [Hcc]; · iexact Hcc
    isplitl [Ho] <;> iassumption
  iintro ⟨Ho, HaC, HrC, Hany, HrR⟩
  have e2 : s % 2 = (s + 1 + 1) % 2 := by omega
  have key := fun Q' : PUnit → sProp 𝕄 => send_seg xs ws (Q := Q') r (s + 1) (by omega) c (2 + 2 * (4 * (s + 1) + place r)) (owe (4 * s + place r + 1) c) hN (by rw [← e2]; exact hO) (by rw [← e2]; exact hS) hR
  simp only [← e2] at key
  iapply (key _) $$ [Ho Hsl Hany HtS HrS HtR HrR HrC]
  · isplitr; · iexact HC
    isplitl [Ho]; · iexact Ho
    isplitl [Hsl]; · iexact Hsl
    isplitl [Hany]; · iapply (Entails.of_eq (slotAny_congr (F := F) r e2 (dst r c))) $$ Hany
    isplitl [HtS]; · iexact HtS
    isplitl [HrS]; · iexact HrS
    isplitl [HtR]; · iexact HtR
    isplitl [HrR]
    · iapply (Entails.of_eq (congrArg (fun g => (reached ER g ((s + 1) / 2) : sProp 𝕄)) (gR_add r s (dst r c)).symm)) $$ HrR
    iexact HrC
  iintro ⟨Hc, Ho⟩
  iapply Hk
  isplitl [Ho]; · iexact Ho
  isplitl [HaC] <;> iassumption

theorem pass_seg {Q : PUnit → sProp 𝕄} (r : Fin 4) (s : ℕ) (hs : s < 61) (c : Dev nD)
    (hN : SlotIn ![(s + 1) % 2, 0, 0]) (hO : SlotIn ![s % 2, 0, 0]) (hR : CellIn ![r.val, (s + 1) % 2]) (hS : CellIn ![r.val, s % 2]) (hC : CredIn ![r.val]) (k : PT F PUnit) :
    iprop(Ctx xs ws ∗ ow c (owe (4 * s + place r + 1) c + tallyAt (gR r (s + 1 + 1) (dst r c)) (2 + 2 * (4 * (s + 1) + place r)) (NN r))
        ∗ cred (tallyAt (gC r c) (3 + 2 * (4 * s + place r)) 1) ∗ atPos ER (gC r c) s ∅ 0
        ∗ slotHas r (s + 1) c (M xs ws r (s + 1) c)
        ∗ dutyTok ER (gS r (s + 1) c) ((s + 1) / 2) false ∗ reached ER (gS r (s + 1) c) ((s + 1) / 2)
        ∗ dutyTok ER (gR r (s + 1 + 1) (dst r c)) ((s + 1) / 2) false)
      ⊢ iprop(((ow c (owe (4 * s + place r + 1) c) ∗ atPos ER (gC r c) (s + 1) ∅ 0 ∗ cred (tallyAt (gS r (s + 1) c) 0 (NN r))) -∗ wpr c k Q)
        -∗ wpr c (do
            creditWait ![r.val] hC
            sendSeg (cM r) ![(s + 1) % 2, 0, 0] hN ![s % 2, 0, 0] hO ![r.val, s % 2] hS ![r.val, (s + 1) % 2] hR (dst r c)
            k) Q) := by
  iintro H Hk
  iapply (assoc_intro c _ _ k Q)
  iapply (pass_last xs ws r s hs c hN hO hR hS hC) $$ H
  iexact Hk

/-! ## The four forms of a step -/

section Forms

variable (r : Fin 4) (s : ℕ) (c : Dev nD) {C : Memref sig .tc .vmem S2x256x1024 .f32} {A : Memref sig .tc .vmem S256x1024 .f32} (hC' : C = cM r) (hA' : A = aM r)
  {oN : Fin 3 → ℕ} (hN : SlotIn oN) (eN : oN = ![(s + 1) % 2, 0, 0]) {oO : Fin 3 → ℕ} (hO : SlotIn oO) (eO : oO = ![s % 2, 0, 0])
  {oR : Fin 2 → ℕ} (hR : CellIn oR) (eR : oR = ![r.val, (s + 1) % 2]) {oS : Fin 2 → ℕ} (hS : CellIn oS) (eS : oS = ![r.val, s % 2])
  {cu dn : Dev nD} (eu : cu = ups r c) (en : dn = dst r c) {oC : Fin 1 → ℕ} (hC : CredIn oC) (eC : oC = ![r.val])
  {oT : Fin 2 → ℕ} (hT : OutIn oT) (eT : oT = ![256 * (row r s c).val, 1024 * r.val])

include hC' hA' eN eO eR eS eu en eC in
theorem rs_step {Q : PUnit → sProp 𝕄} (hs : s < 30)
    (pay : Vec F S1x256x1024 .f32 → Vec F S256x1024 .f32 → Vec F S1x256x1024 .f32) (hpay : ∀ v a, flat (pay v a) = addf (flat v) a)
    {ox : Fin 2 → ℕ} (hx : RowsIn ox) (ex : ox = ![256 * (row r (s + 1) c).val, 0]) {ow' : Fin 2 → ℕ} (hw : ColsIn ow') (ew : ow' = ![0, 1024 * r.val])
    (pay' : Vec F S256x256 .f32 → Vec F S256x1024 .f32 → Vec F S256x1024 .f32) (hpay' : ∀ x w, pay' x w = k0_pay2 x w) :
    iprop(Ctx xs ws ∗ ow c (owe (4 * s + place r) c) ∗ stg xs ws c
        ∗ (St r s c ∗ cred (tallyAt (gS r s c) 0 (NN r)) ∗ accHas r c (P xs ws r (row r s c) c)) ∗ Bun r s c)
      ⊢ iprop(((ow c (owe (4 * s + place r + 1) c) ∗ stg xs ws c
            ∗ (St r (s + 1) c ∗ cred (tallyAt (gS r (s + 1) c) 0 (NN r)) ∗ accHas r c (P xs ws r (row r (s + 1) c) c))) -∗ Q ⟨⟩)
        -∗ wpr c (rsStep C A oN hN oO hO oR hR oS hS cu dn oC hC pay ox hx ow' hw pay') Q) := by
  subst hC' hA' eN eO eR eS eu en eC ex ew
  unfold rsStep Bun
  iintro ⟨#HC, Ho, Hst, ⟨HSt, Hcs, Hacc⟩, ⟨Hcr, HtC, Hcc, HtR, HtS⟩⟩ Hk
  iapply (waits_seg xs ws r s (by omega) c hN hO hR hS) $$ [Hcr Hcs Ho HSt]
  · isplitr; · iexact HC
    isplitl [Hcr]; · iexact Hcr
    isplitl [Hcs]; · iexact Hcs
    isplitl [Ho] <;> iassumption
  iintro ⟨Ho, Hsl, HrC, Hany, ⟨HaR, HrR, HaR', HrR'⟩, ⟨HaS, #HrS, HaS', HrS'⟩, HaC⟩
  iapply (bind_intro c _ _ Q)
  rw [owe_at r s (by omega) c]
  iapply (credit_seg xs ws r s (by omega) c _ _ hC) $$ [Ho HtC HrC Hany HrR]
  · isplitr; · iexact HC
    isplitl [Ho]; · iexact Ho
    isplitl [HtC]; · iexact HtC
    isplitl [HrC]; · iexact HrC
    isplitl [Hany] <;> iassumption
  iintro Ho
  iapply (bind_intro c _ _ Q)
  iapply (add_seg r (s + 1) c (M xs ws r s (ups r c)) (P xs ws r (row r s c) c) pay addf hpay hN) $$ [Hsl Hacc]
  · isplitl [Hsl] <;> iassumption
  iintro ⟨Hsl, Hacc⟩
  rw [← M_lt xs ws r s hs c]
  iapply (pass_seg xs ws r s (by omega) c hN hO hR hS hC) $$ [Ho Hcc HaC Hsl HtS HtR]
  · isplitr; · iexact HC
    isplitl [Ho]; · iexact Ho
    isplitl [Hcc]; · iexact Hcc
    isplitl [HaC]; · iexact HaC
    isplitl [Hsl]; · iexact Hsl
    isplitl [HtS]; · iexact HtS
    isplitr; · iexact HrS
    iexact HtR
  iintro ⟨Ho, HaC, Hcs⟩
  iapply (acc_seg xs ws r (row r (s + 1) c) c hx hw pay' hpay') $$ [Hst Hacc]
  · isplitl [Hst]; · iexact Hst
    iapply (accHas_any (F := F) r c _) $$ Hacc
  iintro ⟨Hst, Hacc⟩
  iapply Hk
  isplitl [Ho]; · iexact Ho
  isplitl [Hst]; · iexact Hst
  isplitl [HaR HaR' HrR' HaS HaS' HrS' HaC]
  · unfold St
    isplitl [HaR HaR' HrR']
    · isplitl [HaR]; · iexact HaR
      isplitl [HaR'] <;> iassumption
    isplitl [HaS HaS' HrS']
    · isplitl [HaS]; · iexact HaS
      isplitl [HaS'] <;> iassumption
    iexact HaC
  isplitl [Hcs] <;> iassumption

include hC' hA' eN eO eR eS eu en eC eT in
theorem gl_step {Q : PUnit → sProp 𝕄} (hs : s = 30)
    (pay : Vec F S1x256x1024 .f32 → Vec F S256x1024 .f32 → Vec F S1x256x1024 .f32) (hpay : ∀ v a, flat (pay v a) = act (addf (flat v) a)) :
    iprop(Ctx xs ws ∗ ow c (owe (4 * s + place r) c) ∗ OutAt (4 * (s - 30) + place r) c
        ∗ (St r s c ∗ cred (tallyAt (gS r s c) 0 (NN r)) ∗ accHas r c (P xs ws r (row r s c) c)) ∗ Bun r s c ∗ OutB r s c)
      ⊢ iprop(((ow c (owe (4 * s + place r + 1) c) ∗ OutAt (4 * (s - 30) + place r + 1) c
            ∗ (St r (s + 1) c ∗ cred (tallyAt (gS r (s + 1) c) 0 (NN r))) ∗ accAny r c ∗ OutD xs ws r s c) -∗ Q ⟨⟩)
        -∗ wpr c (glStep C A oN hN oO hO oR hR oS hS cu dn oC hC pay oT hT) Q) := by
  subst hC' hA' eN eO eR eS eu en eC eT
  unfold glStep Bun OutB OutAt
  iintro ⟨#HC, Ho, ⟨HaO, HrO⟩, ⟨HSt, Hcs, Hacc⟩, ⟨Hcr, HtC, Hcc, HtR, HtS⟩, ⟨HtO, Hout⟩⟩ Hk
  iapply (waits_seg xs ws r s (by omega) c hN hO hR hS) $$ [Hcr Hcs Ho HSt]
  · isplitr; · iexact HC
    isplitl [Hcr]; · iexact Hcr
    isplitl [Hcs]; · iexact Hcs
    isplitl [Ho] <;> iassumption
  iintro ⟨Ho, Hsl, HrC, Hany, ⟨HaR, HrR, HaR', HrR'⟩, ⟨HaS, #HrS, HaS', HrS'⟩, HaC⟩
  iapply (bind_intro c _ _ Q)
  rw [owe_at r s (by omega) c]
  iapply (credit_seg xs ws r s (by omega) c _ _ hC) $$ [Ho HtC HrC Hany HrR]
  · isplitr; · iexact HC
    isplitl [Ho]; · iexact Ho
    isplitl [HtC]; · iexact HtC
    isplitl [HrC]; · iexact HrC
    isplitl [Hany] <;> iassumption
  iintro Ho
  iapply (bind_intro c _ _ Q)
  iapply (add_seg r (s + 1) c (M xs ws r s (ups r c)) (P xs ws r (row r s c) c) pay (fun x a => act (addf x a)) hpay hN) $$ [Hsl Hacc]
  · isplitl [Hsl] <;> iassumption
  iintro ⟨Hsl, Hacc⟩
  have eM : act (addf (M xs ws r s (ups r c)) (P xs ws r (row r s c) c)) = M xs ws r (s + 1) c := by
    rw [hs]; exact (M_mid xs ws r c).symm
  rw [eM]
  iapply (bind_intro c _ _ Q)
  iapply (out_seg xs ws r s (by omega) (by omega) c (above_mid r s 0 (by omega) (by omega) c) hN hT) $$ [Hsl Hout HtO HrO Ho HaO]
  · isplitr; · iexact HC
    isplitl [Hsl]; · iexact Hsl
    isplitl [Hout]; · iexact Hout
    isplitl [HtO]; · iexact HtO
    isplitl [HrO]; · iexact HrO
    isplitl [Ho] <;> iassumption
  unfold outPay
  iintro ⟨Ho, HaO, HrO, Hout, Hsl⟩
  iapply (pass_last xs ws r s (by omega) c hN hO hR hS hC) $$ [Ho Hcc HaC Hsl HtS HtR]
  · isplitr; · iexact HC
    isplitl [Ho]; · iexact Ho
    isplitl [Hcc]; · iexact Hcc
    isplitl [HaC]; · iexact HaC
    isplitl [Hsl]; · iexact Hsl
    isplitl [HtS]; · iexact HtS
    isplitr; · iexact HrS
    iexact HtR
  iintro ⟨Ho, HaC, Hcs⟩
  iapply Hk
  isplitl [Ho]; · iexact Ho
  isplitl [HaO HrO]; · isplitl [HaO] <;> iassumption
  isplitl [HaR HaR' HrR' HaS HaS' HrS' HaC Hcs]
  · isplitr [Hcs]
    · unfold St
      isplitl [HaR HaR' HrR']
      · isplitl [HaR]; · iexact HaR
        isplitl [HaR'] <;> iassumption
      isplitl [HaS HaS' HrS']
      · isplitl [HaS]; · iexact HaS
        isplitl [HaS'] <;> iassumption
      iexact HaC
    · iexact Hcs
  isplitl [Hacc]; · iapply (accHas_any (F := F) r c _) $$ Hacc
  unfold OutD; iexact Hout

include hC' eN eO eR eS eu en eC eT in
theorem ag_step {Q : PUnit → sProp 𝕄} (h30 : 30 < s) (hs : s < 61) :
    iprop(Ctx xs ws ∗ ow c (owe (4 * s + place r) c) ∗ OutAt (4 * (s - 30) + place r) c
        ∗ (St r s c ∗ cred (tallyAt (gS r s c) 0 (NN r))) ∗ Bun r s c ∗ OutB r s c)
      ⊢ iprop(((ow c (owe (4 * s + place r + 1) c) ∗ OutAt (4 * (s - 30) + place r + 1) c
            ∗ (St r (s + 1) c ∗ cred (tallyAt (gS r (s + 1) c) 0 (NN r))) ∗ OutD xs ws r s c) -∗ Q ⟨⟩)
        -∗ wpr c (agStep C oN hN oO hO oR hR oS hS cu dn oC hC oT hT) Q) := by
  subst hC' eN eO eR eS eu en eC eT
  unfold agStep Bun OutB OutAt
  iintro ⟨#HC, Ho, ⟨HaO, HrO⟩, ⟨HSt, Hcs⟩, ⟨Hcr, HtC, Hcc, HtR, HtS⟩, ⟨HtO, Hout⟩⟩ Hk
  iapply (waits_seg xs ws r s (by omega) c hN hO hR hS) $$ [Hcr Hcs Ho HSt]
  · isplitr; · iexact HC
    isplitl [Hcr]; · iexact Hcr
    isplitl [Hcs]; · iexact Hcs
    isplitl [Ho] <;> iassumption
  iintro ⟨Ho, Hsl, HrC, Hany, ⟨HaR, HrR, HaR', HrR'⟩, ⟨HaS, #HrS, HaS', HrS'⟩, HaC⟩
  iapply (bind_intro c _ _ Q)
  rw [owe_at r s (by omega) c]
  iapply (credit_seg xs ws r s (by omega) c _ _ hC) $$ [Ho HtC HrC Hany HrR]
  · isplitr; · iexact HC
    isplitl [Ho]; · iexact Ho
    isplitl [HtC]; · iexact HtC
    isplitl [HrC]; · iexact HrC
    isplitl [Hany] <;> iassumption
  iintro Ho
  rw [← M_gt xs ws r s h30 c]
  iapply (bind_intro c _ _ Q)
  iapply (out_seg xs ws r s (by omega) (by omega) c (above_mid r s 0 (by omega) (by omega) c) hN hT) $$ [Hsl Hout HtO HrO Ho HaO]
  · isplitr; · iexact HC
    isplitl [Hsl]; · iexact Hsl
    isplitl [Hout]; · iexact Hout
    isplitl [HtO]; · iexact HtO
    isplitl [HrO]; · iexact HrO
    isplitl [Ho] <;> iassumption
  unfold outPay
  iintro ⟨Ho, HaO, HrO, Hout, Hsl⟩
  iapply (pass_last xs ws r s (by omega) c hN hO hR hS hC) $$ [Ho Hcc HaC Hsl HtS HtR]
  · isplitr; · iexact HC
    isplitl [Ho]; · iexact Ho
    isplitl [Hcc]; · iexact Hcc
    isplitl [HaC]; · iexact HaC
    isplitl [Hsl]; · iexact Hsl
    isplitl [HtS]; · iexact HtS
    isplitr; · iexact HrS
    iexact HtR
  iintro ⟨Ho, HaC, Hcs⟩
  iapply Hk
  isplitl [Ho]; · iexact Ho
  isplitl [HaO HrO]; · isplitl [HaO] <;> iassumption
  isplitr [Hout]
  · isplitr [Hcs]
    · unfold St
      isplitl [HaR HaR' HrR']
      · isplitl [HaR]; · iexact HaR
        isplitl [HaR'] <;> iassumption
      isplitl [HaS HaS' HrS']
      · isplitl [HaS]; · iexact HaS
        isplitl [HaS'] <;> iassumption
      iexact HaC
    · iexact Hcs
  unfold OutD; iexact Hout

end Forms

end Cert.KernelIdeal.Ring
-- ==== Proof.KIBody.lean ====
/-
# The whole body of one device

The rendezvous, the first messages, the two loops and the steps between and after them, from what a device starts with to what
it ends with.
-/
module

public import proofs.«01_k».proof.Proof.KIRing

@[expose] public section

noncomputable section

namespace Cert.KernelIdeal.Ring

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → Vec F S8192x256 .f32) (ws : Dev nD → Vec F S256x4096 .f32)

/-! ## The four rings together -/

/-- The four rings' parts of an assertion, in the order in which a step goes through them. -/
def four (Φ : Fin 4 → sProp 𝕄) : sProp 𝕄 := iprop(Φ 0 ∗ Φ 2 ∗ Φ 1 ∗ Φ 3)

omit [FloatOps F] in
theorem four_eq (Φ : Fin 4 → sProp 𝕄) : four Φ = iprop(Φ 0 ∗ Φ 2 ∗ Φ 1 ∗ Φ 3) := rfl

/-- A ring before a step of the second half, and of the first. -/
def Rs (r : Fin 4) (s : ℕ) (c : Dev nD) : sProp 𝕄 := iprop(St r s c ∗ cred (tallyAt (gS r s c) 0 (NN r)))
def Rs1 (r : Fin 4) (s : ℕ) (c : Dev nD) : sProp 𝕄 := iprop(St r s c ∗ cred (tallyAt (gS r s c) 0 (NN r)) ∗ accHas r c (P xs ws r (row r s c) c))

theorem next_place (s : ℕ) : (4 * s + place 0 + 1 = 4 * s + place 2) ∧ (4 * s + place 2 + 1 = 4 * s + place 1) ∧ (4 * s + place 1 + 1 = 4 * s + place 3)
    ∧ (4 * s + place 3 + 1 = 4 * (s + 1) + place 0) := by
  refine ⟨rfl, rfl, rfl, ?_⟩
  show 4 * s + 3 + 1 = 4 * (s + 1) + 0; omega

theorem next_out (s : ℕ) (h : 30 ≤ s) : 4 * (s - 30) + place 3 + 1 = 4 * (s + 1 - 30) + place 0 := by
  show 4 * (s - 30) + 3 + 1 = 4 * (s + 1 - 30) + 0; omega

/-! ## The two loops -/

theorem trip1_wp {Q : PUnit → sProp 𝕄} (c : Dev nD) (t : Fin k0_t1_loop.trips) (ht : t.val < 30) :
    iprop(Ctx xs ws ∗ ow c (owe (4 * t.val + place 0) c) ∗ stg xs ws c ∗ four (fun r => Rs1 xs ws r t.val c) ∗ four (fun r => Bun r t.val c))
      ⊢ iprop(((ow c (owe (4 * (t.val + 1) + place 0) c) ∗ stg xs ws c ∗ four (fun r => Rs1 xs ws r (t.val + 1) c)) -∗ Q ⟨⟩) -∗ wpr c (trip1 c t) Q) := by
  obtain ⟨n0, n1, n2, n3⟩ := next_place t.val
  unfold trip1 four Rs1
  iintro ⟨#HC, Ho, Hst, ⟨HR0, HR2, HR1, HR3⟩, HB0, HB2, HB1, HB3⟩ Hk
  iapply (bind_intro c _ _ Q)
  iapply (rs_step xs ws 0 t.val c rfl rfl _ (off5 t) _ (off6 t) _ (off4 t) _ (off7 t) (dev7 c) (dev8 c) _ rfl ht _ flat_add1 _ (off9 0 (by decide) c t) _ rfl _ (fun _ _ => rfl)) $$ [Ho Hst HR0 HB0]
  · isplitr; · iexact HC
    isplitl [Ho]; · iexact Ho
    isplitl [Hst]; · iexact Hst
    isplitl [HR0] <;> iassumption
  iintro ⟨Ho, Hst, HR0⟩
  rw [n0]
  iapply (bind_intro c _ _ Q)
  iapply (rs_step xs ws 2 t.val c rfl rfl _ (off5 t) _ (off6 t) _ (off10 t) _ (off11 t) (dev9 c) (dev10 c) _ rfl ht _ flat_add3 _ (off12 2 (by decide) c t) _ rfl _ acc4) $$ [Ho Hst HR2 HB2]
  · isplitr; · iexact HC
    isplitl [Ho]; · iexact Ho
    isplitl [Hst]; · iexact Hst
    isplitl [HR2] <;> iassumption
  iintro ⟨Ho, Hst, HR2⟩
  rw [n1]
  iapply (bind_intro c _ _ Q)
  iapply (rs_step xs ws 1 t.val c rfl rfl _ (off5 t) _ (off6 t) _ (off13 t) _ (off14 t) (dev11 c) (dev12 c) _ rfl ht _ flat_add5 _ (off9 1 (by decide) c t) _ rfl _ acc6) $$ [Ho Hst HR1 HB1]
  · isplitr; · iexact HC
    isplitl [Ho]; · iexact Ho
    isplitl [Hst]; · iexact Hst
    isplitl [HR1] <;> iassumption
  iintro ⟨Ho, Hst, HR1⟩
  rw [n2]
  iapply (rs_step xs ws 3 t.val c rfl rfl _ (off5 t) _ (off6 t) _ (off15 t) _ (off16 t) (dev13 c) (dev14 c) _ rfl ht _ flat_add7 _ (off12 3 (by decide) c t) _ rfl _ acc18) $$ [Ho Hst HR3 HB3]
  · isplitr; · iexact HC
    isplitl [Ho]; · iexact Ho
    isplitl [Hst]; · iexact Hst
    isplitl [HR3] <;> iassumption
  iintro ⟨Ho, Hst, HR3⟩
  rw [n3]
  iapply Hk
  isplitl [Ho]; · iexact Ho
  isplitl [Hst]; · iexact Hst
  isplitl [HR0]; · iexact HR0
  isplitl [HR2]; · iexact HR2
  isplitl [HR1] <;> iassumption

theorem trip2_wp {Q : PUnit → sProp 𝕄} (c : Dev nD) (t : Fin k0_t2_loop.trips) (ht : t.val < 30) :
    iprop(Ctx xs ws ∗ ow c (owe (4 * (t.val + 31) + place 0) c) ∗ OutAt (4 * (t.val + 31 - 30) + place 0) c
        ∗ four (fun r => Rs r (t.val + 31) c) ∗ four (fun r => Bun r (t.val + 31) c) ∗ four (fun r => OutB r (t.val + 31) c))
      ⊢ iprop(((ow c (owe (4 * (t.val + 31 + 1) + place 0) c) ∗ OutAt (4 * (t.val + 31 + 1 - 30) + place 0) c
            ∗ four (fun r => Rs r (t.val + 31 + 1) c) ∗ four (fun r => OutD xs ws r (t.val + 31) c)) -∗ Q ⟨⟩) -∗ wpr c (trip2 c t) Q) := by
  obtain ⟨n0, n1, n2, n3⟩ := next_place (t.val + 31)
  obtain ⟨m0, m1, m2, -⟩ := next_place (t.val + 31 - 30)
  have m3 := next_out (t.val + 31) (by omega)
  unfold trip2 four Rs
  iintro ⟨#HC, Ho, HO, ⟨HR0, HR2, HR1, HR3⟩, ⟨HB0, HB2, HB1, HB3⟩, ⟨HU0, HU2, HU1, HU3⟩⟩ Hk
  iapply (bind_intro c _ _ Q)
  iapply (ag_step xs ws 0 (t.val + 31) c rfl _ (off22 t) _ (off23 t) _ (off21 t) _ (off24 t) (dev23 c) (dev24 c) _ rfl _ (off25 c t) (by omega) (by omega)) $$ [Ho HO HR0 HB0 HU0]
  · isplitr; · iexact HC
    isplitl [Ho]; · iexact Ho
    isplitl [HO]; · iexact HO
    isplitl [HR0]; · iexact HR0
    isplitl [HB0] <;> iassumption
  iintro ⟨Ho, HO, HR0, HD0⟩
  rw [n0, m0]
  iapply (bind_intro c _ _ Q)
  iapply (ag_step xs ws 2 (t.val + 31) c rfl _ (off22 t) _ (off23 t) _ (off26 t) _ (off27 t) (dev25 c) (dev26 c) _ rfl _ (off28 c t) (by omega) (by omega)) $$ [Ho HO HR2 HB2 HU2]
  · isplitr; · iexact HC
    isplitl [Ho]; · iexact Ho
    isplitl [HO]; · iexact HO
    isplitl [HR2]; · iexact HR2
    isplitl [HB2] <;> iassumption
  iintro ⟨Ho, HO, HR2, HD2⟩
  rw [n1, m1]
  iapply (bind_intro c _ _ Q)
  iapply (ag_step xs ws 1 (t.val + 31) c rfl _ (off22 t) _ (off23 t) _ (off29 t) _ (off30 t) (dev27 c) (dev28 c) _ rfl _ (off31 c t) (by omega) (by omega)) $$ [Ho HO HR1 HB1 HU1]
  · isplitr; · iexact HC
    isplitl [Ho]; · iexact Ho
    isplitl [HO]; · iexact HO
    isplitl [HR1]; · iexact HR1
    isplitl [HB1] <;> iassumption
  iintro ⟨Ho, HO, HR1, HD1⟩
  rw [n2, m2]
  iapply (ag_step xs ws 3 (t.val + 31) c rfl _ (off22 t) _ (off23 t) _ (off32 t) _ (off33 t) (dev29 c) (dev30 c) _ rfl _ (off34 c t) (by omega) (by omega)) $$ [Ho HO HR3 HB3 HU3]
  · isplitr; · iexact HC
    isplitl [Ho]; · iexact Ho
    isplitl [HO]; · iexact HO
    isplitl [HR3]; · iexact HR3
    isplitl [HB3] <;> iassumption
  iintro ⟨Ho, HO, HR3, HD3⟩
  rw [n3, m3]
  iapply Hk
  isplitl [Ho]; · iexact Ho
  isplitl [HO]; · iexact HO
  isplitl [HR0 HR2 HR1 HR3]
  · isplitl [HR0]; · iexact HR0
    isplitl [HR2]; · iexact HR2
    isplitl [HR1] <;> iassumption
  isplitl [HD0]; · iexact HD0
  isplitl [HD2]; · iexact HD2
  isplitl [HD1] <;> iassumption

theorem mids_wp {Q : PUnit → sProp 𝕄} (c : Dev nD) :
    iprop(Ctx xs ws ∗ ow c (owe (4 * 30 + place 0) c) ∗ OutAt (4 * (30 - 30) + place 0) c
        ∗ four (fun r => Rs1 xs ws r 30 c) ∗ four (fun r => Bun r 30 c) ∗ four (fun r => OutB r 30 c))
      ⊢ iprop(((ow c (owe (4 * (30 + 1) + place 0) c) ∗ OutAt (4 * (30 + 1 - 30) + place 0) c
            ∗ four (fun r => Rs r (30 + 1) c) ∗ four (fun r => accAny r c) ∗ four (fun r => OutD xs ws r 30 c)) -∗ Q ⟨⟩) -∗ wpr c (mids c) Q) := by
  obtain ⟨n0, n1, n2, n3⟩ := next_place 30
  obtain ⟨m0, m1, m2, -⟩ := next_place (30 - 30)
  have m3 := next_out 30 (by omega)
  unfold mids four Rs Rs1
  iintro ⟨#HC, Ho, HO, ⟨HR0, HR2, HR1, HR3⟩, ⟨HB0, HB2, HB1, HB3⟩, ⟨HU0, HU2, HU1, HU3⟩⟩ Hk
  iapply (bind_intro c _ _ Q)
  iapply (gl_step xs ws 0 30 c rfl rfl _ rfl _ rfl _ rfl _ rfl (dev15 c) (dev16 c) _ rfl _ (off17a c) rfl _ flat_mid0) $$ [Ho HO HR0 HB0 HU0]
  · isplitr; · iexact HC
    isplitl [Ho]; · iexact Ho
    isplitl [HO]; · iexact HO
    isplitl [HR0]; · iexact HR0
    isplitl [HB0] <;> iassumption
  iintro ⟨Ho, HO, HR0, HA0, HD0⟩
  rw [n0, m0]
  iapply (bind_intro c _ _ Q)
  iapply (gl_step xs ws 2 30 c rfl rfl _ rfl _ rfl _ rfl _ rfl (dev17 c) (dev18 c) _ rfl _ (off18a c) rfl _ flat_mid2) $$ [Ho HO HR2 HB2 HU2]
  · isplitr; · iexact HC
    isplitl [Ho]; · iexact Ho
    isplitl [HO]; · iexact HO
    isplitl [HR2]; · iexact HR2
    isplitl [HB2] <;> iassumption
  iintro ⟨Ho, HO, HR2, HA2, HD2⟩
  rw [n1, m1]
  iapply (bind_intro c _ _ Q)
  iapply (gl_step xs ws 1 30 c rfl rfl _ rfl _ rfl _ rfl _ rfl (dev19 c) (dev20 c) _ rfl _ (off19a c) rfl _ flat_mid1) $$ [Ho HO HR1 HB1 HU1]
  · isplitr; · iexact HC
    isplitl [Ho]; · iexact Ho
    isplitl [HO]; · iexact HO
    isplitl [HR1]; · iexact HR1
    isplitl [HB1] <;> iassumption
  iintro ⟨Ho, HO, HR1, HA1, HD1⟩
  rw [n2, m2]
  iapply (gl_step xs ws 3 30 c rfl rfl _ rfl _ rfl _ rfl _ rfl (dev21 c) (dev22 c) _ rfl _ (off20a c) rfl _ flat_mid3) $$ [Ho HO HR3 HB3 HU3]
  · isplitr; · iexact HC
    isplitl [Ho]; · iexact Ho
    isplitl [HO]; · iexact HO
    isplitl [HR3]; · iexact HR3
    isplitl [HB3] <;> iassumption
  iintro ⟨Ho, HO, HR3, HA3, HD3⟩
  rw [n3, m3]
  iapply Hk
  isplitl [Ho]; · iexact Ho
  isplitl [HO]; · iexact HO
  isplitl [HR0 HR2 HR1 HR3]
  · isplitl [HR0]; · iexact HR0
    isplitl [HR2]; · iexact HR2
    isplitl [HR1] <;> iassumption
  isplitl [HA0 HA2 HA1 HA3]
  · isplitl [HA0]; · iexact HA0
    isplitl [HA2]; · iexact HA2
    isplitl [HA1] <;> iassumption
  isplitl [HD0]; · iexact HD0
  isplitl [HD2]; · iexact HD2
  isplitl [HD1] <;> iassumption

omit [FloatOps F] in
/-- The first of a range of steps, and the last. -/
theorem first_of {n k : ℕ} (h : n < k) (Φ : ℕ → sProp 𝕄) : bigSep (Finset.Ico n k) Φ = iprop(Φ n ∗ bigSep (Finset.Ico (n + 1) k) Φ) := by
  rw [Ico_step h]; exact BI.bigSep_insert (not_mem_Ico n k)
omit [FloatOps F] in
theorem last_of {n k : ℕ} (h : n ≤ k) (Φ : ℕ → sProp 𝕄) : bigSep (Finset.Ico n (k + 1)) Φ = iprop(Φ k ∗ bigSep (Finset.Ico n k) Φ) := by
  have e : Finset.Ico n (k + 1) = insert k (Finset.Ico n k) := by
    ext i; rw [Finset.mem_insert, Finset.mem_Ico, Finset.mem_Ico]; omega
  rw [e]; exact BI.bigSep_insert (by rw [Finset.mem_Ico]; omega)
omit [FloatOps F] in
theorem none_of (n : ℕ) (Φ : ℕ → sProp 𝕄) : bigSep (Finset.Ico n n) Φ = iprop(emp) := by
  rw [Finset.Ico_self]; rfl

/-- What the first loop keeps. -/
def I1 (c : Dev nD) (n : ℕ) : sProp 𝕄 :=
  iprop(Ctx xs ws ∗ ow c (owe (4 * n + place 0) c) ∗ stg xs ws c ∗ four (fun r => Rs1 xs ws r n c)
    ∗ bigSep (Finset.Ico n 61) (fun s => four (fun r => Bun r s c)))

theorem loop1_wp {Q : PUnit → sProp 𝕄} (c : Dev nD) :
    I1 xs ws c 0 ⊢ iprop((I1 xs ws c 30 -∗ Q ⟨⟩)
      -∗ wpr c (do Scf.Loop.for k0_t1_loop k0_t1_ok ⟨⟩ (fun t _ => trip1 c t); pure ⟨⟩ : PT F PUnit) Q) := by
  have hb : ∀ (k : Fin (Scf.trips k0_t1_loop.lb k0_t1_loop.ub k0_t1_loop.st)) (acc : PUnit), I1 xs ws c k.val ⊢ wpr c (trip1 (F := F) c k) (fun _ => I1 xs ws c (k.val + 1)) := by
    intro k acc
    have hk : k.val < 30 := lt_of_lt_of_eq k.isLt trips1
    unfold I1
    rw [first_of (show k.val < 61 by omega)]
    iintro ⟨#HC, Ho, Hst, HR, HB, Hrest⟩
    iapply (trip1_wp xs ws (Q := fun _ => I1 xs ws c (k.val + 1)) c k hk) $$ [Ho Hst HR HB]
    · isplitr; · iexact HC
      isplitl [Ho]; · iexact Ho
      isplitl [Hst]; · iexact Hst
      isplitl [HR] <;> iassumption
    iintro ⟨Ho, Hst, HR⟩
    unfold I1
    isplitr; · iexact HC
    isplitl [Ho]; · iexact Ho
    isplitl [Hst]; · iexact Hst
    isplitl [HR] <;> iassumption
  iintro HI Hk
  iapply (bind_intro c _ _ Q)
  iapply (Scf.wp_for frame (wpE (defs₀ (F := F)) 𝒱₀ (c : Thread nD τ) none) Set.univ _ _ _ k0_t1_ok ⟨⟩ _ (fun n _ => I1 xs ws c n) hb)
  isplitl [HI]; · iexact HI
  iintro %_ HI
  iapply (ret_intro c ⟨⟩ Q)
  iapply Hk
  iapply (Entails.of_eq (congrArg (I1 xs ws c) trips1)) $$ HI

/-- What the second loop keeps. -/
def I2 (c : Dev nD) (n : ℕ) : sProp 𝕄 :=
  iprop(Ctx xs ws ∗ ow c (owe (4 * n + place 0) c) ∗ OutAt (4 * (n - 30) + place 0) c ∗ four (fun r => Rs r n c)
    ∗ bigSep (Finset.Ico n 61) (fun s => four (fun r => Bun r s c)) ∗ bigSep (Finset.Ico n 62) (fun s => four (fun r => OutB r s c))
    ∗ bigSep (Finset.Ico 30 n) (fun s => four (fun r => OutD xs ws r s c)))

theorem loop2_wp {Q : PUnit → sProp 𝕄} (c : Dev nD) :
    I2 xs ws c 31 ⊢ iprop((I2 xs ws c 61 -∗ Q ⟨⟩)
      -∗ wpr c (Scf.Loop.for k0_t2_loop k0_t2_ok ⟨⟩ (fun t _ => trip2 c t) : PT F PUnit) Q) := by
  have hb : ∀ (k : Fin (Scf.trips k0_t2_loop.lb k0_t2_loop.ub k0_t2_loop.st)) (acc : PUnit), I2 xs ws c (k.val + 31) ⊢ wpr c (trip2 (F := F) c k) (fun _ => I2 xs ws c (k.val + 1 + 31)) := by
    intro k acc
    have hk : k.val < 30 := lt_of_lt_of_eq k.isLt trips2
    unfold I2
    rw [first_of (show k.val + 31 < 61 by omega), first_of (show k.val + 31 < 62 by omega)]
    iintro ⟨#HC, Ho, HO, HR, ⟨HB, HBs⟩, ⟨HU, HUs⟩, HDs⟩
    iapply (trip2_wp xs ws (Q := fun _ => I2 xs ws c (k.val + 1 + 31)) c k hk) $$ [Ho HO HR HB HU]
    · isplitr; · iexact HC
      isplitl [Ho]; · iexact Ho
      isplitl [HO]; · iexact HO
      isplitl [HR]; · iexact HR
      isplitl [HB] <;> iassumption
    iintro ⟨Ho, HO, HR, HD⟩
    unfold I2
    rw [show k.val + 1 + 31 = k.val + 31 + 1 by omega, last_of (show 30 ≤ k.val + 31 by omega)]
    isplitr; · iexact HC
    isplitl [Ho]; · iexact Ho
    isplitl [HO]; · iexact HO
    isplitl [HR]; · iexact HR
    isplitl [HBs]; · iexact HBs
    isplitl [HUs]; · iexact HUs
    isplitl [HD] <;> iassumption
  iintro HI Hk
  iapply (Scf.wp_for frame (wpE (defs₀ (F := F)) 𝒱₀ (c : Thread nD τ) none) Set.univ _ _ _ k0_t2_ok ⟨⟩ _ (fun n _ => I2 xs ws c (n + 31)) hb)
  isplitl [HI]; · iexact HI
  iintro %_ HI
  iapply Hk
  iapply (Entails.of_eq (congrArg (fun n => I2 xs ws c (n + 31)) trips2)) $$ HI

/-! ## The rendezvous -/

theorem bar_seg {Q : PUnit → sProp 𝕄} (c : Dev nD) :
    iprop(Ctx xs ws ∗ ow c (O₀ c) ∗ (dutyTok ER (gB (pv c)) 0 true ∗ dutyTok ER (gB (nx c)) 0 false) ∗ cred (tallyAt (gB c) 1 2) ∗ atPos ER (gB c) 0 ∅ 0
        ∗ four (fun r => slotAny r 1 c))
      ⊢ iprop(((ow c (oweFirst 0 c) ∗ atPos ER (gB c) 1 ∅ 0 ∗ four (fun r => slotAny r 1 (dst r c))) -∗ Q ⟨⟩) -∗ wpr c (barSeg c) Q) := by
  have hmem : ∀ (g : Dev nD) (d : Bool), d ∈ (rd (F := F) xs ws).duties (gB g) 0 := by
    intro g d
    rw [duties_of xs ws 0 (gB g) (by show 0 < rounds (.reg barS); rw [rounds_B]; decide)]
    show d ∈ names (.reg barS)
    rw [names_B]; cases d <;> decide
  have hpay : ∀ (g : Dev nD) (d : Bool), (rd (F := F) xs ws).payload (gB g) 0 d = barPay d g := fun g d => (payload_eq xs ws g _ 0 d).trans (pay_B xs ws g 0 d)
  unfold barSeg semSignalWord semWaitWord four ow
  rw [dev1 c, dev2 c]
  simp only [Prog.lift, Prog.bind_op, Prog.bind_ret]
  iintro ⟨#HC, ⟨%W, Ho⟩, ⟨Ht, Ht'⟩, Hcr, Hat, ⟨Hs0, Hs2, Hs1, Hs3⟩⟩ Hk
  ihave HI := (ctx_cell xs ws (pv c) mem_B) $$ HC
  icases HI with ⟨%κ₁, #HI₁⟩
  ihave HI := (ctx_cell xs ws (nx c) mem_B) $$ HC
  icases HI with ⟨%κ₂, #HI₂⟩
  ihave HI := (ctx_cell xs ws c mem_B) $$ HC
  icases HI with ⟨%κ₃, #HI₃⟩
  ihave #Hr₁ := (ctx_reached xs ws (pv c) mem_B) $$ HC
  ihave #Hr₂ := (ctx_reached xs ws (nx c) mem_B) $$ HC
  iapply (wp_signal 𝒱₀ ER (rd xs ws) (c : Thread nD τ) none (dst := (pv c : Thread nD τ)) (sem := barS) (r := 0) (d := true) (k' := 1) (κ := κ₁)
    (hmem (pv c) true) rfl 1 (O₁ c) rfl (W := W)) $$ [Ho Ht Hs0 Hs1]
  · isplitr; · iexact HI₁
    isplitl [Ho]; · iexact Ho
    isplitl [Ht]; · iexact Ht
    isplitl [Hs0 Hs1]
    · rw [hpay]
      unfold barPay
      rw [if_pos rfl, show dst 0 (pv c) = c from nx_pv c, show dst 1 (pv c) = c from nx_pv c]
      isplitl [Hs0] <;> iassumption
    · iexact Hr₁
  iintro Ho
  iapply (wp_signal 𝒱₀ ER (rd xs ws) (c : Thread nD τ) none (dst := (nx c : Thread nD τ)) (sem := barS) (r := 0) (d := false) (k' := 1) (κ := κ₂)
    (hmem (nx c) false) rfl 1 (oweFirst 0 c) rfl (W := W)) $$ [Ho Ht' Hs2 Hs3]
  · isplitr; · iexact HI₂
    isplitl [Ho]; · iexact Ho
    isplitl [Ht']; · iexact Ht'
    isplitl [Hs2 Hs3]
    · rw [hpay]
      unfold barPay
      rw [if_neg (by decide), show dst 2 (nx c) = c from pv_nx c, show dst 3 (nx c) = c from pv_nx c]
      isplitl [Hs2] <;> iassumption
    · iexact Hr₂
  iintro Ho
  ihave HM := (ctx_wait xs ws c (.reg barS) 1 (by decide) (above_first 1 0 (by omega) (by omega) c)) $$ HC
  iapply (wp_wait_rest_token 𝒱₀ ER (rd xs ws) (c : Thread nD τ) none (κ := κ₃)
    (wpE_semWait_eq (defs := defs₀ (F := F)) 𝒱₀ (c : Thread nD τ) none Set.univ (sem := barS) (k := 2))
    (Set.mem_univ _) 1 (O := oweFirst 0 c) (W := W) (R := 0) (m := 0) (T := ∅) (by rw [Nat.zero_add, expect_bar xs ws c])) $$ [Hcr Ho HM Hat]
  · isplitr; · iexact HI₃
    isplitl [Hcr]; · iexact Hcr
    isplitl [Ho]; · iexact Ho
    isplitl [HM] <;> iassumption
  iintro ⟨Ho, Hat, -, Hp⟩
  ihave Hp := (Entails.of_eq (rest_bar xs ws c)) $$ Hp
  unfold barPay
  rw [if_neg (by decide), if_pos rfl]
  icases Hp with ⟨⟨H2, H3⟩, H0, H1⟩
  iapply (ret_intro c ⟨⟩ Q)
  iapply Hk
  isplitl [Ho]; · iexists _; iexact Ho
  isplitl [Hat]; · iexact Hat
  isplitl [H0]; · iexact H0
  isplitl [H2]; · iexact H2
  isplitl [H1] <;> iassumption

/-! ## The first messages -/

/-- The two tokens of a ring's first message. -/
def FirstT (r : Fin 4) (c : Dev nD) : sProp 𝕄 := iprop(dutyTok ER (gS r 0 c) 0 false ∗ dutyTok ER (gR r 1 (dst r c)) 0 false)

theorem first_step {Q : PUnit → sProp 𝕄} (r : Fin 4) (c : Dev nD) {C : Memref sig .tc .vmem S2x256x1024 .f32} (hC : C = cM r)
    {oN oO : Fin 3 → ℕ} (hN : SlotIn oN) (hO : SlotIn oO) {oR oS : Fin 2 → ℕ} (hR : CellIn oR) (hS : CellIn oS)
    (eN : oN = ![0 % 2, 0, 0]) (eO : oO = ![(0 + 1) % 2, 0, 0]) (eR : oR = ![r.val, (0 + 1) % 2]) (eS : oS = ![r.val, 0 % 2])
    {dn : Dev nD} (en : dn = dst r c) {ox ow' : Fin 2 → ℕ} (hx : RowsIn ox) (ex : ox = ![256 * c.val, 0]) (hw : ColsIn ow') (ew : ow' = ![0, 1024 * r.val])
    (pay : Vec F S256x256 .f32 → Vec F S256x1024 .f32 → Vec F S1x256x1024 .f32) (hpay : ∀ x w, flat (pay x w) = k0_pay2 x w) :
    iprop(Ctx xs ws ∗ ow c (oweFirst (place r) c) ∗ stg xs ws c ∗ slotAny r 0 c ∗ slotAny r 1 (dst r c) ∗ FirstT r c)
      ⊢ iprop(((ow c (oweFirst (place r + 1) c) ∗ stg xs ws c ∗ cred (tallyAt (gS r 0 c) 0 (NN r))) -∗ Q ⟨⟩)
        -∗ wpr c (firstStep C oN hN oO hO oR hR oS hS dn ox hx ow' hw pay) Q) := by
  subst hC eN eO eR eS en ex ew
  have hring : ring (place r) = r := by have := ring_place r 0; rwa [Nat.mul_zero, Nat.zero_add] at this
  have hm : msgItem (place r) c = tallyAt (gR r (0 + 1) (dst r c)) (2 + 2 * place r) (NN r) := by
    have := place_lt r
    unfold msgItem; rw [hring, show place r / 4 = 0 by omega]
  unfold firstStep FirstT
  rw [oweFirst_step _ (place_lt r), hm]
  iintro ⟨#HC, Ho, Hst, Hs, Hd, HtS, HtR⟩ Hk
  iapply (bind_intro c _ _ Q)
  iapply (start_seg xs ws r c c 0 hN hx hw pay hpay) $$ [Hst Hs]
  · isplitl [Hst] <;> iassumption
  iintro ⟨Hst, Hs⟩
  ihave HrS := (ctx_reached xs ws c (mem_S r 0)) $$ HC
  ihave HrR := (ctx_reached xs ws (dst r c) (mem_R r (0 + 1))) $$ HC
  ihave HrC := (ctx_reached xs ws c (mem_C r)) $$ HC
  iapply (send_seg xs ws r 0 (by decide) c (2 + 2 * place r) (oweFirst (place r + 1) c) hN hO hR hS) $$ [Ho Hs Hd HtS HrS HtR HrR HrC]
  · isplitr; · iexact HC
    isplitl [Ho]; · iexact Ho
    isplitl [Hs]; · iexact Hs
    isplitl [Hd]; · iexact Hd
    isplitl [HtS]; · iexact HtS
    isplitl [HrS]; · iexact HrS
    isplitl [HtR]; · iexact HtR
    isplitl [HrR] <;> iassumption
  iintro ⟨Hc, Ho⟩
  iapply Hk
  isplitl [Ho]; · iexact Ho
  isplitl [Hst] <;> iassumption

theorem firsts_wp {Q : PUnit → sProp 𝕄} (c : Dev nD) :
    iprop(Ctx xs ws ∗ ow c (oweFirst 0 c) ∗ stg xs ws c ∗ four (fun r => slotAny r 0 c) ∗ four (fun r => slotAny r 1 (dst r c)) ∗ four (fun r => FirstT r c))
      ⊢ iprop(((ow c (owe (4 * 0 + place 0) c) ∗ stg xs ws c ∗ four (fun r => cred (tallyAt (gS r 0 c) 0 (NN r)))) -∗ Q ⟨⟩) -∗ wpr c (firsts c) Q) := by
  unfold firsts four
  iintro ⟨#HC, Ho, Hst, ⟨HS0, HS2, HS1, HS3⟩, ⟨HD0, HD2, HD1, HD3⟩, ⟨HT0, HT2, HT1, HT3⟩⟩ Hk
  iapply (bind_intro c _ _ Q)
  iapply (first_step xs ws 0 c rfl _ _ _ _ rfl rfl rfl rfl (dev3 c) _ (off1 c) _ rfl _ flat_first0) $$ [Ho Hst HS0 HD0 HT0]
  · isplitr; · iexact HC
    isplitl [Ho]; · iexact Ho
    isplitl [Hst]; · iexact Hst
    isplitl [HS0]; · iexact HS0
    isplitl [HD0] <;> iassumption
  iintro ⟨Ho, Hst, HT0⟩
  iapply (bind_intro c _ _ Q)
  iapply (first_step xs ws 2 c rfl _ _ _ _ rfl rfl rfl rfl (dev4 c) _ (off1 c) _ rfl _ flat_first2) $$ [Ho Hst HS2 HD2 HT2]
  · isplitr; · iexact HC
    isplitl [Ho]; · iexact Ho
    isplitl [Hst]; · iexact Hst
    isplitl [HS2]; · iexact HS2
    isplitl [HD2] <;> iassumption
  iintro ⟨Ho, Hst, HT2⟩
  iapply (bind_intro c _ _ Q)
  iapply (first_step xs ws 1 c rfl _ _ _ _ rfl rfl rfl rfl (dev5 c) _ (off1 c) _ rfl _ flat_first1) $$ [Ho Hst HS1 HD1 HT1]
  · isplitr; · iexact HC
    isplitl [Ho]; · iexact Ho
    isplitl [Hst]; · iexact Hst
    isplitl [HS1]; · iexact HS1
    isplitl [HD1] <;> iassumption
  iintro ⟨Ho, Hst, HT1⟩
  iapply (first_step xs ws 3 c rfl _ _ _ _ rfl rfl rfl rfl (dev6 c) _ (off1 c) _ rfl _ flat_first3) $$ [Ho Hst HS3 HD3 HT3]
  · isplitr; · iexact HC
    isplitl [Ho]; · iexact Ho
    isplitl [Hst]; · iexact Hst
    isplitl [HS3]; · iexact HS3
    isplitl [HD3] <;> iassumption
  iintro ⟨Ho, Hst, HT3⟩
  iapply Hk
  isplitl [Ho]; · iapply (Entails.of_eq (show ow (F := F) c (oweFirst (place 3 + 1) c) = ow c (owe (4 * 0 + place 0) c) from congrArg (ow (F := F) c) (oweFirst_end c))) $$ Ho
  isplitl [Hst]; · iexact Hst
  isplitl [HT0]; · iexact HT0
  isplitl [HT2]; · iexact HT2
  isplitl [HT1] <;> iassumption

theorem acc_step {Q : PUnit → sProp 𝕄} (r : Fin 4) (c : Dev nD) {A : Memref sig .tc .vmem S256x1024 .f32} (hA : A = aM r) (b : D32)
    {ox ow' : Fin 2 → ℕ} (hx : RowsIn ox) (ex : ox = ![256 * b.val, 0]) (hw : ColsIn ow') (ew : ow' = ![0, 1024 * r.val])
    (pay : Vec F S256x256 .f32 → Vec F S256x1024 .f32 → Vec F S256x1024 .f32) (hpay : ∀ x w, pay x w = k0_pay2 x w) :
    iprop(stg xs ws c ∗ accAny r c)
      ⊢ iprop(((stg xs ws c ∗ accHas r c (P xs ws r b c)) -∗ Q ⟨⟩) -∗ wpr c (accSeg A ox hx ow' hw pay) Q) := by
  subst hA ex ew
  exact acc_seg xs ws r b c hx hw pay hpay

theorem accs_wp {Q : PUnit → sProp 𝕄} (c : Dev nD) :
    iprop(stg xs ws c ∗ four (fun r => accAny r c))
      ⊢ iprop(((stg xs ws c ∗ four (fun r => accHas r c (P xs ws r (row r 0 c) c))) -∗ Q ⟨⟩) -∗ wpr c (accs c) Q) := by
  unfold accs four
  iintro ⟨Hst, ⟨HS0, HS2, HS1, HS3⟩⟩ Hk
  iapply (bind_intro c _ _ Q)
  iapply (acc_step xs ws 0 c rfl (row 0 0 c) _ (off2 0 (by decide) c) _ rfl _ acc13) $$ [Hst HS0]
  · isplitl [Hst] <;> iassumption
  iintro ⟨Hst, HS0⟩
  iapply (bind_intro c _ _ Q)
  iapply (acc_step xs ws 2 c rfl (row 2 0 c) _ (off3 2 (by decide) c) _ rfl _ acc14) $$ [Hst HS2]
  · isplitl [Hst] <;> iassumption
  iintro ⟨Hst, HS2⟩
  iapply (bind_intro c _ _ Q)
  iapply (acc_step xs ws 1 c rfl (row 1 0 c) _ (off2 1 (by decide) c) _ rfl _ acc16) $$ [Hst HS1]
  · isplitl [Hst] <;> iassumption
  iintro ⟨Hst, HS1⟩
  iapply (acc_step xs ws 3 c rfl (row 3 0 c) _ (off3 3 (by decide) c) _ rfl _ acc17) $$ [Hst HS3]
  · isplitl [Hst] <;> iassumption
  iintro ⟨Hst, HS3⟩
  iapply Hk
  isplitl [Hst]; · iexact Hst
  isplitl [HS0]; · iexact HS0
  isplitl [HS2]; · iexact HS2
  isplitl [HS1] <;> iassumption

/-! ## The last steps -/

/-- The positions of a ring's cells when all is done, and its old slot. -/
def End (r : Fin 4) (c : Dev nD) : sProp 𝕄 :=
  iprop(atPos ER (gR r (61 + 1) c) 31 ∅ 0 ∗ atPos ER (gR r 61 c) 31 ∅ 0 ∗ atPos ER (gS r 61 c) 31 ∅ 0 ∗ atPos ER (gS r (61 + 1) c) 31 ∅ 0
    ∗ atPos ER (gC r c) 61 ∅ 0 ∗ slotAny r 61 c)
/-- A ring when its last message has arrived. -/
def Got (r : Fin 4) (c : Dev nD) : sProp 𝕄 :=
  iprop(slotHas r (61 + 1) c (M xs ws r (61 + 1) c) ∗ atPos ER (gR r (61 + 1) c) 31 ∅ 0 ∗ atPos ER (gR r 61 c) 31 ∅ 0
    ∗ atPos ER (gS r 61 c) 30 ∅ 0 ∗ atPos ER (gS r (61 + 1) c) 31 ∅ 0 ∗ atPos ER (gC r c) 61 ∅ 0 ∗ cred (tallyAt (gS r 61 c) 0 (NN r)))

/-- The credit of a ring's last message. -/
def LastC (r : Fin 4) (c : Dev nD) : sProp 𝕄 := cred (tallyAt (gR r (61 + 1) c) (2 + 2 * (4 * 61 + place r)) (NN r))

section Lasts

variable (r : Fin 4) (c : Dev nD) {C : Memref sig .tc .vmem S2x256x1024 .f32} (hC : C = cM r)
  {oN oO : Fin 3 → ℕ} (hN : SlotIn oN) (hO : SlotIn oO) (eN : oN = ![(61 + 1) % 2, 0, 0]) (eO : oO = ![61 % 2, 0, 0])

include hC eN eO in
theorem fin_recv {Q : PUnit → sProp 𝕄} {oR : Fin 2 → ℕ} (hR : CellIn oR) (eR : oR = ![r.val, (61 + 1) % 2]) :
    iprop(Ctx xs ws ∗ ow c 0 ∗ Rs r 61 c ∗ LastC r c)
      ⊢ iprop(((ow c 0 ∗ Got xs ws r c) -∗ Q ⟨⟩) -∗ wpr c (recvWait C oN hN oO hO oR hR) Q) := by
  subst hC eN eO eR
  have hp := place_lt r
  unfold Rs St LastC Got
  iintro ⟨#HC, Ho, ⟨⟨⟨HaR, HaR', -⟩, ⟨HaS, HaS', -⟩, HaC⟩, Hcs⟩, Hcr⟩ Hk
  iapply (recv_seg xs ws r 61 (by decide) c (2 + 2 * (4 * 61 + place r)) (by omega) (Above.zero _) hN hO hR) $$ [Hcr Ho HaR]
  · isplitr; · iexact HC
    isplitl [Hcr]; · iexact Hcr
    isplitl [Ho] <;> iassumption
  iintro ⟨Ho, HaR, -, Hsl, -⟩
  iapply Hk
  isplitl [Ho]; · iexact Ho
  isplitl [Hsl]; · iapply (Entails.of_eq (congrArg (slotHas r (61 + 1) c) (M_gt xs ws r 61 (by decide) c).symm)) $$ Hsl
  isplitl [HaR]; · iexact HaR
  isplitl [HaR']; · iexact HaR'
  isplitl [HaS]; · iexact HaS
  isplitl [HaS']; · iexact HaS'
  isplitl [HaC] <;> iassumption

include hC eN eO in
theorem fin_send {Q : PUnit → sProp 𝕄} {oS : Fin 2 → ℕ} (hS : CellIn oS) (eS : oS = ![r.val, 61 % 2]) :
    iprop(Ctx xs ws ∗ ow c 0 ∗ Got xs ws r c)
      ⊢ iprop(((ow c 0 ∗ slotHas r (61 + 1) c (M xs ws r (61 + 1) c) ∗ End r c) -∗ Q ⟨⟩) -∗ wpr c (sendWait C oN hN oO hO oS hS) Q) := by
  subst hC eN eO eS
  unfold Got End
  iintro ⟨#HC, Ho, Hsl, HaR, HaR', HaS, HaS', HaC, Hcs⟩ Hk
  iapply (send_wait xs ws r 61 (by decide) c (Above.zero _) hN hO hS) $$ [Hcs Ho HaS]
  · isplitr; · iexact HC
    isplitl [Hcs]; · iexact Hcs
    isplitl [Ho] <;> iassumption
  iintro ⟨Ho, HaS, -, Hany⟩
  iapply Hk
  isplitl [Ho]; · iexact Ho
  isplitl [Hsl]; · iexact Hsl
  isplitl [HaR]; · iexact HaR
  isplitl [HaR']; · iexact HaR'
  isplitl [HaS]; · iexact HaS
  isplitl [HaS']; · iexact HaS'
  isplitl [HaC] <;> iassumption

include hC eN in
theorem fin_out {Q : PUnit → sProp 𝕄} {oT : Fin 2 → ℕ} (hT : OutIn oT) (eT : oT = ![256 * (row r 61 c).val, 1024 * r.val]) :
    iprop(Ctx xs ws ∗ ow c 0 ∗ slotHas r (61 + 1) c (M xs ws r (61 + 1) c) ∗ OutAt (4 * (61 - 30) + place r) c ∗ OutB r 61 c)
      ⊢ iprop(((ow c 0 ∗ slotAny r (61 + 1) c ∗ OutAt (4 * (61 - 30) + place r + 1) c ∗ OutD xs ws r 61 c) -∗ Q ⟨⟩) -∗ wpr c (outSeg C oN hN oT hT) Q) := by
  subst hC eN eT
  unfold OutAt OutB OutD
  iintro ⟨#HC, Ho, Hsl, ⟨Hat, Hr⟩, Ht, Hd⟩ Hk
  iapply (out_seg xs ws r 61 (by decide) (by decide) c (Above.zero _) hN hT) $$ [Hsl Hd Ht Hr Ho Hat]
  · isplitr; · iexact HC
    isplitl [Hsl]; · iexact Hsl
    isplitl [Hd]; · iexact Hd
    isplitl [Ht]; · iexact Ht
    isplitl [Hr]; · iexact Hr
    isplitl [Ho] <;> iassumption
  unfold outPay
  iintro ⟨Ho, Hat, Hr, Hd, Hsl⟩
  iapply Hk
  isplitl [Ho]; · iexact Ho
  isplitl [Hsl]; · iapply (slotHas_any (F := F) r (61 + 1) c (M xs ws r (61 + 1) c)) $$ Hsl
  isplitl [Hat Hr]; · isplitl [Hat] <;> iassumption
  iexact Hd

include hC eN in
theorem fin_start {Q : PUnit → sProp 𝕄} {oT : Fin 2 → ℕ} (hT : OutIn oT) (eT : oT = ![256 * (row r 61 c).val, 1024 * r.val]) :
    iprop(Ctx xs ws ∗ slotHas r (61 + 1) c (M xs ws r (61 + 1) c) ∗ OutAt (4 * (61 - 30) + place r) c ∗ OutB r 61 c)
      ⊢ iprop(((cred (tallyAt (gO c) 0 NO) ∗ atPos ER (gO c) (4 * (61 - 30) + place r) ∅ 0) -∗ Q ⟨⟩) -∗ wpr c (outStart C oN hN oT hT) Q) := by
  subst hC eN eT
  unfold OutAt OutB
  iintro ⟨#HC, Hsl, ⟨Hat, Hr⟩, Ht, Hd⟩ Hk
  iapply (out_start xs ws r 61 (by decide) (by decide) c hN hT) $$ [Hsl Hd Ht Hr]
  · isplitr; · iexact HC
    isplitl [Hsl]; · iexact Hsl
    isplitl [Hd]; · iexact Hd
    isplitl [Ht] <;> iassumption
  iintro Hc
  iapply Hk
  isplitl [Hc] <;> iassumption

include hC eN in
theorem fin_wait {Q : PUnit → sProp 𝕄} {oT : Fin 2 → ℕ} (hT : OutIn oT) (eT : oT = ![256 * (row r 61 c).val, 1024 * r.val]) :
    iprop(Ctx xs ws ∗ ow c 0 ∗ cred (tallyAt (gO c) 0 NO) ∗ atPos ER (gO c) (4 * (61 - 30) + place r) ∅ 0)
      ⊢ iprop(((ow c 0 ∗ slotAny r (61 + 1) c ∗ atPos ER (gO c) (4 * (61 - 30) + place r + 1) ∅ 0 ∗ OutD xs ws r 61 c) -∗ Q ⟨⟩) -∗ wpr c (outWait C oN hN oT hT) Q) := by
  subst hC eN eT
  unfold OutD
  iintro ⟨#HC, Ho, Hc, Hat⟩ Hk
  iapply (out_wait xs ws r 61 (by decide) (by decide) c (Above.zero _) hN hT) $$ [Ho Hc Hat]
  · isplitr; · iexact HC
    isplitl [Hc]; · iexact Hc
    isplitl [Ho] <;> iassumption
  unfold outPay
  iintro ⟨Ho, Hat, -, Hd, Hsl⟩
  iapply Hk
  isplitl [Ho]; · iexact Ho
  isplitl [Hsl]; · iapply (slotHas_any (F := F) r (61 + 1) c (M xs ws r (61 + 1) c)) $$ Hsl
  isplitl [Hat] <;> iassumption

include hC eN eO in
theorem fin_step {Q : PUnit → sProp 𝕄} {oR oS : Fin 2 → ℕ} (hR : CellIn oR) (eR : oR = ![r.val, (61 + 1) % 2]) (hS : CellIn oS) (eS : oS = ![r.val, 61 % 2])
    {oT : Fin 2 → ℕ} (hT : OutIn oT) (eT : oT = ![256 * (row r 61 c).val, 1024 * r.val]) :
    iprop(Ctx xs ws ∗ ow c 0 ∗ Rs r 61 c ∗ LastC r c ∗ OutAt (4 * (61 - 30) + place r) c ∗ OutB r 61 c)
      ⊢ iprop(((ow c 0 ∗ End r c ∗ slotAny r (61 + 1) c ∗ OutAt (4 * (61 - 30) + place r + 1) c ∗ OutD xs ws r 61 c) -∗ Q ⟨⟩)
        -∗ wpr c (lastStep C oN hN oO hO oR hR oS hS oT hT) Q) := by
  unfold lastStep
  iintro ⟨#HC, Ho, HR, Hl, HO, HU⟩ Hk
  iapply (bind_intro c _ _ Q)
  iapply (fin_recv xs ws r c hC hN hO eN eO hR eR) $$ [Ho HR Hl]
  · isplitr; · iexact HC
    isplitl [Ho]; · iexact Ho
    isplitl [HR] <;> iassumption
  iintro ⟨Ho, HG⟩
  iapply (bind_intro c _ _ Q)
  iapply (fin_send xs ws r c hC hN hO eN eO hS eS) $$ [Ho HG]
  · isplitr; · iexact HC
    isplitl [Ho] <;> iassumption
  iintro ⟨Ho, Hsl, HE⟩
  iapply (fin_out xs ws r c hC hN eN hT eT) $$ [Ho Hsl HO HU]
  · isplitr; · iexact HC
    isplitl [Ho]; · iexact Ho
    isplitl [Hsl]; · iexact Hsl
    isplitl [HO] <;> iassumption
  iintro ⟨Ho, Hsl, HO, HD⟩
  iapply Hk
  isplitl [Ho]; · iexact Ho
  isplitl [HE]; · iexact HE
  isplitl [Hsl]; · iexact Hsl
  isplitl [HO] <;> iassumption

end Lasts

theorem lasts_wp {Q : PUnit → sProp 𝕄} (c : Dev nD) :
    iprop(Ctx xs ws ∗ ow c 0 ∗ OutAt (4 * (61 - 30) + place 0) c ∗ (Got xs ws 0 c ∗ Rs 2 61 c ∗ Rs 1 61 c ∗ Rs 3 61 c) ∗ (LastC 2 c ∗ LastC 1 c ∗ LastC 3 c)
        ∗ four (fun r => OutB r 61 c))
      ⊢ iprop(((ow c 0 ∗ (cred (tallyAt (gO c) 0 NO) ∗ atPos ER (gO c) (4 * (61 - 30) + place 3) ∅ 0) ∗ four (fun r => End r c)
            ∗ (slotAny 0 (61 + 1) c ∗ slotAny 2 (61 + 1) c ∗ slotAny 1 (61 + 1) c)
            ∗ (OutD xs ws 0 61 c ∗ OutD xs ws 2 61 c ∗ OutD xs ws 1 61 c)) -∗ Q ⟨⟩) -∗ wpr c (lasts c) Q) := by
  obtain ⟨m0, m1, m2, -⟩ := next_place (61 - 30)
  unfold lasts four
  iintro ⟨#HC, Ho, HO, ⟨HR0, HR2, HR1, HR3⟩, ⟨HL2, HL1, HL3⟩, ⟨HU0, HU2, HU1, HU3⟩⟩ Hk
  iapply (bind_intro c _ _ Q)
  iapply (fin_send xs ws 0 c rfl _ _ rfl rfl _ rfl) $$ [Ho HR0]
  · isplitr; · iexact HC
    isplitl [Ho] <;> iassumption
  iintro ⟨Ho, Hsl, HE0⟩
  iapply (bind_intro c _ _ Q)
  iapply (fin_out xs ws 0 c rfl _ rfl _ (off17b c)) $$ [Ho Hsl HO HU0]
  · isplitr; · iexact HC
    isplitl [Ho]; · iexact Ho
    isplitl [Hsl]; · iexact Hsl
    isplitl [HO] <;> iassumption
  iintro ⟨Ho, Hsl0, HO, HD0⟩
  rw [m0]
  iapply (bind_intro c _ _ Q)
  iapply (fin_step xs ws 2 c rfl _ _ rfl rfl _ rfl _ rfl _ (off18b c)) $$ [Ho HR2 HL2 HO HU2]
  · isplitr; · iexact HC
    isplitl [Ho]; · iexact Ho
    isplitl [HR2]; · iexact HR2
    isplitl [HL2]; · iexact HL2
    isplitl [HO] <;> iassumption
  iintro ⟨Ho, HE2, Hsl2, HO, HD2⟩
  rw [m1]
  iapply (bind_intro c _ _ Q)
  iapply (fin_step xs ws 1 c rfl _ _ rfl rfl _ rfl _ rfl _ (off19b c)) $$ [Ho HR1 HL1 HO HU1]
  · isplitr; · iexact HC
    isplitl [Ho]; · iexact Ho
    isplitl [HR1]; · iexact HR1
    isplitl [HL1]; · iexact HL1
    isplitl [HO] <;> iassumption
  iintro ⟨Ho, HE1, Hsl1, HO, HD1⟩
  rw [m2]
  iapply (bind_intro c _ _ Q)
  iapply (fin_recv xs ws 3 c rfl _ _ rfl rfl _ rfl) $$ [Ho HR3 HL3]
  · isplitr; · iexact HC
    isplitl [Ho]; · iexact Ho
    isplitl [HR3] <;> iassumption
  iintro ⟨Ho, HG⟩
  iapply (bind_intro c _ _ Q)
  iapply (fin_send xs ws 3 c rfl _ _ rfl rfl _ rfl) $$ [Ho HG]
  · isplitr; · iexact HC
    isplitl [Ho] <;> iassumption
  iintro ⟨Ho, Hsl, HE3⟩
  iapply (fin_start xs ws 3 c rfl _ rfl _ (off20b c)) $$ [Hsl HO HU3]
  · isplitr; · iexact HC
    isplitl [Hsl]; · iexact Hsl
    isplitl [HO] <;> iassumption
  iintro ⟨Hc, Hat⟩
  iapply Hk
  isplitl [Ho]; · iexact Ho
  isplitl [Hc Hat]; · isplitl [Hc] <;> iassumption
  isplitl [HE0 HE2 HE1 HE3]
  · isplitl [HE0]; · iexact HE0
    isplitl [HE2]; · iexact HE2
    isplitl [HE1] <;> iassumption
  isplitl [Hsl0 Hsl2 Hsl1]
  · isplitl [Hsl0]; · iexact Hsl0
    isplitl [Hsl2] <;> iassumption
  isplitl [HD0]; · iexact HD0
  isplitl [HD2] <;> iassumption

/-! ## The body -/

theorem dev_intro (c : Dev nD) (Q : Dev nD → sProp 𝕄) : Q c ⊢ wpr c (Prog.lift .deviceId : PT F (Dev nD)) Q := by
  unfold wpr
  rw [Prog.lift, wp_op, wpE_deviceId_eq]
  iintro H
  iapply (ret_intro c c Q) $$ H

/-- What a device has of each ring at the start, and at the end. -/
def Beg (r : Fin 4) (c : Dev nD) : sProp 𝕄 :=
  iprop(atPos ER (gR r 1 c) 0 ∅ 0 ∗ atPos ER (gR r 0 c) 0 ∅ 0 ∗ atPos ER (gS r 0 c) 0 ∅ 0 ∗ atPos ER (gS r 1 c) 0 ∅ 0 ∗ atPos ER (gC r c) 0 ∅ 0)

/-- What a device starts its body with. -/
def bodyPre (c : Dev nD) : sProp 𝕄 :=
  iprop(ow c (O₀ c) ∗ stg xs ws c ∗ (dutyTok ER (gB (pv c)) 0 true ∗ dutyTok ER (gB (nx c)) 0 false) ∗ cred (tallyAt (gB c) 1 2)
    ∗ atPos ER (gB c) 0 ∅ 0 ∗ atPos ER (gO c) 0 ∅ 0 ∗ four (fun r => Beg r c) ∗ four (fun r => FirstT r c)
    ∗ bigSep (Finset.Ico 0 61) (fun s => four (fun r => Bun r s c)) ∗ four (fun r => LastC r c) ∗ bigSep (Finset.Ico 30 62) (fun s => four (fun r => OutB r s c))
    ∗ four (fun r => slotAny r 0 c) ∗ four (fun r => slotAny r 1 c) ∗ four (fun r => accAny r c))

/-- What it ends it with. -/
def bodyPost (c : Dev nD) : sProp 𝕄 :=
  iprop(ow c 0 ∗ stg xs ws c ∗ atPos ER (gB c) 1 ∅ 0 ∗ atPos ER (gO c) 128 ∅ 0 ∗ four (fun r => End r c) ∗ four (fun r => slotAny r (61 + 1) c) ∗ four (fun r => accAny r c)
    ∗ bigSep (Finset.Ico 30 62) (fun s => four (fun r => OutD xs ws r s c)))

/-- A ring before the first step. -/
theorem begin_ring (r : Fin 4) (c : Dev nD) :
    iprop(Ctx xs ws ∗ Beg r c ∗ cred (tallyAt (gS r 0 c) 0 (NN r)) ∗ accHas r c (P xs ws r (row r 0 c) c)) ⊢ Rs1 xs ws r 0 c := by
  unfold Beg Rs1 St
  iintro ⟨#HC, ⟨H1, H0, HS0, HS1, HaC⟩, Hc, Ha⟩
  ihave HrR := (ctx_reached xs ws c (mem_R r 0)) $$ HC
  ihave HrS := (ctx_reached xs ws c (mem_S r (0 + 1))) $$ HC
  isplitr [Hc Ha]
  · isplitl [H1 H0 HrR]
    · isplitl [H1]; · iexact H1
      isplitl [H0] <;> iassumption
    isplitl [HS0 HS1 HrS]
    · isplitl [HS0]; · iexact HS0
      isplitl [HS1] <;> iassumption
    iexact HaC
  isplitl [Hc] <;> iassumption

theorem whole_wp {Q : PUnit → sProp 𝕄} (c : Dev nD) :
    iprop(Ctx xs ws ∗ bodyPre xs ws c) ⊢ iprop((bodyPost xs ws c -∗ Q ⟨⟩) -∗ wpr c (whole (F := F)) Q) := by
  unfold whole upToLast bodyPre bodyPost
  rw [four_eq (fun r => LastC (F := F) r c)]
  iintro ⟨#HC, Ho, Hst, Hbt, Hbc, HaB, HaO, Hbeg, Hft, HBs, ⟨HL0, HL2, HL1, HL3⟩, HUs, Hs0, Hs1, Hacc⟩ Hk
  iapply (bind_intro c _ _ Q)
  iapply (bind_intro c _ _ _)
  iapply (dev_intro c _)
  iapply (bind_intro c _ _ _)
  iapply (bar_seg xs ws c) $$ [Ho Hbt Hbc HaB Hs1]
  · isplitr; · iexact HC
    isplitl [Ho]; · iexact Ho
    isplitl [Hbt]; · iexact Hbt
    isplitl [Hbc]; · iexact Hbc
    isplitl [HaB] <;> iassumption
  iintro ⟨Ho, HaB, Hs1⟩
  iapply (bind_intro c _ _ _)
  iapply (firsts_wp xs ws c) $$ [Ho Hst Hs0 Hs1 Hft]
  · isplitr; · iexact HC
    isplitl [Ho]; · iexact Ho
    isplitl [Hst]; · iexact Hst
    isplitl [Hs0]; · iexact Hs0
    isplitl [Hs1] <;> iassumption
  iintro ⟨Ho, Hst, Hcs⟩
  iapply (bind_intro c _ _ _)
  iapply (accs_wp xs ws c) $$ [Hst Hacc]
  · isplitl [Hst] <;> iassumption
  iintro ⟨Hst, Hacc⟩
  iapply (bind_intro c _ _ _)
  iapply (loop1_wp xs ws c) $$ [Ho Hst Hbeg Hcs Hacc HBs]
  · unfold I1
    isplitr; · iexact HC
    isplitl [Ho]; · iexact Ho
    isplitl [Hst]; · iexact Hst
    isplitl [Hbeg Hcs Hacc]
    · unfold four
      icases Hbeg with ⟨B0, B2, B1, B3⟩
      icases Hcs with ⟨C0, C2, C1, C3⟩
      icases Hacc with ⟨A0, A2, A1, A3⟩
      isplitl [B0 C0 A0]
      · iapply (begin_ring xs ws 0 c)
        isplitr; · iexact HC
        isplitl [B0]; · iexact B0
        isplitl [C0] <;> iassumption
      isplitl [B2 C2 A2]
      · iapply (begin_ring xs ws 2 c)
        isplitr; · iexact HC
        isplitl [B2]; · iexact B2
        isplitl [C2] <;> iassumption
      isplitl [B1 C1 A1]
      · iapply (begin_ring xs ws 1 c)
        isplitr; · iexact HC
        isplitl [B1]; · iexact B1
        isplitl [C1] <;> iassumption
      · iapply (begin_ring xs ws 3 c)
        isplitr; · iexact HC
        isplitl [B3]; · iexact B3
        isplitl [C3] <;> iassumption
    iexact HBs
  unfold I1
  iintro ⟨-, Ho, Hst, HR, HBs⟩
  ihave HrO := (ctx_reached xs ws c mem_O) $$ HC
  ihave HBs := (Entails.of_eq (first_of (show 30 < 61 by decide) (fun s => four (fun r => Bun (F := F) r s c)))) $$ HBs
  ihave HUs := (Entails.of_eq (first_of (show 30 < 62 by decide) (fun s => four (fun r => OutB (F := F) r s c)))) $$ HUs
  icases HBs with ⟨HB, HBs⟩
  icases HUs with ⟨HU, HUs⟩
  iapply (bind_intro c _ _ _)
  iapply (mids_wp xs ws c) $$ [Ho HaO HrO HR HB HU]
  · isplitr; · iexact HC
    isplitl [Ho]; · iexact Ho
    isplitl [HaO HrO]
    · unfold OutAt
      isplitl [HaO]; · iexact HaO
      iexact HrO
    isplitl [HR]; · iexact HR
    isplitl [HB] <;> iassumption
  iintro ⟨Ho, HO, HR, Hacc, HD⟩
  iapply (bind_intro c _ _ _)
  iapply (bind_intro c _ _ _)
  iapply (loop2_wp xs ws c) $$ [Ho HO HR HBs HUs HD]
  · unfold I2
    isplitr; · iexact HC
    isplitl [Ho]; · iexact Ho
    isplitl [HO]; · iexact HO
    isplitl [HR]; · iexact HR
    isplitl [HBs]; · iexact HBs
    isplitl [HUs]; · iexact HUs
    iapply (Entails.of_eq (last_of (le_refl 30) (fun s => four (fun r => OutD xs ws r s c))).symm)
    isplitl [HD]; · iexact HD
    iapply (Entails.of_eq (none_of (F := F) 30 _).symm)
    iempintro
  unfold I2
  iintro ⟨-, Ho, HO, HR, -, HUs, HDs⟩
  ihave Ho := (Entails.of_eq (congrArg (ow (F := F) c) (owe_end (4 * 61 + place 0) (by omega) c))) $$ Ho
  ihave HUs := (Entails.of_eq (first_of (show 61 < 62 by decide) (fun s => four (fun r => OutB (F := F) r s c)))) $$ HUs
  icases HUs with ⟨HU, -⟩
  ihave HR := (Entails.of_eq (show four (fun r => Rs (F := F) r 61 c) = iprop(Rs 0 61 c ∗ Rs 2 61 c ∗ Rs 1 61 c ∗ Rs 3 61 c) from rfl)) $$ HR
  icases HR with ⟨HR0, HR2, HR1, HR3⟩
  iapply (bind_intro c _ _ _)
  iapply (fin_recv xs ws 0 c rfl _ _ rfl rfl _ rfl) $$ [Ho HR0 HL0]
  · isplitr; · iexact HC
    isplitl [Ho]; · iexact Ho
    isplitl [HR0] <;> iassumption
  iintro ⟨Ho, HG⟩
  iapply (ret_intro c ⟨⟩ _)
  iapply (bind_intro c _ _ _)
  iapply (lasts_wp xs ws c) $$ [Ho HO HG HR2 HR1 HR3 HL2 HL1 HL3 HU]
  · isplitr; · iexact HC
    isplitl [Ho]; · iexact Ho
    isplitl [HO]; · iexact HO
    isplitl [HG HR2 HR1 HR3]
    · isplitl [HG]; · iexact HG
      isplitl [HR2]; · iexact HR2
      isplitl [HR1] <;> iassumption
    isplitl [HL2 HL1 HL3]
    · isplitl [HL2]; · iexact HL2
      isplitl [HL1] <;> iassumption
    iexact HU
  iintro ⟨Ho, ⟨Hc, HaO⟩, HE, ⟨S0, S2, S1⟩, ⟨D0, D2, D1⟩⟩
  iapply (ret_intro c c _)
  iapply (fin_wait xs ws 3 c rfl _ rfl _ (off20b c)) $$ [Ho Hc HaO]
  · isplitr; · iexact HC
    isplitl [Ho]; · iexact Ho
    isplitl [Hc] <;> iassumption
  iintro ⟨Ho, S3, HaO, D3⟩
  iapply Hk
  isplitl [Ho]; · iexact Ho
  isplitl [Hst]; · iexact Hst
  isplitl [HaB]; · iexact HaB
  isplitl [HaO]; · iexact HaO
  isplitl [HE]; · iexact HE
  isplitl [S0 S2 S1 S3]
  · unfold four
    isplitl [S0]; · iexact S0
    isplitl [S2]; · iexact S2
    isplitl [S1] <;> iassumption
  isplitl [Hacc]; · iexact Hacc
  iapply (Entails.of_eq (last_of (show 30 ≤ 61 by decide) (fun s => four (fun r => OutD xs ws r s c))).symm)
  isplitr [HDs]
  · unfold four
    isplitl [D0]; · iexact D0
    isplitl [D2]; · iexact D2
    isplitl [D1] <;> iassumption
  iexact HDs

end Cert.KernelIdeal.Ring
-- ==== Proof.KIShare.lean ====
/-
# What a device is dealt

The tokens with which a device pays, sorted by the steps that spend them; the credits for what the other devices owe to its
cells, sorted by the steps that wait for them; and its cells one by one.
-/
module

public import proofs.«01_k».proof.Proof.KIBody

@[expose] public section

noncomputable section

namespace Cert.KernelIdeal.Ring

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Sorting by step and ring -/

omit [FloatOps F] in
theorem both {A B : sProp 𝕄} (h : A ⊢ B) (h' : B ⊢ A) : A = B := equiv_iff.mp ⟨h, h'⟩
omit [FloatOps F] in
theorem assoc_eq (A B C : sProp 𝕄) : iprop((A ∗ B) ∗ C) = iprop(A ∗ B ∗ C) := both sep_assoc.1 sep_assoc.2

omit [FloatOps F] in
theorem four_sep (A B : Fin 4 → sProp 𝕄) : four (fun r => iprop(A r ∗ B r)) = iprop(four A ∗ four B) := by
  unfold four
  refine both ?_ ?_
  · iintro ⟨⟨A0, B0⟩, ⟨A2, B2⟩, ⟨A1, B1⟩, ⟨A3, B3⟩⟩
    isplitl [A0 A2 A1 A3]
    · isplitl [A0]; · iexact A0
      isplitl [A2]; · iexact A2
      isplitl [A1] <;> iassumption
    · isplitl [B0]; · iexact B0
      isplitl [B2]; · iexact B2
      isplitl [B1] <;> iassumption
  · iintro ⟨⟨A0, A2, A1, A3⟩, B0, B2, B1, B3⟩
    isplitl [A0 B0]; · isplitl [A0] <;> iassumption
    isplitl [A2 B2]; · isplitl [A2] <;> iassumption
    isplitl [A1 B1]; · isplitl [A1] <;> iassumption
    isplitl [A3] <;> iassumption

omit [FloatOps F] in
theorem four_mono {A B : Fin 4 → sProp 𝕄} (h : ∀ r, A r ⊢ B r) : four A ⊢ four B := by
  unfold four
  exact BIClass.sep_mono (h 0) (BIClass.sep_mono (h 2) (BIClass.sep_mono (h 1) (h 3)))

omit [FloatOps F] in
theorem univ_four (Φ : Fin 4 → sProp 𝕄) : bigSep Finset.univ Φ = four Φ := by
  rw [bigSep_univ_eq_bigSepL [0, 2, 1, 3] (by decide) (by decide)]; rfl

omit [FloatOps F] in
theorem shift_of (n m k : ℕ) (Φ : ℕ → sProp 𝕄) : bigSep (Finset.Ico (n + k) (m + k)) Φ = bigSep (Finset.Ico n m) (fun s => Φ (s + k)) := by
  have e : Finset.Ico (n + k) (m + k) = (Finset.Ico n m).map ⟨fun s => s + k, fun a b h => Nat.add_right_cancel h⟩ := by
    ext i
    simp only [Finset.mem_map, Finset.mem_Ico, Function.Embedding.coeFn_mk]
    refine ⟨fun h => ⟨i - k, by omega, by show i - k + k = i; omega⟩, ?_⟩
    rintro ⟨j, h, rfl⟩
    show n + k ≤ j + k ∧ j + k < m + k
    omega
  rw [e, BI.bigSep_map]; rfl

omit [FloatOps F] in
theorem range_of (n : ℕ) (Φ : ℕ → sProp 𝕄) : bigSep Finset.univ (fun s : Fin n => Φ s.val) = bigSep (Finset.Ico 0 n) Φ := by
  have e : Finset.Ico 0 n = (Finset.univ : Finset (Fin n)).map Fin.valEmbedding := by
    ext i
    simp only [Finset.mem_map, Finset.mem_Ico, Finset.mem_univ, true_and]
    exact ⟨fun h => ⟨⟨i, h.2⟩, rfl⟩, by rintro ⟨j, rfl⟩; exact ⟨Nat.zero_le _, j.isLt⟩⟩
  rw [e, BI.bigSep_map]; rfl

omit [FloatOps F] in
theorem range_four (n : ℕ) (Φ : ℕ → Fin 4 → sProp 𝕄) :
    bigSep Finset.univ (fun x : Fin n × Fin 4 => Φ x.1.val x.2) = bigSep (Finset.Ico 0 n) (fun s => four (Φ s)) := by
  rw [BI.bigSep_univ_prod, ← range_of n fun s => four (Φ s)]
  exact bigSep_congr fun s _ => univ_four _

omit [FloatOps F] in
theorem by_ring (n : ℕ) (f : ℕ → sProp 𝕄) :
    bigSep (Finset.Ico 0 (4 * n)) f = bigSep (Finset.Ico 0 n) (fun s => four (fun r => f (4 * s + place r))) := by
  induction n with
  | zero => rfl
  | succ n ih =>
    rw [last_of (Nat.zero_le n), ← ih, show 4 * (n + 1) = 4 * n + 1 + 1 + 1 + 1 by omega, last_of (Nat.zero_le _), last_of (Nat.zero_le _),
      last_of (Nat.zero_le _), last_of (Nat.zero_le _)]
    show iprop(f (4 * n + 3) ∗ f (4 * n + 2) ∗ f (4 * n + 1) ∗ f (4 * n) ∗ bigSep (Finset.Ico 0 (4 * n)) f)
      = iprop((f (4 * n) ∗ f (4 * n + 1) ∗ f (4 * n + 2) ∗ f (4 * n + 3)) ∗ bigSep (Finset.Ico 0 (4 * n)) f)
    refine both ?_ ?_
    · iintro ⟨H3, H2, H1, H0, H⟩
      isplitr [H]
      · isplitl [H0]; · iexact H0
        isplitl [H1]; · iexact H1
        isplitl [H2] <;> iassumption
      · iexact H
    · iintro ⟨⟨H0, H1, H2, H3⟩, H⟩
      isplitl [H3]; · iexact H3
      isplitl [H2]; · iexact H2
      isplitl [H1]; · iexact H1
      isplitl [H0] <;> iassumption

/-! ## The cells -/

/-- The cells of a device's own: the four leaves, the sixteen of the messages, the one of the copies, and the barrier's. -/
def csem (k : Fin 22) : SemLoc sig :=
  if h : k.val < 4 then .reg ⟨k.val, by show _ < 5; omega⟩
  else if h' : k.val < 21 then .dma ⟨k.val - 2, by show _ < 19; omega⟩
  else .reg barS
def osem (k : Fin 21) : SemLoc sig := csem k.castSucc

theorem csem_inj : Function.Injective csem := by decide +kernel
theorem sems_eq : sems = Finset.univ.map ⟨csem, csem_inj⟩ := by decide +kernel

omit [FloatOps F] in
theorem sems_csem (Φ : SemLoc sig → sProp 𝕄) : bigSep sems Φ = bigSep Finset.univ (fun k => Φ (csem k)) := by
  rw [sems_eq, BI.bigSep_map]; rfl

omit [FloatOps F] in
/-- A device's cells one by one. -/
theorem sems_list (Φ : SemLoc sig → sProp 𝕄) :
    bigSep sems Φ = iprop(four (fun r => iprop(Φ (.dma (recvS r 1)) ∗ Φ (.dma (recvS r 0)) ∗ Φ (.dma (sendS r 0)) ∗ Φ (.dma (sendS r 1)) ∗ Φ (.reg (credS r))))
      ∗ Φ (.dma outS) ∗ Φ (.reg barS)) := by
  rw [sems_csem, bigSep_univ_eq_bigSepL [13, 12, 4, 5, 0, 17, 16, 8, 9, 2, 15, 14, 6, 7, 1, 19, 18, 10, 11, 3, 20, 21] (by decide) (by decide)]
  unfold four
  simp only [assoc_eq]
  rfl

/-! ## The tokens -/

/-- What a device pays: the sends, the arrivals, the leaves, the copies and the barrier. -/
abbrev J : Type := (Fin 62 × Fin 4) ⊕ (Fin 62 × Fin 4) ⊕ (Fin 61 × Fin 4) ⊕ (Fin 32 × Fin 4) ⊕ Bool

def tokOf (c : Dev nD) (j : J) : GSem nD τ sig × ℕ × Bool :=
  match j with
  | .inl x => (gS x.2 x.1.val c, x.1.val / 2, false)
  | .inr (.inl x) => (gR x.2 (x.1.val + 1) (dst x.2 c), x.1.val / 2, false)
  | .inr (.inr (.inl x)) => (gC x.2 (ups x.2 c), x.1.val, false)
  | .inr (.inr (.inr (.inl x))) => (gO c, 4 * x.1.val + place x.2, false)
  | .inr (.inr (.inr (.inr b))) => (gB (if b then pv c else nx c), 0, b)

def code (sm : SemLoc sig) : ℕ := match sm with | .dma q => q.val | .reg q => 100 + q.val

theorem place_inj {r r' : Fin 4} (h : place r = place r') : r = r' := by revert r r'; decide

theorem tokOf_inj : Function.Injective fun x : Dev nD × J => tokOf x.1 x.2 := by
  rintro ⟨c, j⟩ ⟨c', j'⟩ h
  have hd : (tokOf c j).1.1.1 = (tokOf c' j').1.1.1 := congrArg (fun x => x.1.1.1) h
  have hs : code (tokOf c j).1.2 = code (tokOf c' j').1.2 := congrArg (fun x => code x.1.2) h
  have hk : (tokOf c j).2.1 = (tokOf c' j').2.1 := congrArg (fun x => x.2.1) h
  have hb : (tokOf c j).2.2 = (tokOf c' j').2.2 := congrArg (fun x => x.2.2) h
  clear h
  rcases j with ⟨m, r⟩ | ⟨m, r⟩ | ⟨m, r⟩ | ⟨m, r⟩ | b <;> rcases j' with ⟨m', r'⟩ | ⟨m', r'⟩ | ⟨m', r'⟩ | ⟨m', r'⟩ | b' <;>
    simp only [tokOf, code, sendS, recvS, credS, outS, barS_val] at hd hs hk hb
  all_goals try omega
  · obtain rfl : c = c' := hd
    obtain rfl : r = r' := Fin.ext (by omega)
    obtain rfl : m = m' := Fin.ext (by omega)
    rfl
  · obtain rfl : r = r' := Fin.ext (by omega)
    obtain rfl : c = c' := (dstE r).injective hd
    obtain rfl : m = m' := Fin.ext (by omega)
    rfl
  · obtain rfl : r = r' := Fin.ext (by omega)
    obtain rfl : c = c' := (upsE r).injective hd
    obtain rfl : m = m' := Fin.ext hk
    rfl
  · have hp := place_lt r
    have hp' := place_lt r'
    obtain rfl : c = c' := hd
    obtain rfl : r = r' := place_inj (by omega)
    obtain rfl : m = m' := Fin.ext (by omega)
    rfl
  · obtain rfl : b = b' := hb
    cases b
    · obtain rfl : c = c' := (dstE 0).injective hd
      rfl
    · obtain rfl : c = c' := (upsE 0).injective hd
      rfl

def ringToks : Finset (GSem nD τ sig × ℕ × Bool) := Finset.univ.map ⟨fun x : Dev nD × J => tokOf x.1 x.2, tokOf_inj⟩

/-- A device's tokens. -/
def toks (c : Dev nD) : sProp 𝕄 := bigSep Finset.univ fun j : J => dutyTok ER (tokOf c j).1 (tokOf c j).2.1 (tokOf c j).2.2

/-- The tokens of one step of the rings, and of one copy. -/
def tS (c : Dev nD) (s : ℕ) (r : Fin 4) : sProp 𝕄 := dutyTok ER (gS r s c) (s / 2) false
def tR (c : Dev nD) (s : ℕ) (r : Fin 4) : sProp 𝕄 := dutyTok ER (gR r (s + 1) (dst r c)) (s / 2) false
def tC (c : Dev nD) (s : ℕ) (r : Fin 4) : sProp 𝕄 := dutyTok ER (gC r (ups r c)) s false
def tO (c : Dev nD) (s : ℕ) (r : Fin 4) : sProp 𝕄 := dutyTok ER (gO c) (4 * s + place r) false

omit [FloatOps F] in
theorem toks_eq (c : Dev nD) : toks (F := F) c
    = iprop(bigSep (Finset.Ico 0 62) (fun s => four (tS c s)) ∗ bigSep (Finset.Ico 0 62) (fun s => four (tR c s))
      ∗ bigSep (Finset.Ico 0 61) (fun s => four (tC c s)) ∗ bigSep (Finset.Ico 0 32) (fun s => four (tO c s))
      ∗ dutyTok ER (gB (nx c)) 0 false ∗ dutyTok ER (gB (pv c)) 0 true) := by
  unfold toks
  rw [BI.bigSep_univ_sum, BI.bigSep_univ_sum, BI.bigSep_univ_sum, BI.bigSep_univ_sum, ← range_four 62, ← range_four 62, ← range_four 61, ← range_four 32,
    bigSep_univ_eq_bigSepL [false, true] (by decide) (by decide)]
  rfl

/-! ## The credits -/

/-- What is owed to a device: its messages and leaves by number, and all of it. -/
def msgMine (i : ℕ) (c : Dev nD) : CellTallies nD τ sig ℕ := tallyAt (gR (ring i) (i / 4 + 1) c) (2 + 2 * i) (NN (ring i))
def credMine (i : ℕ) (c : Dev nD) : CellTallies nD τ sig ℕ := tallyAt (gC (ring i) c) (3 + 2 * i) 1
def mine (c : Dev nD) : CellTallies nD τ sig ℕ :=
  ∑ i ∈ Finset.Ico 0 244, (msgMine (i + 4) c + credMine i c) + ∑ i ∈ Finset.Ico 0 4, msgMine i c + tallyAt (gB c) 1 1 + tallyAt (gB c) 1 1

theorem sum_msg (i : ℕ) : ∑ c, msgItem i c = ∑ c, msgMine i c := Equiv.sum_comp (dstE (ring i)) (msgMine i)
theorem sum_cred (i : ℕ) : ∑ c, credItem i c = ∑ c, credMine i c := Equiv.sum_comp (upsE (ring i)) (credMine i)

theorem sum_owed : ∑ c, O₀ c = ∑ c, mine c := by
  have hn : ∑ c : Dev nD, tallyAt (gB (nx c)) 1 1 = ∑ c : Dev nD, (tallyAt (gB c) 1 1 : CellTallies nD τ sig ℕ) := Equiv.sum_comp (dstE 0) fun c => tallyAt (gB c) 1 1
  have hp : ∑ c : Dev nD, tallyAt (gB (pv c)) 1 1 = ∑ c : Dev nD, (tallyAt (gB c) 1 1 : CellTallies nD τ sig ℕ) := Equiv.sum_comp (upsE 0) fun c => tallyAt (gB c) 1 1
  unfold O₀ O₁ oweFirst owe mine
  simp only [Finset.sum_add_distrib]
  rw [hn, hp, Finset.sum_comm, Finset.sum_comm (f := fun c i => credItem i c), Finset.sum_comm (f := fun c i => msgItem i c) (t := Finset.Ico 0 4),
    Finset.sum_comm (f := fun c i => msgMine (i + 4) c), Finset.sum_comm (f := fun c i => credMine i c), Finset.sum_comm (f := fun c i => msgMine i c)]
  simp only [sum_msg, sum_cred]

/-- Nothing is owed outside device `c`. -/
def On (c : Dev nD) (O : CellTallies nD τ sig ℕ) : Prop := ∀ g, g.1 ≠ (c : Thread nD τ) → O g = 0

theorem On.add {c : Dev nD} {A B : CellTallies nD τ sig ℕ} (hA : On c A) (hB : On c B) : On c (A + B) := fun g h => by
  rw [Pi.add_apply, hA g h, hB g h, add_zero]
theorem On.sum {c : Dev nD} (S : Finset ℕ) (f : ℕ → CellTallies nD τ sig ℕ) (h : ∀ i, On c (f i)) : On c (∑ i ∈ S, f i) := fun g hg => by
  rw [Finset.sum_apply]; exact Finset.sum_eq_zero fun i _ => h i g hg
theorem On.at (c : Dev nD) (sm : SemLoc sig) (ι n : ℕ) : On c (tallyAt ((c : Thread nD τ), sm) ι n) := fun g hg => by
  ext ι'
  rw [tallyAt_apply, if_neg (fun h => hg (by rw [h.1]))]; rfl
theorem mine_on (c : Dev nD) : On c (mine c) :=
  On.add (On.add (On.add (On.sum _ _ fun i => On.add (On.at c _ _ _) (On.at c _ _ _)) (On.sum _ _ fun i => On.at c _ _ _)) (On.at c _ _ _)) (On.at c _ _ _)

/-- The credits of one step of the rings. -/
def kR (c : Dev nD) (s : ℕ) (r : Fin 4) : sProp 𝕄 := cred (tallyAt (gR r (s + 1) c) (2 + 2 * (4 * s + place r)) (NN r))
def kC (c : Dev nD) (s : ℕ) (r : Fin 4) : sProp 𝕄 := cred (tallyAt (gC r c) (3 + 2 * (4 * s + place r)) 1)

omit [FloatOps F] in
theorem kR_eq (c : Dev nD) (s : ℕ) (r : Fin 4) : cred (msgMine (4 * s + place r) c) = kR (F := F) c s r := by
  have := place_lt r
  unfold kR msgMine
  rw [ring_place, show (4 * s + place r) / 4 = s by omega]
omit [FloatOps F] in
theorem kC_eq (c : Dev nD) (s : ℕ) (r : Fin 4) : cred (credMine (4 * s + place r) c) = kC (F := F) c s r := by
  unfold kC credMine
  rw [ring_place]

omit [FloatOps F] in
theorem creds_by (k n : ℕ) (hk : k = 4 * n) (f : ℕ → CellTallies nD τ sig ℕ) (g : ℕ → Fin 4 → sProp 𝕄) (h : ∀ s r, cred (f (4 * s + place r)) = g s r) :
    cred (∑ i ∈ Finset.Ico 0 k, f i) ⊢ bigSep (Finset.Ico 0 n) (fun s => four (g s)) := by
  subst hk
  rw [Pipeline.cred_finsetSum, by_ring]
  exact Entails.of_eq (bigSep_congr fun s _ => congrArg four (funext fun r => h s r))

omit [FloatOps F] in
theorem launch_creds (c : Dev nD) : Pipeline.launchCred O₀ c
    ⊢ (iprop(bigSep (Finset.Ico 0 62) (fun s => four (kR c s)) ∗ bigSep (Finset.Ico 0 61) (fun s => four (kC c s)) ∗ cred (tallyAt (gB c) 1 2)) : sProp 𝕄) := by
  have hm : bigSep (Finset.Ico 0 62) (fun s => four (kR (F := F) c s)) = iprop(four (kR c 0) ∗ bigSep (Finset.Ico 0 61) (fun s => four (kR c (s + 1)))) := by
    rw [first_of (show 0 < 62 by decide)]
    exact congrArg (fun X => iprop(four (kR c 0) ∗ X)) (shift_of 0 61 1 _)
  rw [Pipeline.launchCred_of_sum O₀ mine sum_owed (fun d g h => by by_contra hg; exact h (mine_on d g hg)) c, hm]
  unfold mine
  rw [add_assoc, tallyAt_add, Finset.sum_add_distrib]
  iintro H
  ihave H := (cred_add _ _).1 $$ H
  icases H with ⟨H, HB⟩
  ihave H := (cred_add _ _).1 $$ H
  icases H with ⟨H, HF⟩
  ihave H := (cred_add _ _).1 $$ H
  icases H with ⟨HR, HC⟩
  ihave HR := (creds_by 244 61 rfl (fun i => msgMine (i + 4) c) (fun s => kR (F := F) c (s + 1)) fun s r => by
    rw [show 4 * s + place r + 4 = 4 * (s + 1) + place r by omega, kR_eq]) $$ HR
  ihave HC := (creds_by 244 61 rfl (fun i => credMine i c) (kC (F := F) c) (kC_eq c)) $$ HC
  ihave HF := (creds_by 4 1 rfl (fun i => msgMine i c) (kR (F := F) c) (kR_eq c)) $$ HF
  ihave HF := (Entails.of_eq (last_of (le_refl 0) (fun s => four (kR (F := F) c s)))) $$ HF
  icases HF with ⟨HF, -⟩
  isplitl [HF HR]; · isplitl [HF] <;> iassumption
  isplitl [HC]; · iexact HC
  iexact HB

/-! ## Sorting what a device starts with, and its cells at the end -/

omit [FloatOps F] in
/-- The first step's part, and the later steps'. -/
theorem head_of (n : ℕ) (Φ : ℕ → Fin 4 → sProp 𝕄) :
    bigSep (Finset.Ico 0 (n + 1)) (fun s => four (Φ s)) = iprop(four (Φ 0) ∗ bigSep (Finset.Ico 0 n) (fun s => four (Φ (s + 1)))) := by
  rw [first_of (Nat.succ_pos n)]
  exact congrArg (fun X => iprop(four (Φ 0) ∗ X)) (shift_of 0 n 1 _)

omit [FloatOps F] in
theorem zip_of (I : Finset ℕ) (A B : ℕ → Fin 4 → sProp 𝕄) :
    bigSep I (fun s => four (fun r => iprop(A s r ∗ B s r))) = iprop(bigSep I (fun s => four (A s)) ∗ bigSep I (fun s => four (B s))) := by
  rw [← BI.bigSep_sep']
  exact bigSep_congr fun s _ => four_sep _ _

theorem deal (c : Dev nD) :
    iprop(toks c ∗ Pipeline.launchCred O₀ c ∗ bigSep (Finset.Ico 0 32) (fun s => four (fun r => outAny r (row r (s + 30) c) c)))
      ⊢ (iprop((dutyTok ER (gB (pv c)) 0 true ∗ dutyTok ER (gB (nx c)) 0 false) ∗ cred (tallyAt (gB c) 1 2) ∗ four (FirstT · c)
        ∗ bigSep (Finset.Ico 0 61) (fun s => four (fun r => Bun r s c)) ∗ four (LastC · c)
        ∗ bigSep (Finset.Ico 30 62) (fun s => four (fun r => OutB r s c))) : sProp 𝕄) := by
  have hB : bigSep (Finset.Ico 0 61) (fun s => four (fun r => Bun (F := F) r s c))
      = iprop(bigSep (Finset.Ico 0 61) (fun s => four (kR c s)) ∗ bigSep (Finset.Ico 0 61) (fun s => four (tC c s)) ∗ bigSep (Finset.Ico 0 61) (fun s => four (kC c s))
        ∗ bigSep (Finset.Ico 0 61) (fun s => four (tR c (s + 1))) ∗ bigSep (Finset.Ico 0 61) (fun s => four (tS c (s + 1)))) := by
    rw [← zip_of _ (fun s => tR c (s + 1)), ← zip_of _ (kC c), ← zip_of _ (tC c), ← zip_of _ (kR c)]
    rfl
  have hO : bigSep (Finset.Ico 30 62) (fun s => four (fun r => OutB (F := F) r s c))
      = iprop(bigSep (Finset.Ico 0 32) (fun s => four (tO c s)) ∗ bigSep (Finset.Ico 0 32) (fun s => four (fun r => outAny r (row r (s + 30) c) c))) := by
    rw [← zip_of _ (tO c)]
    refine (shift_of 0 32 30 _).trans (bigSep_congr fun s _ => congrArg four (funext fun r => ?_))
    unfold OutB tO
    rw [Nat.add_sub_cancel]
  rw [toks_eq, hB, hO, head_of 61, head_of 61]
  iintro ⟨⟨⟨S0, HS⟩, ⟨R0, HR⟩, HC, HO, B0, B1⟩, HK, HM⟩
  ihave HK := (launch_creds c) $$ HK
  icases HK with ⟨KR, KC, KB⟩
  ihave KR := (Entails.of_eq (last_of (Nat.zero_le 61) (fun s => four (kR (F := F) c s)))) $$ KR
  icases KR with ⟨KL, KR⟩
  isplitl [B0 B1]; · isplitl [B1] <;> iassumption
  isplitl [KB]; · iexact KB
  isplitl [S0 R0]
  · iapply (Entails.of_eq (four_sep (tS c 0) (tR (F := F) c 0)).symm)
    isplitl [S0] <;> iassumption
  isplitl [KR HC KC HR HS]
  · isplitl [KR]; · iexact KR
    isplitl [HC]; · iexact HC
    isplitl [KC]; · iexact KC
    isplitl [HR] <;> iassumption
  isplitl [KL]; · iexact KL
  isplitl [HO] <;> iassumption

omit [FloatOps F] in
theorem begin_cells (c : Dev nD) : bigSep sems (fun sm => atPos ER ((c : Thread nD τ), sm) 0 ∅ 0)
    = (iprop(four (Beg · c) ∗ atPos ER (gO c) 0 ∅ 0 ∗ atPos ER (gB c) 0 ∅ 0) : sProp 𝕄) := sems_list _

omit [FloatOps F] in
theorem end_ring (r : Fin 4) (c : Dev nD) : End (F := F) r c
    ⊢ iprop((atPos ER (gR r 1 c) (rounds (.dma (recvS r 1))) ∅ 0 ∗ atPos ER (gR r 0 c) (rounds (.dma (recvS r 0))) ∅ 0
        ∗ atPos ER (gS r 0 c) (rounds (.dma (sendS r 0))) ∅ 0 ∗ atPos ER (gS r 1 c) (rounds (.dma (sendS r 1))) ∅ 0 ∗ atPos ER (gC r c) (rounds (.reg (credS r))) ∅ 0)
      ∗ slotAny r 1 c) := by
  unfold End
  rw [rounds_R, rounds_R, rounds_S, rounds_S, rounds_C, show gR r (61 + 1) c = gR r 0 c by unfold gR; rw [recvS_congr r (show (61 + 1) % 2 = 0 % 2 by decide)],
    show gR r 61 c = gR r 1 c by unfold gR; rw [recvS_congr r (show 61 % 2 = 1 % 2 by decide)],
    show gS r 61 c = gS r 1 c by unfold gS; rw [sendS_congr r (show 61 % 2 = 1 % 2 by decide)],
    show gS r (61 + 1) c = gS r 0 c by unfold gS; rw [sendS_congr r (show (61 + 1) % 2 = 0 % 2 by decide)],
    slotAny_congr r (show 61 % 2 = 1 % 2 by decide)]
  iintro ⟨R0, R1, S1, S0, C, H⟩
  isplitr [H]
  · isplitl [R1]; · iexact R1
    isplitl [R0]; · iexact R0
    isplitl [S0]; · iexact S0
    isplitl [S1] <;> iassumption
  iexact H

omit [FloatOps F] in
theorem end_cells (c : Dev nD) : iprop(four (End · c) ∗ atPos ER (gO c) 128 ∅ 0 ∗ atPos ER (gB c) 1 ∅ 0)
    ⊢ (iprop(bigSep sems (fun sm => atPos ER ((c : Thread nD τ), sm) (rounds sm) ∅ 0) ∗ four (slotAny · 1 c)) : sProp 𝕄) := by
  rw [sems_list, rounds_O, rounds_B]
  iintro ⟨HE, HO, HB⟩
  ihave HE := ((four_mono fun r => end_ring (F := F) r c).trans (Entails.of_eq (four_sep _ _))) $$ HE
  icases HE with ⟨HE, HS⟩
  isplitr [HS]
  · isplitl [HE]; · iexact HE
    isplitl [HO] <;> iassumption
  iexact HS

end Cert.KernelIdeal.Ring
-- ==== Proof.KISplit.lean ====
/-
# Cutting and joining a device's memory

The two slots of a ring's buffer, and the pieces of the result: thirty-two blocks of rows by four blocks of columns. A device
writes each piece once; `Gout` is what the result holds when all are written, the same on every device.
-/
module

public import proofs.«01_k».proof.Proof.KIShare

@[expose] public section

noncomputable section

namespace Cert.KernelIdeal.Ring

open Cert.KernelIdeal Cert.KernelIdeal.Gen Cert.Ring
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → Vec F S8192x256 .f32) (ws : Dev nD → Vec F S256x4096 .f32)

/-! ## The slots -/

theorem slots_disjoint : Disjoint (slotR ![0 % 2, 0, 0] (slotIn 0)).set (slotR ![1 % 2, 0, 0] (slotIn 1)).set := by
  refine Finset.disjoint_left.mpr fun i h0 h1 => ?_
  have h0 := (Rect.mem_set_unit.mp h0 0).2
  have h1 := (Rect.mem_set_unit.mp h1 0).1
  have h0 : (i 0).val < 0 + 1 := h0
  have h1 : 1 ≤ (i 0).val := h1
  omega
theorem slots_cover : (slotR ![0 % 2, 0, 0] (slotIn 0)).set ∪ (slotR ![1 % 2, 0, 0] (slotIn 1)).set = Finset.univ := by
  refine Finset.eq_univ_iff_forall.mpr fun i => ?_
  rw [Finset.mem_union, Rect.mem_set_unit, Rect.mem_set_unit]
  have h0 : (i 0).val < 2 := (i 0).isLt
  have h1 : (i 1).val < 256 := (i 1).isLt
  have h2 : (i 2).val < 1024 := (i 2).isLt
  rcases Nat.eq_zero_or_pos (i 0).val with h | h
  · left; intro a; fin_cases a
    · show 0 ≤ (i 0).val ∧ (i 0).val < 0 + 1; omega
    · show 0 ≤ (i 1).val ∧ (i 1).val < 0 + 256; omega
    · show 0 ≤ (i 2).val ∧ (i 2).val < 0 + 1024; omega
  · right; intro a; fin_cases a
    · show 1 ≤ (i 0).val ∧ (i 0).val < 1 + 1; omega
    · show 0 ≤ (i 1).val ∧ (i 1).val < 0 + 256; omega
    · show 0 ≤ (i 2).val ∧ (i 2).val < 0 + 1024; omega

theorem cM_set (r : Fin 4) : (cM r).view.set = Finset.univ := match r with
  | 0 => View.set_whole _ | 1 => View.set_whole _ | 2 => View.set_whole _ | 3 => View.set_whole _
theorem aM_set (r : Fin 4) : (aM r).view.set = Finset.univ := match r with
  | 0 => View.set_whole _ | 1 => View.set_whole _ | 2 => View.set_whole _ | 3 => View.set_whole _

theorem slotM_set (r : Fin 4) (s : ℕ) : (slotM r s).view.set = (slotR ![s % 2, 0, 0] (slotIn s)).set.map (cM r).view.emb :=
  (View.set_reshape _ _).trans (View.set_slice _ _)
theorem slotM_disjoint (r : Fin 4) : Disjoint (slotM r 0).view.set (slotM r 1).view.set := by
  rw [slotM_set, slotM_set]
  exact (Finset.disjoint_map _).mpr slots_disjoint
theorem slotM_union (r : Fin 4) : (slotM r 0).view.set ∪ (slotM r 1).view.set = (cM r).view.set := by
  rw [slotM_set, slotM_set]
  refine (Finset.map_union _ _).symm.trans ?_
  rw [slots_cover]; rfl

/-- A ring's whole buffer. -/
def ringAny (r : Fin 4) (c : Dev nD) : sProp 𝕄 := iprop(∃ f, (cM r).view.loc (c : Thread nD τ) ↦{fullShare} f)

omit [FloatOps F] in
theorem slots_split (r : Fin 4) (c : Dev nD) : ringAny (F := F) r c ⊢ iprop(slotAny r 0 c ∗ slotAny r 1 c) := by
  have e : (Finset.univ : Finset (Idx ((cM r).view.loc (c : Thread nD τ)))) = (slotM r 0).view.set ∪ (slotM r 1).view.set := ((slotM_union r).trans (cM_set r)).symm
  unfold ringAny slotAny
  iintro ⟨%f, H⟩
  ihave H := (Entails.of_eq (congrArg (fun I => ((cM r).view.loc (c : Thread nD τ) ↦[I]{fullShare} f : sProp 𝕄)) e)) $$ H
  ihave H := (pointsTo_union (slotM_disjoint r)).1 $$ H
  icases H with ⟨H0, H1⟩
  isplitl [H0]
  · iexists f; iexact H0
  · iexists f; iexact H1

omit [FloatOps F] in
theorem slots_join (r : Fin 4) (c : Dev nD) : iprop(slotAny (F := F) r 0 c ∗ slotAny r 1 c) ⊢ ringAny r c := by
  have e : (slotM r 0).view.set ∪ (slotM r 1).view.set = (Finset.univ : Finset (Idx ((cM r).view.loc (c : Thread nD τ)))) := (slotM_union r).trans (cM_set r)
  unfold ringAny slotAny
  iintro ⟨⟨%f, H0⟩, %g, H1⟩
  ihave H := (pointsTo_join (ℓ := (cM r).view.loc (c : Thread nD τ)) (slotM_disjoint r)) $$ [H0 H1]
  · isplitl [H0]
    · iexact H0
    · iexact H1
  iexists _
  iapply (Entails.of_eq (congrArg (fun I => ((cM r).view.loc (c : Thread nD τ) ↦[I]{fullShare} _ : sProp 𝕄)) e)) $$ H

/-! ## The pieces of the result -/

/-- The elements of a piece. -/
def pcs (r : Fin 4) (b : D32) : Finset S8192x4096.Idx := (outM r b).view.set

theorem pcs_mem (r : Fin 4) (b : D32) (i : S8192x4096.Idx) : i ∈ pcs r b ↔ (i 0).val / 256 = b.val ∧ (i 1).val / 1024 = r.val := by
  have e : pcs r b = (Rect.unit (s := S8192x4096) ![256 * b.val, 1024 * r.val] S256x1024.size (outIn r b)).set := View.set_slice_whole _ _
  rw [e, Rect.mem_set_unit]
  constructor
  · intro h
    have h0 : 256 * b.val ≤ (i 0).val ∧ (i 0).val < 256 * b.val + 256 := h 0
    have h1 : 1024 * r.val ≤ (i 1).val ∧ (i 1).val < 1024 * r.val + 1024 := h 1
    omega
  · intro h a; fin_cases a
    · show 256 * b.val ≤ (i 0).val ∧ (i 0).val < 256 * b.val + 256; omega
    · show 1024 * r.val ≤ (i 1).val ∧ (i 1).val < 1024 * r.val + 1024; omega

/-- The piece that a device writes in step `s + 30` of ring `r`. -/
def piece (c : Dev nD) (x : Fin 32 × Fin 4) : Finset S8192x4096.Idx := pcs x.2 (row x.2 (x.1.val + 30) c)

theorem piece_disjoint (c : Dev nD) : ∀ x ∈ (Finset.univ : Finset (Fin 32 × Fin 4)), ∀ y ∈ (Finset.univ : Finset (Fin 32 × Fin 4)), x ≠ y → Disjoint (piece c x) (piece c y) := by
  rintro ⟨s, r⟩ - ⟨s', r'⟩ - hne
  refine Finset.disjoint_left.mpr fun i h h' => hne ?_
  obtain ⟨h0, h1⟩ := (pcs_mem r (row r (s.val + 30) c) i).mp h
  obtain ⟨h0', h1'⟩ := (pcs_mem r' (row r' (s'.val + 30) c) i).mp h'
  obtain rfl : r = r' := Fin.ext (h1.symm.trans h1')
  obtain rfl : s = s' := row_inj r c (Fin.ext (h0.symm.trans h0'))
  rfl

theorem piece_cover (c : Dev nD) : (Finset.univ : Finset (Fin 32 × Fin 4)).biUnion (piece c) = Finset.univ := by
  refine Finset.eq_univ_iff_forall.mpr fun i => Finset.mem_biUnion.mpr ?_
  have h0 : (i 0).val < 8192 := (i 0).isLt
  have h1 : (i 1).val < 4096 := (i 1).isLt
  let r : Fin 4 := ⟨(i 1).val / 1024, by omega⟩
  obtain ⟨s, hs⟩ := (Finite.injective_iff_surjective.mp (row_inj r c)) ⟨(i 0).val / 256, by omega⟩
  exact ⟨(s, r), Finset.mem_univ _, (pcs_mem r (row r (s.val + 30) c) i).mpr ⟨(congrArg Fin.val hs).symm, rfl⟩⟩

/-- What the result holds at the end: the piece of a block is what the device that finishes the block makes of it. -/
def Gout : Vec F S8192x4096 .f32 := fun i =>
  M xs ws ⟨(i 1).val / 1024, by have h : (i 1).val < 4096 := (i 1).isLt; omega⟩ (30 + 1)
    (fin ⟨(i 1).val / 1024, by have h : (i 1).val < 4096 := (i 1).isLt; omega⟩ ⟨(i 0).val / 256, by have h : (i 0).val < 8192 := (i 0).isLt; omega⟩)
    fun a => match a with
      | ⟨0, _⟩ => ⟨(i 0).val % 256, Nat.mod_lt _ (by decide)⟩
      | ⟨1, _⟩ => ⟨(i 1).val % 1024, Nat.mod_lt _ (by decide)⟩

/-- A finished block goes round as it is. -/
theorem M_round (r : Fin 4) (s : ℕ) (hs : s < 32) (c : D32) : M xs ws r (s + 30 + 1) c = M xs ws r (30 + 1) (fin r (row r (s + 30) c)) := by
  induction s generalizing c with
  | zero => rw [Nat.zero_add, row_fin]
  | succ s ih =>
    rw [M_gt xs ws r (s + 1 + 30) (by omega), show s + 1 + 30 = s + 30 + 1 by omega, ih (by omega)]
    exact congrArg (fun b => M xs ws r (30 + 1) (fin r b)) (row_ups' r ⟨s, by omega⟩ c)

theorem Gout_at (r : Fin 4) (b : D32) (i : S256x1024.Idx) : Gout xs ws ((outM r b).view.emb i) = M xs ws r (30 + 1) (fin r b) i := by
  have h0 : (i 0).val < 256 := (i 0).isLt
  have h1 : (i 1).val < 1024 := (i 1).isLt
  have key : ∀ (j : S8192x4096.Idx), (j 0).val = 256 * b.val + 1 * (i 0).val → (j 1).val = 1024 * r.val + 1 * (i 1).val → Gout xs ws j = M xs ws r (30 + 1) (fin r b) i := by
    intro j hj0 hj1
    have hr : (⟨(j 1).val / 1024, by have h : (j 1).val < 4096 := (j 1).isLt; omega⟩ : Fin 4) = r := Fin.ext (by show (j 1).val / 1024 = r.val; omega)
    have hb : (⟨(j 0).val / 256, by have h : (j 0).val < 8192 := (j 0).isLt; omega⟩ : D32) = b := Fin.ext (by show (j 0).val / 256 = b.val; omega)
    unfold Gout
    rw [hr, hb]
    refine congrArg (M xs ws r (30 + 1) (fin r b)) (funext fun a => Fin.ext ?_)
    fin_cases a
    · show (j 0).val % 256 = (i 0).val; omega
    · show (j 1).val % 1024 = (i 1).val; omega
  exact key _ rfl rfl

/-- The result whole, as pieces in the order in which the device writes them. -/
theorem out_pieces (c : Dev nD) (f : Vec F S8192x4096 .f32) : ((c : Thread nD τ).loc main_v1 ↦{fullShare} f : sProp 𝕄)
    = bigSep (Finset.Ico 30 62) (fun s => four (fun r => ((c : Thread nD τ).loc main_v1 ↦[pcs r (row r s c)]{fullShare} f : sProp 𝕄))) := by
  have e := pointsTo_biUnion (ℓ := (c : Thread nD τ).loc main_v1) (q := fullShare) (f := f) (nD := nD) (τ := τ) (sig := sig) (Ix := ℕ) (Val := Elt F) (Name := ℕ)
    (U := UU) (Lvl := ℕ) Finset.univ (piece c) (piece_disjoint c)
  rw [piece_cover] at e
  exact e.trans ((range_four 32 fun s r => ((c : Thread nD τ).loc main_v1 ↦[pcs r (row r (s + 30) c)]{fullShare} f : sProp 𝕄)).trans
    (shift_of 0 32 30 fun s => four (fun r => ((c : Thread nD τ).loc main_v1 ↦[pcs r (row r s c)]{fullShare} f : sProp 𝕄))).symm)

omit [FloatOps F] in
theorem piece_any (c : Dev nD) (r : Fin 4) (b : D32) (f : Vec F S8192x4096 .f32) :
    ((c : Thread nD τ).loc main_v1 ↦[pcs r b]{fullShare} f : sProp 𝕄) ⊢ outAny r b c := by
  unfold outAny
  have h : ((outM r b).view.loc (c : Thread nD τ) ↦[(outM r b).view.set]{fullShare} f : sProp 𝕄)
      ⊢ iprop(∃ f, (outM r b).view.loc (c : Thread nD τ) ↦[(outM r b).view.set]{fullShare} f) := by
    iintro H; iexists f; iexact H
  exact h

theorem out_split (c : Dev nD) (f : Vec F S8192x4096 .f32) : ((c : Thread nD τ).loc main_v1 ↦{fullShare} f : sProp 𝕄)
    ⊢ bigSep (Finset.Ico 0 32) (fun s => four (fun r => outAny r (row r (s + 30) c) c)) := by
  refine (Entails.of_eq ((out_pieces c f).trans (shift_of 0 32 30 _))).trans ?_
  exact bigSep_mono fun s _ => four_mono fun r => piece_any c r _ f

theorem piece_done (c : Dev nD) (r : Fin 4) (b : D32) : outHas r b c (M xs ws r (30 + 1) (fin r b))
    ⊢ ((c : Thread nD τ).loc main_v1 ↦[pcs r b]{fullShare} Gout xs ws : sProp 𝕄) := by
  have h : ∀ f : Buf (Elt F) ((outM r b).view.loc (c : Thread nD τ)), (outM r b).view.read (Elt F) f = M xs ws r (30 + 1) (fin r b) →
      ((outM r b).view.loc (c : Thread nD τ) ↦[(outM r b).view.set]{fullShare} f : sProp 𝕄)
        = ((outM r b).view.loc (c : Thread nD τ) ↦[(outM r b).view.set]{fullShare} Gout xs ws : sProp 𝕄) := by
    intro f hf
    refine pointsTo_congr fun i hi => ?_
    obtain ⟨j, -, rfl⟩ := Finset.mem_map.mp hi
    exact (congrFun hf j).trans (Gout_at xs ws r b j).symm
  have k : outHas r b c (M xs ws r (30 + 1) (fin r b)) ⊢ ((outM r b).view.loc (c : Thread nD τ) ↦[(outM r b).view.set]{fullShare} Gout xs ws : sProp 𝕄) := by
    unfold outHas owns
    iintro ⟨%f, %hf, H⟩
    iapply (Entails.of_eq (h f hf)) $$ H
  exact k

theorem out_join (c : Dev nD) : bigSep (Finset.Ico 30 62) (fun s => four (fun r => OutD xs ws r s c))
    ⊢ ((c : Thread nD τ).loc main_v1 ↦{fullShare} Gout xs ws : sProp 𝕄) := by
  rw [out_pieces]
  refine bigSep_mono fun s hs => four_mono fun r => ?_
  have hs := Finset.mem_Ico.mp hs
  unfold OutD
  rw [show s = s - 30 + 30 by omega, M_round xs ws r (s - 30) (by omega) c]
  exact piece_done xs ws c r _

end Cert.KernelIdeal.Ring
-- ==== Proof.KILaunch.lean ====
/-
# The launch

From a memory with zero counters to the end of the run: the cells' invariants are made for every device at once, each device
runs its body, closes its cells and reads the result it holds. The same on every device: `Gout` of the two arrays.
-/
module

public import proofs.«01_k».proof.Proof.KISplit
public import proofs.«01_k».proof.Proof.Gen.KernelIdeal.Launch
public import proofs.«01_k».proof.Proof.Gen.KernelIdeal.Points
public import Idealize.ShloMosaic.Lib.Pipeline.CollectiveSegs

@[expose] public section

noncomputable section

namespace Cert.KernelIdeal.Ring

open Cert.KernelIdeal Cert.KernelIdeal.Gen Cert.Ring
open Idealize.ShloMosaic Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → Vec F S8192x256 .f32) (ws : Dev nD → Vec F S256x4096 .f32)
variable (m : (ℓ : Loc nD τ sig) → Buf (Elt F) ℓ) (ρ : Dev nD → PrngReg)

/-! ## Families over devices and cells -/

omit [FloatOps F] in
/-- A fact that may be used over and over is handed to every member of a family. -/
theorem hand_out {I : Type} [DecidableEq I] {S : Finset I} {R : sProp 𝕄} [BI.Persistent R] {A B : I → sProp 𝕄}
    (h : ∀ i ∈ S, iprop(R ∗ A i) ⊢ B i) : iprop(R ∗ bigSep S A) ⊢ bigSep S B :=
  (sep_mono_left (BI.bigSep_of_persistent S R)).trans (by rw [← BI.bigSep_sep']; exact bigSep_mono h)

/-! ## The pipeline's data -/

/-- What a device's fetch of an argument leaves in its buffer. -/
def xIn (c : Dev nD) : (cc0_stg0_0 : Ref sig .tc).ty.Contents (Elt F) :=
  ((cfg0.win (0 : Fin 2)).blk t0_0).view.read (Elt F) (m ((cfg0.win (0 : Fin 2)).arr.view.loc (c : Thread nD τ)))
def wIn (c : Dev nD) : (cc0_stg1_0 : Ref sig .tc).ty.Contents (Elt F) :=
  ((cfg0.win (1 : Fin 2)).blk t0_0).view.read (Elt F) (m ((cfg0.win (1 : Fin 2)).arr.view.loc (c : Thread nD τ)))

/-- A device's positions, one per cell. -/
def posns (c : Dev nD) : sProp 𝕄 := bigSep sems fun sm => atPos ER ((c : Thread nD τ), sm) 0 ∅ 0
/-- A device's counters at zero. -/
def zeros (c : Dev nD) : sProp 𝕄 := bigSep sems fun sm => semVal ((c : Thread nD τ), sm) 0

/-- What a device brings to its body. -/
def start (c : Dev nD) : sProp 𝕄 :=
  iprop(Ctx (xIn m) (wIn m) ∗ posns c ∗ toks c ∗ Pipeline.launchCred O₀ c ∗ ∃ f : Vec F S8192x4096 .f32, (c : Thread nD τ).loc main_v1 ↦{fullShare} f)

def scratch (c : Dev nD) : sProp 𝕄 := iprop(four (ringAny · c) ∗ four (accAny · c))

def Φ₀ (c : Dev nD) : sProp 𝕄 := iprop(start m c ∗ scratch c)
def Φ₁ (c : Dev nD) : sProp 𝕄 := iprop(((c : Thread nD τ).loc main_v1 ↦{fullShare} Gout (xIn m) (wIn m)) ∗ zeros c ∗ scratch c)

def dats (_ : Fin 1) (c : Dev nD) : Dat τ (Elt F) ℕ ℕ UU ℕ cfg0 c where
  A w := m ((cfg0.win w).arr.view.loc (c : Thread nD τ))
  after w _ := match w with
    | ⟨0, _⟩ => xIn m c
    | ⟨1, _⟩ => wIn m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_ref (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

abbrev held (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

/-! ## The body's ends -/

omit [FloatOps F] in
theorem scratch_open (c : Dev nD) : scratch (F := F) c ⊢ iprop(four (slotAny · 0 c) ∗ four (slotAny · 1 c) ∗ four (accAny · c)) := by
  unfold scratch
  iintro ⟨H, HA⟩
  ihave H := ((four_mono fun r => slots_split r c).trans (Entails.of_eq (four_sep _ _))) $$ H
  icases H with ⟨H0, H1⟩
  isplitl [H0]; · iexact H0
  isplitl [H1]; · iexact H1
  iexact HA

omit [FloatOps F] in
theorem scratch_shut (c : Dev nD) : iprop(four (slotAny · 0 c) ∗ four (slotAny · 1 c) ∗ four (accAny · c)) ⊢ scratch (F := F) c := by
  unfold scratch
  iintro ⟨H0, H1, HA⟩
  isplitl [H0 H1]
  · iapply ((Entails.of_eq (four_sep (slotAny (F := F) · 0 c) (slotAny · 1 c)).symm).trans (four_mono fun r => slots_join r c))
    isplitl [H0]; · iexact H0
    iexact H1
  iexact HA

theorem body_begin (c : Dev nD) : iprop(posns c ∗ toks c ∗ Pipeline.launchCred O₀ c ∗ (∃ f : Vec F S8192x4096 .f32, (c : Thread nD τ).loc main_v1 ↦{fullShare} f)
      ∗ scratch c ∗ ow c (O₀ c) ∗ stg xs ws c)
    ⊢ bodyPre xs ws c := by
  unfold posns
  iintro ⟨Hp, Ht, Hc, ⟨%f, Ho⟩, Hs, HO, Hst⟩
  ihave Hp := (Entails.of_eq (begin_cells c)) $$ Hp
  icases Hp with ⟨HB, HgO, HgB⟩
  ihave Ho := (out_split c f) $$ Ho
  ihave Hd := (deal c) $$ [Ht Hc Ho]
  · isplitl [Ht]; · iexact Ht
    isplitl [Hc]; · iexact Hc
    iexact Ho
  icases Hd with ⟨Hbar, Hcr, HF, HU, HL, HOB⟩
  ihave Hs := (scratch_open c) $$ Hs
  icases Hs with ⟨H0, H1, HA⟩
  unfold bodyPre
  isplitl [HO]; · iexact HO
  isplitl [Hst]; · iexact Hst
  isplitl [Hbar]; · iexact Hbar
  isplitl [Hcr]; · iexact Hcr
  isplitl [HgB]; · iexact HgB
  isplitl [HgO]; · iexact HgO
  isplitl [HB]; · iexact HB
  isplitl [HF]; · iexact HF
  isplitl [HU]; · iexact HU
  isplitl [HL]; · iexact HL
  isplitl [HOB]; · iexact HOB
  isplitl [H0]; · iexact H0
  isplitl [H1]; · iexact H1
  iexact HA

theorem body_end (c : Dev nD) : bodyPost xs ws c
    ⊢ iprop(ow c 0 ∗ stg xs ws c ∗ (bigSep sems fun sm => atPos ER ((c : Thread nD τ), sm) (rounds sm) ∅ 0) ∗ scratch c
      ∗ ((c : Thread nD τ).loc main_v1 ↦{fullShare} Gout xs ws)) := by
  unfold bodyPost
  iintro ⟨HO, Hst, HgB, HgO, HE, H0, HA, HD⟩
  ihave Hc := (end_cells c) $$ [HE HgO HgB]
  · isplitl [HE]; · iexact HE
    isplitl [HgO]; · iexact HgO
    iexact HgB
  icases Hc with ⟨Hp, H1⟩
  ihave Hout := (out_join xs ws c) $$ HD
  ihave H0 := (four_mono fun r => Entails.of_eq (slotAny_congr (F := F) r (show (61 + 1) % 2 = 0 % 2 by decide) c)) $$ H0
  isplitl [HO]; · iexact HO
  isplitl [Hst]; · iexact Hst
  isplitl [Hp]; · iexact Hp
  isplitl [H0 H1 HA]
  · iapply (scratch_shut c)
    isplitl [H0]; · iexact H0
    isplitl [H1]; · iexact H1
    iexact HA
  iexact Hout

/-- A device past the last round of each of its cells gets every counter back at zero. -/
theorem close_cells (c : Dev nD) :
    iprop(Ctx xs ws ∗ bigSep sems fun sm => atPos ER ((c : Thread nD τ), sm) (rounds sm) ∅ 0) ⊢ |={Set.univ}=> zeros (F := F) c := by
  refine (hand_out (B := fun sm => iprop(|={Set.univ}=> semVal ((c : Thread nD τ), sm) 0)) fun sm hs => ?_).trans (BI.bigSep_fupd _ _)
  iintro ⟨#HC, Hp⟩
  ihave HI := (ctx_cell xs ws c hs) $$ HC
  icases HI with ⟨%κ, #HI⟩
  iapply (Rounds.cell_close ER (rd xs ws) (Set.mem_univ κ) (fun h => h) (R := rounds sm) fun k hk => duties_later xs ws k ((c : Thread nD τ), sm) hk)
  isplitr; · iexact HI
  iexact Hp

/-- The kernel's body, from what a device brings to what it leaves. -/
theorem whole_run (c : Dev nD) :
    iprop(Ctx xs ws ∗ posns c ∗ toks c ∗ Pipeline.launchCred O₀ c ∗ (∃ f : Vec F S8192x4096 .f32, (c : Thread nD τ).loc main_v1 ↦{fullShare} f)
      ∗ scratch c ∗ ow c (O₀ c) ∗ stg xs ws c)
    ⊢ wpr c (whole (F := F)) fun _ =>
      iprop((((c : Thread nD τ).loc main_v1 ↦{fullShare} Gout xs ws) ∗ zeros c ∗ scratch c) ∗ ow c 0 ∗ stg xs ws c) := by
  refine BIBase.Entails.trans ?_ (wp_fupd frame (wpE (defs₀ (F := F)) 𝒱₀ (c : Thread nD τ) none) Set.univ _ _)
  iintro ⟨#HC, H⟩
  ihave H := (body_begin xs ws c) $$ H
  iapply (whole_wp xs ws c) $$ [H]
  · isplitr; · iexact HC
    iexact H
  iintro H
  ihave H := (body_end xs ws c) $$ H
  icases H with ⟨HO, Hst, Hp, Hs, Hout⟩
  imod (close_cells xs ws c) $$ [Hp] with Hz
  · isplitr; · iexact HC
    iexact Hp
  imodintro
  isplitl [Hout Hz Hs]
  · isplitl [Hout]; · iexact Hout
    isplitl [Hz]; · iexact Hz
    iexact Hs
  isplitl [HO]; · iexact HO
  iexact Hst

def pointPre (c : Dev nD) : sProp 𝕄 :=
  iprop(Φ₀ m c ∗ (dats m 0 c).owesAt 0 t0_0.castSucc
    ∗ (∃ d, held c cc0_stg0_0 ((dats m 0 c).before (0 : Fin 2) t0_0 d))
    ∗ (∃ d, held c cc0_stg1_0 ((dats m 0 c).before (1 : Fin 2) t0_0 d)))
def pointPost (c : Dev nD) : sProp 𝕄 :=
  iprop(Φ₁ m c ∗ (dats m 0 c).owesAt 0 t0_0.succ ∗ held c cc0_stg0_0 (xIn m c) ∗ held c cc0_stg1_0 (wIn m c))

theorem point_run (c : Dev nD) : pointPre m c ⊢ wpr c (whole (F := F)) fun _ => pointPost m c := by
  unfold pointPre Φ₀ start
  iintro ⟨⟨⟨HC, Hp, Ht, Hc, Ho⟩, Hs⟩, HO, ⟨%d0, %g0, %hg0, Hx⟩, ⟨%d1, %g1, %hg1, Hw⟩⟩
  have hx : g0 = xIn m c := by rw [hg0]; unfold Dat.before; rw [if_pos (fetch0_0 t0_0)]; rfl
  have hw : g1 = wIn m c := by rw [hg1]; unfold Dat.before; rw [if_pos (fetch0_1 t0_0)]; rfl
  subst hx hw
  unfold Dat.owesAt Pipeline.owesWithin
  icases HO with ⟨%W, %hW, HO⟩
  ihave HR := (whole_run (xIn m) (wIn m) c) $$ [HC Hp Ht Hc Ho Hs HO Hx Hw]
  · isplitl [HC]; · iexact HC
    isplitl [Hp]; · iexact Hp
    isplitl [Ht]; · iexact Ht
    isplitl [Hc]; · iexact Hc
    isplitl [Ho]; · iexact Ho
    isplitl [Hs]; · iexact Hs
    isplitl [HO]; · unfold ow; iexists W; iexact HO
    unfold stg
    isplitl [Hx]; · iexact Hx
    iexact Hw
  iapply (show wpr c (whole (F := F)) (fun _ =>
      iprop((((c : Thread nD τ).loc main_v1 ↦{fullShare} Gout (xIn m) (wIn m)) ∗ zeros c ∗ scratch c) ∗ ow c 0 ∗ stg (xIn m) (wIn m) c))
      ⊢ wpr c (whole (F := F)) fun _ => pointPost m c from wp_mono _ _ _ fun _ => ?_) $$ HR
  unfold pointPost Φ₁ Dat.owesAt Pipeline.owesWithin ow stg
  iintro ⟨H, ⟨%W', HO⟩, Hx, Hw⟩
  isplitl [H]; · iexact H
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hw

omit [FloatOps F] in
theorem two_windows (A : Fin cfg0.W → sProp 𝕄) : bigSep Finset.univ A = iprop(A (0 : Fin 2) ∗ A (1 : Fin 2)) := bigSep_W0 A

set_option maxRecDepth 4000 in
theorem body_obligation (c : Dev nD) : BodyObligation (dats (F := F) m 0 c) (defs₀ (F := F)) 𝒱₀ 0 Set.univ := fun t => by
  rw [fin_N0 t, two_windows, two_windows]
  simp only [owns_ref]
  show pointPre m c ⊢ wpr c (cc0_body xM (Memref.isWhole_whole _) wM (Memref.isWhole_whole _) oM (Memref.isWhole_whole _) c0M (Memref.isWhole_whole _)
    c1M (Memref.isWhole_whole _) c2M (Memref.isWhole_whole _) c3M (Memref.isWhole_whole _) a0M (Memref.isWhole_whole _) a1M (Memref.isWhole_whole _)
    a2M (Memref.isWhole_whole _) a3M (Memref.isWhole_whole _) sendA recvA credA outA) (fun _ => pointPost m c)
  rw [body_eq]
  exact point_run m c

/-! ## The launch -/

theorem ownSemFacts : Pipeline.OwnSemFacts cfg0.spec osem := by decide

theorem share_eq (c : Dev nD) (w : Fin cfg0.W) : (dats m 0 c).share w = fullShare := by unfold Dat.share; split <;> rfl

/-- A device's cell by its place in the list. -/
abbrev cellAt (ck : Dev nD × Fin 22) : GSem nD τ sig := ((ck.1 : Thread nD τ), csem ck.2)

theorem cellAt_inj : Function.Injective cellAt := by
  rintro ⟨c, k⟩ ⟨c', k'⟩ h
  have h1 : c = c' := congrArg (fun g : GSem nD τ sig => g.1.1) h
  have h2 : k = k' := csem_inj (congrArg Prod.snd h)
  rw [h1, h2]

def ringCells : Finset (GSem nD τ sig) := Finset.univ.map ⟨cellAt, cellAt_inj⟩

def u₀ : UU := (initOf (Pipeline.cells cfgs cellOf_inj) (Pipeline.launchToks cfgs cellOf_inj), initOf ringCells ringToks)

/-- A device's starting marks. -/
def marks (c : Dev nD) : sProp 𝕄 := bigSep sems fun sm => reached ER ((c : Thread nD τ), sm) 0
/-- A device's invariants. -/
def invs (c : Dev nD) : sProp 𝕄 := bigSep sems fun sm => iprop(∃ κ : ℕ, cellInv ER (rd xs ws) κ ((c : Thread nD τ), sm))

instance marks_persistent (c : Dev nD) : BI.Persistent (marks (F := F) c) := by unfold marks; infer_instance
instance invs_persistent (c : Dev nD) : BI.Persistent (invs (F := F) xs ws c) := by unfold invs; infer_instance

/-- What the launch deals a device, and what making the invariants turns it into. -/
def G (c : Dev nD) : sProp 𝕄 :=
  iprop((bigSep sems fun sm => roundState ER (rd (xIn m) (wIn m)) ((c : Thread nD τ), sm) 0) ∗ marks c ∗ posns c ∗ toks c)
def G' (c : Dev nD) : sProp 𝕄 :=
  iprop(((bigSep Finset.univ fun d : Dev nD => invs (xIn m) (wIn m) d) ∗ bigSep Finset.univ fun d : Dev nD => marks d) ∗ posns c ∗ toks c)

omit [FloatOps F] in
theorem cells_by (A : GSem nD τ sig → sProp 𝕄) :
    bigSep ringCells A = bigSep Finset.univ fun c : Dev nD => bigSep sems fun sm => A ((c : Thread nD τ), sm) := by
  unfold ringCells; rw [BI.bigSep_map, BI.bigSep_univ_prod]
  exact BI.bigSep_congr fun c _ => (sems_csem fun sm => A ((c : Thread nD τ), sm)).symm

omit [FloatOps F] in
theorem toks_by : bigSep ringToks (fun x => (dutyTok ER x.1 x.2.1 x.2.2 : sProp 𝕄)) = bigSep Finset.univ fun c : Dev nD => toks c := by
  unfold ringToks; rw [BI.bigSep_map, BI.bigSep_univ_prod]; rfl

theorem fund_ring : BI.own (ER (initOf ringCells ringToks)) ⊢ (|==> bigSep Finset.univ (G m) : sProp 𝕄) := by
  iintro HX
  imod (Rounds.fund ER (rd (xIn m) (wIn m)) ringCells ringToks) $$ HX with ⟨Hst, Hr, Hat, Htok⟩
  imodintro
  ihave Hst := (Entails.of_eq (cells_by fun g => roundState ER (rd (xIn m) (wIn m)) g 0)) $$ Hst
  ihave Hat := (Entails.of_eq (cells_by fun g => atPos ER g 0 ∅ 0)) $$ Hat
  ihave Hr := (Entails.of_eq (cells_by fun g => reached ER g 0)) $$ Hr
  ihave Htok := (Entails.of_eq toks_by) $$ Htok
  unfold G marks posns; simp only [BI.bigSep_sep']
  isplitl [Hst]; · iexact Hst
  isplitl [Hr]; · iexact Hr
  isplitl [Hat]; · iexact Hat
  iexact Htok

theorem sems_insert : sems = insert (SemLoc.reg barS) (Finset.univ.map ⟨osem, fun a b h => Fin.castSucc_injective _ (csem_inj h)⟩) := by decide +kernel

omit [FloatOps F] in
theorem barrier_apart (c : Dev nD) : (unscopedSems0 c : sProp 𝕄) = semVal ((c : Thread nD τ), SemLoc.reg barS) 0 := by
  unfold unscopedSems0; rw [BI.bigSep_eq_bigSepL_of_eq [SemLoc.reg barS] (by decide) (by decide)]; rfl

omit [FloatOps F] in
/-- A device's counters: the barrier's and the kernel's own. -/
theorem zeros_eq (c : Dev nD) :
    zeros (F := F) c = iprop(unscopedSems0 c ∗ Pipeline.ownSems0 (Ix := ℕ) (Name := ℕ) (U := UU) (Lvl := ℕ) (Val := Elt F) (τ := τ) osem c) := by
  unfold zeros
  rw [barrier_apart, sems_insert, BI.bigSep_insert (by decide +kernel), BI.bigSep_map]
  rfl

theorem alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop(invs (xIn m) (wIn m) c ∗ marks c ∗ posns c ∗ toks c) := by
  unfold G
  iintro ⟨Hos, Hus, Hst, Hr⟩
  ihave Hv := (Entails.of_eq (zeros_eq (F := F) c).symm) $$ [Hos Hus]
  · isplitl [Hus] <;> iassumption
  imod (show iprop(zeros c ∗ bigSep sems fun sm => roundState ER (rd (xIn m) (wIn m)) ((c : Thread nD τ), sm) 0)
      ⊢ (|={Set.univ}=> invs (xIn m) (wIn m) c : sProp 𝕄) from by
        unfold zeros invs
        rw [← BI.bigSep_sep']
        exact (bigSep_mono fun sm _ => (Rounds.body_intro ER (rd (xIn m) (wIn m)) ((c : Thread nD τ), sm)).trans inv_alloc).trans (BI.bigSep_fupd _ _)) $$ [Hv Hst] with Hinv
  · isplitl [Hv] <;> iassumption
  imodintro
  isplitl [Hinv]; · iexact Hinv
  iexact Hr

theorem regroup :
    (bigSep Finset.univ fun c : Dev nD => iprop(invs (xIn m) (wIn m) c ∗ marks c ∗ posns c ∗ toks c) : sProp 𝕄) ⊢ bigSep Finset.univ (G' m) := by
  rw [BI.bigSep_sep', BI.bigSep_sep']
  iintro ⟨HI, HR, H⟩
  iapply (hand_out (R := iprop((bigSep Finset.univ fun d : Dev nD => invs (xIn m) (wIn m) d) ∗ bigSep Finset.univ fun d : Dev nD => marks d))
    (A := fun c : Dev nD => iprop(posns c ∗ toks c)) (B := G' m) fun c _ => by unfold G'; exact BI.Entails.refl _)
  isplitl [HI HR]
  · isplitl [HI]; · iexact HI
    iexact HR
  iexact H

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (BI.bigSep_fupd _ _)).trans (BI.fupd_mono (regroup m))

/-! ## From the launch to the body and back -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨Ho, Hlev, Hcr, -, ⟨HI, HR⟩, Hp, Ht⟩
  imodintro
  unfold start Ctx
  isplitl
  · isplitl [HI HR Hlev]
    · isplitl [HI]; · unfold invs; iexact HI
      isplitl [HR]; · unfold marks; iexact HR
      iexact Hlev
    isplitl [Hp]; · iexact Hp
    isplitl [Ht]; · iexact Ht
    isplitl [Hcr]; · iexact Hcr
    iexists _; iexact Ho
  · iempintro

omit [FloatOps F] in
theorem acc_whole (r : Fin 4) (c : Dev nD) : accAny (F := F) r c = iprop(∃ f, (aM r).view.loc (c : Thread nD τ) ↦{fullShare} f) := by
  unfold accAny; rw [aM_set r]

omit [FloatOps F] in
theorem scratch_eq (c : Dev nD) : Pipeline.scopedRest cfg0.spec c = scratch (F := F) c := by
  rw [scopedRest0_eq]
  unfold scratch
  unfold ringAny
  rw [four_eq, four_eq, acc_whole, acc_whole, acc_whole, acc_whole]
  refine both ?_ ?_
  · iintro ⟨C0, C1, C2, C3, A0, A1, A2, A3⟩
    isplitl [C0 C1 C2 C3]
    · isplitl [C0]; · iexact C0
      isplitl [C2]; · iexact C2
      isplitl [C1]; · iexact C1
      iexact C3
    isplitl [A0]; · iexact A0
    isplitl [A2]; · iexact A2
    isplitl [A1]; · iexact A1
    iexact A3
  · iintro ⟨⟨C0, C2, C1, C3⟩, A0, A2, A1, A3⟩
    isplitl [C0]; · iexact C0
    isplitl [C1]; · iexact C1
    isplitl [C2]; · iexact C2
    isplitl [C3]; · iexact C3
    isplitl [A0]; · iexact A0
    isplitl [A1]; · iexact A1
    isplitl [A2]; · iexact A2
    iexact A3

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs]; · iexact Hs
  iexact Hr

/-- What a device leaves: its result and the barrier's counter. -/
def left (c : Dev nD) : sProp 𝕄 := iprop(((c : Thread nD τ).loc main_v1 ↦{fullShare} Gout (xIn m) (wIn m)) ∗ unscopedSems0 c)

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scratch_eq]
  unfold Φ₁ left
  iintro ⟨Ho, Hz, Hr⟩
  ihave Hz := (Entails.of_eq (zeros_eq (F := F) c)) $$ Hz
  icases Hz with ⟨Hu, Hz⟩
  isplitl [Ho Hu]
  · isplitl [Ho] <;> iassumption
  isplitl [Hz] <;> iassumption

set_option maxRecDepth 20000 in
theorem waits (c : Dev nD) : (levAts L lv : sProp 𝕄) ⊢ Pipeline.cellsWaits cfgs (dats m) 0 0 c :=
  Pipeline.cellsWaits_intro cfgs (dats m) 0 0 c fun w s t =>
    mayWait c _ 0 (by decide) (by
      rcases t with ⟨_ | _, ht⟩
      · exact above_O₀ c
      · exact Above.zero 0)

theorem read_out (c : Dev nD) (s' : Phys nD τ sig (Elt F)) :
    iprop(left m c ∗ emp ∗ SI s')
      ⊢ |={Set.univ}=> iprop(⌜s'.mem.mem ((c : Thread nD τ).loc main_v1) = Gout (xIn m) (wIn m)
          ∧ ∀ sm : SemLoc sig, sm.isScoped .tc = false → s'.mem.sem ((c.tc : Thread nD τ), sm) = 0⌝ ∗ SI s') := by
  unfold left
  iintro ⟨⟨Ho, Hu⟩, -, HSI⟩
  icombine Ho HSI gives %h
  imod (Pipeline.unscopedSems0_read (X := unscopedSems0 c) (c := c) fupd_intro s') $$ [Hu HSI] with ⟨%hs, HSI⟩
  · isplitl [Hu] <;> iassumption
  imodintro
  isplitr
  · ipureintro; exact ⟨Buf.eq_of_forall_mem_univ h, hs⟩
  iexact HSI

/-! ## The run -/

set_option maxRecDepth 8000 in
/-- Whatever the arrays hold, every run of the kernel on the mesh ends, with the arrays as they were, the result on every
    device `Gout` of them and all counters at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = Gout (xIn m) (wIn m))
      ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m) (hout := phi1_exit m)
    (QY := fun c s => s.mem ((c : Thread nD τ).loc main_v1) = Gout (xIn m) (wIn m)
      ∧ ∀ sm : SemLoc sig, sm.isScoped .tc = false → s.sem ((c.tc : Thread nD τ), sm) = 0)
    (hY := read_out m)
    (hQ := fun _ h hs => ⟨fun c => ⟨((h c).1 (0 : Fin 2)).trans ((dats (F := F) m 0 c).arrAt_in (0 : Fin 2) rfl _),
        ((h c).1 (1 : Fin 2)).trans ((dats (F := F) m 0 c).arrAt_in (1 : Fin 2) rfl _), (h c).2.2.1⟩,
      sem_eq_zero hs fun c => (h c).2.2.2⟩)

end Cert.KernelIdeal.Ring

end
-- ==== Proof.Ref.lean ====
/-
# The reference's result

At the ideal values, the reference's program read at an index: the long sum of the products, then the activation of one number.
-/
module

public import proofs.«01_k».proof.Proof.Gen.ReferenceIdeal.Run
public import Idealize.ShloMosaic.Lib.Pointwise.Contract
public import Idealize.ShloMosaic.PureOps.Ideal.Laws

@[expose] public section

noncomputable section

namespace Cert.Whole

open Cert.ReferenceIdeal Cert.ReferenceIdeal.Gen
open Idealize.ShloMosaic Idealize.ShloMosaic.TcCoe Idealize.ShloMosaic.StableHlo

/-! ## A product at an index -/

section Products

variable {sl sr so : Shape} (d : DotDims sl sr so)

theorem sum_axis {a : Fin sl.rank} (hc : d.lhsContracting = [a]) {K : Nat} (hK : sl.size a = K) (x : sl.Idx → EReal) (w : sr.Idx → EReal) (j : so.Idx)
    (A : Fin K → sl.Idx) (B : Fin K → sr.Idx) (hA : ∀ k, d.lhsIdx j (d.contrIdx₁ hc hK k) = A k) (hB : ∀ k, d.rhsIdx j (d.contrIdx₁ hc hK k) = B k) :
    ∑ k : d.contr.Idx, x (d.lhsIdx j k) * w (d.rhsIdx j k) = ∑ k : Fin K, x (A k) * w (B k) :=
  (d.sum_contr₁ hc hK fun k => x (d.lhsIdx j k) * w (d.rhsIdx j k)).trans (Finset.sum_congr rfl fun k _ => by rw [hA, hB])

end Products

/-- The reference's product at an index. -/
theorem dot_at (x : FVec Ideal S8192x8192 .f32) (w : FVec Ideal S8192x4096 .f32) (i : Fin 8192) (j : Fin 4096) :
    Host.dotGeneral (F := Ideal) (φ₁ := .f32) (φ₂ := .f32) dot_S8192x8192_S8192x4096_S8192x4096_1_0_0_1_n_n none x w (ix2 i j)
      = ∑ k : Fin 8192, (x (ix2 i k) : EReal) * w (ix2 k j) := by
  refine (Ideal.dotGeneral_apply _ none _ x w (ix2 i j)).trans ?_
  refine sum_axis _ rfl (K := 8192) rfl x w (ix2 i j) (fun k => ix2 i k) (fun k => ix2 k j) (fun k => ?_) (fun k => ?_)
  · funext a; fin_cases a <;> rfl
  · funext a; fin_cases a <;> rfl

/-- The activation of one number. -/
def gelu (y : EReal) : EReal :=
  Ideal.ofBits .f32 0x3F000000#32 * y
    * (Ideal.ofBits .f32 0x3F800000#32
      + Ideal.tanh (Ideal.ofBits .f32 0x3F4C422A#32 * (y + Ideal.ofBits .f32 0x3D372713#32 * y * y * y)))

/-! ## The reference's result -/

abbrev XShape : Shape := S8192x8192
abbrev WShape : Shape := S8192x4096

/-- The reference's result on two arrays. -/
def refOut (X : Vec Ideal XShape .f32) (W : Vec Ideal WShape .f32) : Vec Ideal WShape .f32 := fun i =>
  gelu (∑ k : Fin 8192, (X (ix2 (i 0) k) : EReal) * W (ix2 k (i 1)))

/-! ## The reference's program -/

/-- The reference's operations, put together, are `refOut`. -/
theorem reference_value (X : FVec Ideal XShape .f32) (W : FVec Ideal WShape .f32) :
    mulf (mulf (broadcastInDim S8192x4096 ![] bcast_S_S8192x4096 (constant S_ .f32 0x3F000000#32)) (Host.dotGeneral dot_S8192x8192_S8192x4096_S8192x4096_1_0_0_1_n_n none X W)) (addf (broadcastInDim S8192x4096 ![] bcast_S_S8192x4096 (constant S_ .f32 0x3F800000#32)) (Host.tanh (mulf (broadcastInDim S8192x4096 ![] bcast_S_S8192x4096 (constant S_ .f32 0x3F4C422A#32)) (addf (Host.dotGeneral dot_S8192x8192_S8192x4096_S8192x4096_1_0_0_1_n_n none X W) (mulf (broadcastInDim S8192x4096 ![] bcast_S_S8192x4096 (constant S_ .f32 0x3D372713#32)) (mulf (mulf (Host.dotGeneral dot_S8192x8192_S8192x4096_S8192x4096_1_0_0_1_n_n none X W) (Host.dotGeneral dot_S8192x8192_S8192x4096_S8192x4096_1_0_0_1_n_n none X W)) (Host.dotGeneral dot_S8192x8192_S8192x4096_S8192x4096_1_0_0_1_n_n none X W)))))))
      = refOut X W := by
  have h : ∀ Y : FVec Ideal S8192x4096 .f32, (∀ i, Y i = ∑ k : Fin 8192, (X (ix2 (i 0) k) : EReal) * W (ix2 k (i 1))) →
      mulf (mulf (broadcastInDim S8192x4096 ![] bcast_S_S8192x4096 (constant S_ .f32 0x3F000000#32)) Y) (addf (broadcastInDim S8192x4096 ![] bcast_S_S8192x4096 (constant S_ .f32 0x3F800000#32)) (Host.tanh (mulf (broadcastInDim S8192x4096 ![] bcast_S_S8192x4096 (constant S_ .f32 0x3F4C422A#32)) (addf Y (mulf (broadcastInDim S8192x4096 ![] bcast_S_S8192x4096 (constant S_ .f32 0x3D372713#32)) (mulf (mulf Y Y) Y))))))
        = refOut X W := by
    intro Y hY
    funext i
    unfold refOut
    rw [← hY i]
    unfold gelu
    rw [mul_assoc (Ideal.ofBits .f32 0x3D372713#32) (Y i) (Y i), mul_assoc (Ideal.ofBits .f32 0x3D372713#32) ((Y i : EReal) * Y i) (Y i)]
    rfl
  exact h _ fun i => (congrArg (Host.dotGeneral (F := Ideal) (φ₁ := .f32) (φ₂ := .f32) dot_S8192x8192_S8192x4096_S8192x4096_1_0_0_1_n_n none X W) (eq_ix2 i)).trans (dot_at X W (i 0) (i 1))

end Cert.Whole

end
-- ==== Proof.KIValue.lean ====
/-
# The value of the result

At the ideal values: what the ring sums up for a block of rows and a ring's columns is the whole product's block, the thirty-two
partial products being the pieces of one long sum; and the activation is the reference's. So `Gout` of the devices' blocks of two
arrays is the reference's result on the two arrays.
-/
module

public import proofs.«01_k».proof.Proof.KILaunch
public import proofs.«01_k».proof.Proof.Ref
public import Idealize.ShloMosaic.Lib.Layout

@[expose] public section

noncomputable section

namespace Cert.KernelIdeal.Ring

open Cert.KernelIdeal Cert.KernelIdeal.Gen Cert.Ring
open Cert.Whole (XShape WShape gelu refOut sum_axis)
open Idealize.ShloMosaic Idealize.ShloMosaic.TcCoe

/-- A device's partial product at an index. -/
theorem pay2_at (x : Vec Ideal S256x256 .f32) (w : Vec Ideal S256x1024 .f32) (i : Fin 256) (j : Fin 1024) :
    k0_pay2 (F := Ideal) x w (ix2 i j) = ∑ k : Fin 256, (x (ix2 i k) : EReal) * w (ix2 k j) := by
  unfold k0_pay2
  rw [shapeCast_self, shapeCast_self, shapeCast_self]
  refine (Ideal.matmul_constant_zero_apply _ none x w (ix2 i j)).trans ?_
  refine sum_axis _ rfl (K := 256) rfl x w (ix2 i j) (fun k => ix2 i k) (fun k => ix2 k j) (fun k => ?_) (fun k => ?_)
  · funext a; fin_cases a <;> rfl
  · funext a; fin_cases a <;> rfl

/-! ## The ring's sum -/

section Sum

variable (xs : Dev nD → Vec Ideal S8192x256 .f32) (ws : Dev nD → Vec Ideal S256x4096 .f32)

/-- The message that a device receives in step `s` is the sum of its block's partial products over the devices passed. -/
theorem M_sum (r : Fin 4) (i : S256x1024.Idx) : ∀ (s : ℕ) (hs : s ≤ 30) (c : D32),
    M xs ws r s (ups r c) i = ∑ n ∈ Finset.range (s + 1), (P xs ws r (row r s c) ((ups r)^[n + 1] c) i : EReal) := by
  intro s
  induction s with
  | zero =>
    intro _ c
    rw [Finset.sum_range_one, M_zero, row_zero]; rfl
  | succ s ih =>
    intro hs c
    have hr : row r s (ups r c) = row r (s + 1) c := row_ups r ⟨s, by omega⟩ c
    rw [M_lt xs ws r s (by omega), Finset.sum_range_succ', hr]
    show (M xs ws r s (ups r (ups r c)) i : EReal) + P xs ws r (row r (s + 1) c) (ups r c) i = _
    rw [ih (by omega) (ups r c), hr]
    rfl

/-- What a device holds before the activation: the sum over all devices. -/
theorem M_full (r : Fin 4) (b : D32) (i : S256x1024.Idx) :
    (M xs ws r 30 (ups r (fin r b)) i : EReal) + P xs ws r b (fin r b) i = ∑ d : D32, (P xs ws r b d i : EReal) := by
  have hb : Function.Bijective fun n : Fin 32 => (ups r)^[n.val] (fin r b) := Finite.injective_iff_bijective.mp (upsN_inj r (fin r b))
  rw [M_sum xs ws r i 30 (Nat.le_refl _) (fin r b), fin_row, ← hb.sum_comp fun d => (P xs ws r b d i : EReal)]
  exact (Finset.sum_range_succ' (fun n => (P xs ws r b ((ups r)^[n] (fin r b)) i : EReal)) 31).symm.trans
    (Finset.sum_range fun n => (P xs ws r b ((ups r)^[n] (fin r b)) i : EReal))

end Sum

/-! ## The activation -/

theorem act_at (y : Vec Ideal S256x1024 .f32) (i : S256x1024.Idx) : act (F := Ideal) y i = gelu (y i) := rfl

/-! ## The pieces of the long sum -/

theorem long_sum (f : Fin 8192 → EReal) (g : Fin 32 → Fin 256 → EReal) (h : ∀ d k, ∀ n : Fin 8192, n.val = 256 * d.val + k.val → g d k = f n) :
    ∑ d : Fin 32, ∑ k : Fin 256, g d k = ∑ n : Fin 8192, f n := by
  rw [← Fintype.sum_prod_type']
  refine Fintype.sum_equiv (finProdFinEquiv (m := 32) (n := 256)) _ _ fun x => h _ _ _ ?_
  show x.2.val + 256 * x.1.val = _
  omega

section Value

variable (X : Vec Ideal XShape .f32) (W : Vec Ideal WShape .f32)
variable (xs : Dev nD → Vec Ideal S8192x256 .f32) (ws : Dev nD → Vec Ideal S256x4096 .f32)
variable {tx : Layout.Tiles ⟨2, ![8192, 256]⟩ ⟨2, ![8192, 8192]⟩ 1 32} {tw : Layout.Tiles ⟨2, ![256, 4096]⟩ ⟨2, ![8192, 4096]⟩ 0 32}
variable (hx : ∀ c, xs c = Layout.block ⟨2, ![8192, 256]⟩ ⟨2, ![8192, 8192]⟩ 1 32 c X tx)
variable (hw : ∀ c, ws c = Layout.block ⟨2, ![256, 4096]⟩ ⟨2, ![8192, 4096]⟩ 0 32 c W tw)

include hx in
theorem xBlk_at (b d : D32) (i k : Fin 256) (n k' : Fin 8192) (hn : n.val = 256 * b.val + i.val) (hk : k'.val = 256 * d.val + k.val) :
    xBlk b (xs d) (ix2 i k) = X (ix2 n k') := by
  rw [hx d]
  refine congrArg X (funext fun a => Fin.ext ?_)
  fin_cases a
  · show 256 * b.val + 1 * i.val = n.val
    omega
  · show d.val * 256 + (0 + 1 * k.val) = k'.val
    omega

include hw in
theorem wBlk_at (r : Fin 4) (d : D32) (k : Fin 256) (j : Fin 1024) (k' : Fin 8192) (n : Fin 4096) (hn : n.val = 1024 * r.val + j.val) (hk : k'.val = 256 * d.val + k.val) :
    wBlk r (ws d) (ix2 k j) = W (ix2 k' n) := by
  rw [hw d]
  refine congrArg W (funext fun a => Fin.ext ?_)
  fin_cases a
  · show d.val * 256 + (0 + 1 * k.val) = k'.val
    omega
  · show 1024 * r.val + 1 * j.val = n.val
    omega

include hx hw in
/-- The sum over all devices is the whole product. -/
theorem P_sum (r : Fin 4) (b : D32) (i : Fin 256) (j : Fin 1024) (n : Fin 8192) (p : Fin 4096) (hn : n.val = 256 * b.val + i.val) (hp : p.val = 1024 * r.val + j.val) :
    ∑ d : D32, (P xs ws r b d (ix2 i j) : EReal) = ∑ k : Fin 8192, (X (ix2 n k) : EReal) * W (ix2 k p) := by
  refine (Finset.sum_congr rfl fun d _ => pay2_at (xBlk b (xs d)) (wBlk r (ws d)) i j).trans (long_sum _ _ fun d k k' hk => ?_)
  rw [xBlk_at X xs hx b d i k n k' hn hk, wBlk_at W ws hw r d k j k' p hp hk]

include hx hw in
/-- What every device holds at the end is the reference's result. -/
theorem value : Gout xs ws = refOut X W := by
  funext i
  have h0 : (i 0).val < 8192 := (i 0).isLt
  have h1 : (i 1).val < 4096 := (i 1).isLt
  have key : ∀ (r : Fin 4) (b : D32) (a : Fin 256) (c : Fin 1024), (i 0).val = 256 * b.val + a.val → (i 1).val = 1024 * r.val + c.val →
      M xs ws r (30 + 1) (fin r b) (ix2 a c) = refOut X W i := by
    intro r b a c ha hc
    rw [M_mid, fin_row, act_at]
    refine congrArg gelu (?_ : (M xs ws r 30 (ups r (fin r b)) (ix2 a c) : EReal) + P xs ws r b (fin r b) (ix2 a c) = _)
    exact (M_full xs ws r b (ix2 a c)).trans (P_sum X W xs ws hx hw r b a c (i 0) (i 1) ha hc)
  unfold Gout
  refine Eq.trans (congrArg (M xs ws _ (30 + 1) _) (funext fun a => ?_)) (key ⟨(i 1).val / 1024, by omega⟩ ⟨(i 0).val / 256, by omega⟩
    ⟨(i 0).val % 256, by omega⟩ ⟨(i 1).val % 1024, by omega⟩ (by show (i 0).val = 256 * ((i 0).val / 256) + (i 0).val % 256; omega)
    (by show (i 1).val = 1024 * ((i 1).val / 1024) + (i 1).val % 1024; omega))
  fin_cases a <;> rfl

end Value

/-! ## The arguments as fetched -/

theorem xIn_eq (m : (ℓ : Loc nD τ sig) → Buf (Elt Ideal) ℓ) (c : Dev nD) : xIn m c = m ((c : Thread nD τ).loc main_arg0) := by
  unfold xIn
  refine funext fun i => congrArg (m ((c : Thread nD τ).loc main_arg0)) (funext fun a => Fin.ext ?_)
  show 0 * _ + 1 * (i a).val = (i a).val
  omega

theorem wIn_eq (m : (ℓ : Loc nD τ sig) → Buf (Elt Ideal) ℓ) (c : Dev nD) : wIn m c = m ((c : Thread nD τ).loc main_arg1) := by
  unfold wIn
  refine funext fun i => congrArg (m ((c : Thread nD τ).loc main_arg1)) (funext fun a => Fin.ext ?_)
  show 0 * _ + 1 * (i a).val = (i a).val
  omega

end Cert.KernelIdeal.Ring

end
-- ==== Proof.lean ====
/-
# The claims

Each is read off a run proved elsewhere: the kernel's on the mesh (`Ring.run_main`, generic in the float values, once for the
kernel as written and once for its ideal reading) and the reference's on one device.
-/
module

public import proofs.«01_k».proof.Defs
public import proofs.«01_k».proof.Proof.KLaunch
public import proofs.«01_k».proof.Proof.KIValue
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

theorem frame_kernel : Cert.quiescent_Kernel (hKernel := Cert.Kernel.Gen.facts) := fun m g _ =>
  (θ_run Cert.Kernel.defs _ _).mono (fun _ h => ⟨fun c => ⟨(h.1 c).1, (h.1 c).2.1⟩, h.2⟩) (Cert.Kernel.Ring.run_main (F := Bits) m g)

theorem frame_ideal : Cert.quiescent_KernelIdeal (hKernelIdeal := Cert.KernelIdeal.Gen.facts) := fun m g _ =>
  (θ_run Cert.KernelIdeal.defs _ _).mono (fun _ h => ⟨fun c => ⟨(h.1 c).1, (h.1 c).2.1⟩, h.2⟩) (Cert.KernelIdeal.Ring.run_main (F := Ideal) m g)

theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

theorem algebraic : Cert.algebraic_KernelIdeal_ReferenceIdeal (hKernelIdeal := Cert.KernelIdeal.Gen.facts) (hReferenceIdeal := Cert.ReferenceIdeal.Gen.facts) := by
  intro m g m' g' _ hm
  refine ⟨Cert.Whole.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).2.2.trans ?_, (h.1 c).1, (h.1 c).2.1⟩) (Cert.KernelIdeal.Ring.run_main (F := Ideal) m g)
    exact Cert.KernelIdeal.Ring.value _ _ _ _ (fun c => (Cert.KernelIdeal.Ring.xIn_eq m c).trans (hm c).1) (fun c => (Cert.KernelIdeal.Ring.wIn_eq m c).trans (hm c).2)
  · exact (θ_run Cert.ReferenceIdeal.defs _ _).mono (fun r h => ⟨(h 0).1.trans (Cert.Whole.reference_value _ _), (h 0).2.1, (h 0).2.2⟩)
      (Cert.ReferenceIdeal.Value.run (F := Ideal) m' g')

theorem claim : Cert.Claim :=
  ⟨Cert.Kernel.Gen.facts, Cert.KernelIdeal.Gen.facts, Cert.ReferenceIdeal.Gen.facts, frame_kernel, frame_ideal, frame_reference, trivial, algebraic⟩

end Cert.Proof

end
